-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_nonneg [hPre_gate_nonneg : Cert.Pre_gate_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_gate_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_nonneg [hPre_gate_nonneg : Cert.Pre_gate_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormPlainIdeal (m : (ℓ : Loc Cert.NormPlainIdeal.nD Cert.NormPlainIdeal.τ Cert.NormPlainIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesPlainIdeal (m : (ℓ : Loc Cert.GatesPlainIdeal.nD Cert.GatesPlainIdeal.τ Cert.GatesPlainIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjPlainIdeal (m : (ℓ : Loc Cert.ProjPlainIdeal.nD Cert.ProjPlainIdeal.τ Cert.ProjPlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gate_nonneg [hKernelIdeal : Cert.KernelIdeal.Facts] [hPre_gate_nonneg : Cert.Pre_gate_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gate_nonneg [hReferenceIdeal : Cert.ReferenceIdeal.Facts] [hPre_gate_nonneg : Cert.Pre_gate_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormPlainIdeal [hNormPlainIdeal : Cert.NormPlainIdeal.Facts] : Prop :=
  ∀ (m : (ℓ : Loc Cert.NormPlainIdeal.nD Cert.NormPlainIdeal.τ Cert.NormPlainIdeal.sig) → Buf (Elt Ideal) ℓ) (g : Dev Cert.NormPlainIdeal.nD → PrngReg), Pre_NormPlainIdeal m →
    θ_run (Cert.NormPlainIdeal.defs (F := Ideal)) (onTc (τ := Cert.NormPlainIdeal.τ) (Cert.NormPlainIdeal.main (F := Ideal))) ⟨m, fun _ => 0, g⟩ (fun r => (∀ c : Dev Cert.NormPlainIdeal.nD,
      r.2.mem ((c.tc : Thread Cert.NormPlainIdeal.nD Cert.NormPlainIdeal.τ).loc Cert.NormPlainIdeal.main_arg0) = m ((c.tc : Thread Cert.NormPlainIdeal.nD Cert.NormPlainIdeal.τ).loc Cert.NormPlainIdeal.main_arg0)
      ∧ r.2.mem ((c.tc : Thread Cert.NormPlainIdeal.nD Cert.NormPlainIdeal.τ).loc Cert.NormPlainIdeal.main_arg1) = m ((c.tc : Thread Cert.NormPlainIdeal.nD Cert.NormPlainIdeal.τ).loc Cert.NormPlainIdeal.main_arg1)
      ∧ r.2.mem ((c.tc : Thread Cert.NormPlainIdeal.nD Cert.NormPlainIdeal.τ).loc Cert.NormPlainIdeal.main_arg2) = m ((c.tc : Thread Cert.NormPlainIdeal.nD Cert.NormPlainIdeal.τ).loc Cert.NormPlainIdeal.main_arg2)
      ∧ r.2.mem ((c.tc : Thread Cert.NormPlainIdeal.nD Cert.NormPlainIdeal.τ).loc Cert.NormPlainIdeal.main_arg3) = m ((c.tc : Thread Cert.NormPlainIdeal.nD Cert.NormPlainIdeal.τ).loc Cert.NormPlainIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesPlainIdeal [hGatesPlainIdeal : Cert.GatesPlainIdeal.Facts] : Prop :=
  ∀ (m : (ℓ : Loc Cert.GatesPlainIdeal.nD Cert.GatesPlainIdeal.τ Cert.GatesPlainIdeal.sig) → Buf (Elt Ideal) ℓ) (g : Dev Cert.GatesPlainIdeal.nD → PrngReg), Pre_GatesPlainIdeal m →
    θ_run (Cert.GatesPlainIdeal.defs (F := Ideal)) (onTc (τ := Cert.GatesPlainIdeal.τ) (Cert.GatesPlainIdeal.main (F := Ideal))) ⟨m, fun _ => 0, g⟩ (fun r => (∀ c : Dev Cert.GatesPlainIdeal.nD,
      r.2.mem ((c.tc : Thread Cert.GatesPlainIdeal.nD Cert.GatesPlainIdeal.τ).loc Cert.GatesPlainIdeal.main_arg0) = m ((c.tc : Thread Cert.GatesPlainIdeal.nD Cert.GatesPlainIdeal.τ).loc Cert.GatesPlainIdeal.main_arg0)
      ∧ r.2.mem ((c.tc : Thread Cert.GatesPlainIdeal.nD Cert.GatesPlainIdeal.τ).loc Cert.GatesPlainIdeal.main_arg1) = m ((c.tc : Thread Cert.GatesPlainIdeal.nD Cert.GatesPlainIdeal.τ).loc Cert.GatesPlainIdeal.main_arg1)
      ∧ r.2.mem ((c.tc : Thread Cert.GatesPlainIdeal.nD Cert.GatesPlainIdeal.τ).loc Cert.GatesPlainIdeal.main_arg2) = m ((c.tc : Thread Cert.GatesPlainIdeal.nD Cert.GatesPlainIdeal.τ).loc Cert.GatesPlainIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjPlainIdeal [hProjPlainIdeal : Cert.ProjPlainIdeal.Facts] : Prop :=
  ∀ (m : (ℓ : Loc Cert.ProjPlainIdeal.nD Cert.ProjPlainIdeal.τ Cert.ProjPlainIdeal.sig) → Buf (Elt Ideal) ℓ) (g : Dev Cert.ProjPlainIdeal.nD → PrngReg), Pre_ProjPlainIdeal m →
    θ_run (Cert.ProjPlainIdeal.defs (F := Ideal)) (onTc (τ := Cert.ProjPlainIdeal.τ) (Cert.ProjPlainIdeal.main (F := Ideal))) ⟨m, fun _ => 0, g⟩ (fun r => (∀ c : Dev Cert.ProjPlainIdeal.nD,
      r.2.mem ((c.tc : Thread Cert.ProjPlainIdeal.nD Cert.ProjPlainIdeal.τ).loc Cert.ProjPlainIdeal.main_arg0) = m ((c.tc : Thread Cert.ProjPlainIdeal.nD Cert.ProjPlainIdeal.τ).loc Cert.ProjPlainIdeal.main_arg0)
      ∧ r.2.mem ((c.tc : Thread Cert.ProjPlainIdeal.nD Cert.ProjPlainIdeal.τ).loc Cert.ProjPlainIdeal.main_arg1) = m ((c.tc : Thread Cert.ProjPlainIdeal.nD Cert.ProjPlainIdeal.τ).loc Cert.ProjPlainIdeal.main_arg1)
      ∧ r.2.mem ((c.tc : Thread Cert.ProjPlainIdeal.nD Cert.ProjPlainIdeal.τ).loc Cert.ProjPlainIdeal.main_arg2) = m ((c.tc : Thread Cert.ProjPlainIdeal.nD Cert.ProjPlainIdeal.τ).loc Cert.ProjPlainIdeal.main_arg2)
      ∧ r.2.mem ((c.tc : Thread Cert.ProjPlainIdeal.nD Cert.ProjPlainIdeal.τ).loc Cert.ProjPlainIdeal.main_arg3) = m ((c.tc : Thread Cert.ProjPlainIdeal.nD Cert.ProjPlainIdeal.τ).loc Cert.ProjPlainIdeal.main_arg3))
      ∧ r.2.sem = fun _ => 0)

def preserves_Kernel_KernelIdeal : Prop :=
  True

def algebraic_KernelIdeal_ReferenceIdeal_pre_gate_nonneg [hKernelIdeal : Cert.KernelIdeal.Facts] [hReferenceIdeal : Cert.ReferenceIdeal.Facts] [hPre_gate_nonneg : Cert.Pre_gate_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Norm_NormIdeal : Prop :=
  True

def algebraic_NormIdeal_NormPlainIdeal [hNormIdeal : Cert.NormIdeal.Facts] [hNormPlainIdeal : Cert.NormPlainIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormPlainIdeal.nD Cert.NormPlainIdeal.τ Cert.NormPlainIdeal.sig) → Buf (Elt Ideal) ℓ) (g' : Dev Cert.NormPlainIdeal.nD → PrngReg), Pre_NormIdeal m →
    (∀ c : Dev Cert.NormIdeal.nD,
      m' ((c.tc : Thread Cert.NormPlainIdeal.nD Cert.NormPlainIdeal.τ).loc Cert.NormPlainIdeal.main_arg0) = m ((c.tc : Thread Cert.NormIdeal.nD Cert.NormIdeal.τ).loc Cert.NormIdeal.main_arg0)
      ∧ m' ((c.tc : Thread Cert.NormPlainIdeal.nD Cert.NormPlainIdeal.τ).loc Cert.NormPlainIdeal.main_arg1) = m ((c.tc : Thread Cert.NormIdeal.nD Cert.NormIdeal.τ).loc Cert.NormIdeal.main_arg1)
      ∧ m' ((c.tc : Thread Cert.NormPlainIdeal.nD Cert.NormPlainIdeal.τ).loc Cert.NormPlainIdeal.main_arg2) = m ((c.tc : Thread Cert.NormIdeal.nD Cert.NormIdeal.τ).loc Cert.NormIdeal.main_arg2)
      ∧ m' ((c.tc : Thread Cert.NormPlainIdeal.nD Cert.NormPlainIdeal.τ).loc Cert.NormPlainIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormPlainIdeal.defs (F := Ideal)) (onTc (τ := Cert.NormPlainIdeal.τ) (Cert.NormPlainIdeal.main (F := Ideal))) ⟨m', fun _ => 0, g'⟩ (fun r => ∀ c : Dev Cert.NormPlainIdeal.nD,
          r.2.mem ((c.tc : Thread Cert.NormPlainIdeal.nD Cert.NormPlainIdeal.τ).loc Cert.NormPlainIdeal.main_v27) = v0 c
          ∧ r.2.mem ((c.tc : Thread Cert.NormPlainIdeal.nD Cert.NormPlainIdeal.τ).loc Cert.NormPlainIdeal.main_arg0) = m' ((c.tc : Thread Cert.NormPlainIdeal.nD Cert.NormPlainIdeal.τ).loc Cert.NormPlainIdeal.main_arg0)
          ∧ r.2.mem ((c.tc : Thread Cert.NormPlainIdeal.nD Cert.NormPlainIdeal.τ).loc Cert.NormPlainIdeal.main_arg1) = m' ((c.tc : Thread Cert.NormPlainIdeal.nD Cert.NormPlainIdeal.τ).loc Cert.NormPlainIdeal.main_arg1)
          ∧ r.2.mem ((c.tc : Thread Cert.NormPlainIdeal.nD Cert.NormPlainIdeal.τ).loc Cert.NormPlainIdeal.main_arg2) = m' ((c.tc : Thread Cert.NormPlainIdeal.nD Cert.NormPlainIdeal.τ).loc Cert.NormPlainIdeal.main_arg2)
          ∧ r.2.mem ((c.tc : Thread Cert.NormPlainIdeal.nD Cert.NormPlainIdeal.τ).loc Cert.NormPlainIdeal.main_arg3) = m' ((c.tc : Thread Cert.NormPlainIdeal.nD Cert.NormPlainIdeal.τ).loc Cert.NormPlainIdeal.main_arg3))

def preserves_Gates_GatesIdeal : Prop :=
  True

def algebraic_GatesIdeal_GatesPlainIdeal [hGatesIdeal : Cert.GatesIdeal.Facts] [hGatesPlainIdeal : Cert.GatesPlainIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesPlainIdeal.nD Cert.GatesPlainIdeal.τ Cert.GatesPlainIdeal.sig) → Buf (Elt Ideal) ℓ) (g' : Dev Cert.GatesPlainIdeal.nD → PrngReg), Pre_GatesIdeal m →
    (∀ c : Dev Cert.GatesIdeal.nD,
      m' ((c.tc : Thread Cert.GatesPlainIdeal.nD Cert.GatesPlainIdeal.τ).loc Cert.GatesPlainIdeal.main_arg0) = m ((c.tc : Thread Cert.GatesIdeal.nD Cert.GatesIdeal.τ).loc Cert.GatesIdeal.main_arg0)
      ∧ m' ((c.tc : Thread Cert.GatesPlainIdeal.nD Cert.GatesPlainIdeal.τ).loc Cert.GatesPlainIdeal.main_arg1) = m ((c.tc : Thread Cert.GatesIdeal.nD Cert.GatesIdeal.τ).loc Cert.GatesIdeal.main_arg1)
      ∧ m' ((c.tc : Thread Cert.GatesPlainIdeal.nD Cert.GatesPlainIdeal.τ).loc Cert.GatesPlainIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v5) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesPlainIdeal.defs (F := Ideal)) (onTc (τ := Cert.GatesPlainIdeal.τ) (Cert.GatesPlainIdeal.main (F := Ideal))) ⟨m', fun _ => 0, g'⟩ (fun r => ∀ c : Dev Cert.GatesPlainIdeal.nD,
          r.2.mem ((c.tc : Thread Cert.GatesPlainIdeal.nD Cert.GatesPlainIdeal.τ).loc Cert.GatesPlainIdeal.main_v10) = v0 c
          ∧ r.2.mem ((c.tc : Thread Cert.GatesPlainIdeal.nD Cert.GatesPlainIdeal.τ).loc Cert.GatesPlainIdeal.main_arg0) = m' ((c.tc : Thread Cert.GatesPlainIdeal.nD Cert.GatesPlainIdeal.τ).loc Cert.GatesPlainIdeal.main_arg0)
          ∧ r.2.mem ((c.tc : Thread Cert.GatesPlainIdeal.nD Cert.GatesPlainIdeal.τ).loc Cert.GatesPlainIdeal.main_arg1) = m' ((c.tc : Thread Cert.GatesPlainIdeal.nD Cert.GatesPlainIdeal.τ).loc Cert.GatesPlainIdeal.main_arg1)
          ∧ r.2.mem ((c.tc : Thread Cert.GatesPlainIdeal.nD Cert.GatesPlainIdeal.τ).loc Cert.GatesPlainIdeal.main_arg2) = m' ((c.tc : Thread Cert.GatesPlainIdeal.nD Cert.GatesPlainIdeal.τ).loc Cert.GatesPlainIdeal.main_arg2))

def preserves_Proj_ProjIdeal : Prop :=
  True

def algebraic_ProjIdeal_ProjPlainIdeal [hProjIdeal : Cert.ProjIdeal.Facts] [hProjPlainIdeal : Cert.ProjPlainIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjPlainIdeal.nD Cert.ProjPlainIdeal.τ Cert.ProjPlainIdeal.sig) → Buf (Elt Ideal) ℓ) (g' : Dev Cert.ProjPlainIdeal.nD → PrngReg), Pre_ProjIdeal m →
    (∀ c : Dev Cert.ProjIdeal.nD,
      m' ((c.tc : Thread Cert.ProjPlainIdeal.nD Cert.ProjPlainIdeal.τ).loc Cert.ProjPlainIdeal.main_arg0) = m ((c.tc : Thread Cert.ProjIdeal.nD Cert.ProjIdeal.τ).loc Cert.ProjIdeal.main_arg0)
      ∧ m' ((c.tc : Thread Cert.ProjPlainIdeal.nD Cert.ProjPlainIdeal.τ).loc Cert.ProjPlainIdeal.main_arg1) = m ((c.tc : Thread Cert.ProjIdeal.nD Cert.ProjIdeal.τ).loc Cert.ProjIdeal.main_arg1)
      ∧ m' ((c.tc : Thread Cert.ProjPlainIdeal.nD Cert.ProjPlainIdeal.τ).loc Cert.ProjPlainIdeal.main_arg2) = m ((c.tc : Thread Cert.ProjIdeal.nD Cert.ProjIdeal.τ).loc Cert.ProjIdeal.main_arg2)
      ∧ m' ((c.tc : Thread Cert.ProjPlainIdeal.nD Cert.ProjPlainIdeal.τ).loc Cert.ProjPlainIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v66_0)) (v1 : (c : Dev Cert.ProjIdeal.nD) → Buf (Elt Ideal) ((c.tc : Thread Cert.ProjIdeal.nD Cert.ProjIdeal.τ).loc Cert.ProjIdeal.main_v66_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v66_0) = v0 c
          ∧ r.2.mem ((c.tc : Thread Cert.ProjIdeal.nD Cert.ProjIdeal.τ).loc Cert.ProjIdeal.main_v66_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjPlainIdeal.defs (F := Ideal)) (onTc (τ := Cert.ProjPlainIdeal.τ) (Cert.ProjPlainIdeal.main (F := Ideal))) ⟨m', fun _ => 0, g'⟩ (fun r => ∀ c : Dev Cert.ProjPlainIdeal.nD,
          r.2.mem ((c.tc : Thread Cert.ProjPlainIdeal.nD Cert.ProjPlainIdeal.τ).loc Cert.ProjPlainIdeal.main_v208) = v0 c
          ∧ r.2.mem ((c.tc : Thread Cert.ProjPlainIdeal.nD Cert.ProjPlainIdeal.τ).loc Cert.ProjPlainIdeal.main_v209) = v1 c
          ∧ r.2.mem ((c.tc : Thread Cert.ProjPlainIdeal.nD Cert.ProjPlainIdeal.τ).loc Cert.ProjPlainIdeal.main_arg0) = m' ((c.tc : Thread Cert.ProjPlainIdeal.nD Cert.ProjPlainIdeal.τ).loc Cert.ProjPlainIdeal.main_arg0)
          ∧ r.2.mem ((c.tc : Thread Cert.ProjPlainIdeal.nD Cert.ProjPlainIdeal.τ).loc Cert.ProjPlainIdeal.main_arg1) = m' ((c.tc : Thread Cert.ProjPlainIdeal.nD Cert.ProjPlainIdeal.τ).loc Cert.ProjPlainIdeal.main_arg1)
          ∧ r.2.mem ((c.tc : Thread Cert.ProjPlainIdeal.nD Cert.ProjPlainIdeal.τ).loc Cert.ProjPlainIdeal.main_arg2) = m' ((c.tc : Thread Cert.ProjPlainIdeal.nD Cert.ProjPlainIdeal.τ).loc Cert.ProjPlainIdeal.main_arg2)
          ∧ r.2.mem ((c.tc : Thread Cert.ProjPlainIdeal.nD Cert.ProjPlainIdeal.τ).loc Cert.ProjPlainIdeal.main_arg3) = m' ((c.tc : Thread Cert.ProjPlainIdeal.nD Cert.ProjPlainIdeal.τ).loc Cert.ProjPlainIdeal.main_arg3))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormPlainIdeal : Cert.NormPlainIdeal.Facts) (hGates : Cert.Gates.Facts) (hGatesIdeal : Cert.GatesIdeal.Facts) (hGatesPlainIdeal : Cert.GatesPlainIdeal.Facts) (hProj : Cert.Proj.Facts) (hProjIdeal : Cert.ProjIdeal.Facts) (hProjPlainIdeal : Cert.ProjPlainIdeal.Facts) (hPre_gate_nonneg : Cert.Pre_gate_nonneg.Facts),
    quiescent_Kernel (hKernel := hKernel)
    ∧ quiescent_KernelIdeal (hKernelIdeal := hKernelIdeal)
    ∧ quiescent_KernelIdeal_pre_gate_nonneg (hKernelIdeal := hKernelIdeal) (hPre_gate_nonneg := hPre_gate_nonneg)
    ∧ quiescent_ReferenceIdeal (hReferenceIdeal := hReferenceIdeal)
    ∧ quiescent_ReferenceIdeal_pre_gate_nonneg (hReferenceIdeal := hReferenceIdeal) (hPre_gate_nonneg := hPre_gate_nonneg)
    ∧ quiescent_Norm (hNorm := hNorm)
    ∧ quiescent_NormIdeal (hNormIdeal := hNormIdeal)
    ∧ quiescent_NormPlainIdeal (hNormPlainIdeal := hNormPlainIdeal)
    ∧ quiescent_Gates (hGates := hGates)
    ∧ quiescent_GatesIdeal (hGatesIdeal := hGatesIdeal)
    ∧ quiescent_GatesPlainIdeal (hGatesPlainIdeal := hGatesPlainIdeal)
    ∧ quiescent_Proj (hProj := hProj)
    ∧ quiescent_ProjIdeal (hProjIdeal := hProjIdeal)
    ∧ quiescent_ProjPlainIdeal (hProjPlainIdeal := hProjPlainIdeal)
    ∧ preserves_Kernel_KernelIdeal
    ∧ algebraic_KernelIdeal_ReferenceIdeal_pre_gate_nonneg (hKernelIdeal := hKernelIdeal) (hReferenceIdeal := hReferenceIdeal) (hPre_gate_nonneg := hPre_gate_nonneg)
    ∧ preserves_Norm_NormIdeal
    ∧ algebraic_NormIdeal_NormPlainIdeal (hNormIdeal := hNormIdeal) (hNormPlainIdeal := hNormPlainIdeal)
    ∧ preserves_Gates_GatesIdeal
    ∧ algebraic_GatesIdeal_GatesPlainIdeal (hGatesIdeal := hGatesIdeal) (hGatesPlainIdeal := hGatesPlainIdeal)
    ∧ preserves_Proj_ProjIdeal
    ∧ algebraic_ProjIdeal_ProjPlainIdeal (hProjIdeal := hProjIdeal) (hProjPlainIdeal := hProjPlainIdeal)
-- ==== Pre_gate_nonneg.lean ====
abbrev S17664x1024 : Shape := ⟨2, ![17664, 1024]⟩
abbrev S17664x32 : Shape := ⟨2, ![17664, 32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S17664x32 : S_.BroadcastsInDim S17664x32 (![] : Fin 0 → Fin S17664x32.rank)

variable [Facts]

def fn {F : FTy → Type} [FloatOps F] (main_arg0 : FVec F S17664x1024 .f32) (main_arg1 : FVec F S17664x32 .f32) (main_arg2 : FVec F S32x1024x2048 .f32) (main_arg3 : FVec F S32x2048 .f32) (main_arg4 : FVec F S32x1024x1024 .f32) (main_arg5 : FVec F S32x1024 .f32) : IVec S17664x32 1 :=
  let main_cst : FVec F S_ .f32 := constant S_ .f32 0x00000000#32
  let main_v0 : FVec F S17664x32 .f32 := broadcastInDim S17664x32 ![] bcast_S_S17664x32 main_cst
  let main_v1 : IVec S17664x32 1 := cmpf .oge main_arg1 main_v0
  main_v1
-- ==== Kernel.lean ====
abbrev S17664x1024 : Shape := ⟨2, ![17664, 1024]⟩
abbrev S17664x32 : Shape := ⟨2, ![17664, 32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S2048x2048 : Shape := ⟨2, ![2048, 2048]⟩
abbrev S_ : Shape := ⟨0, ![]⟩
abbrev S32x1x1024 : Shape := ⟨3, ![32, 1, 1024]⟩
abbrev S18432x1024 : Shape := ⟨2, ![18432, 1024]⟩
abbrev S18432x32 : Shape := ⟨2, ![18432, 32]⟩
abbrev S12x1536x32 : Shape := ⟨3, ![12, 1536, 32]⟩
abbrev S12x32 : Shape := ⟨2, ![12, 32]⟩
abbrev S384 : Shape := ⟨1, ![384]⟩
abbrev S32x18432 : Shape := ⟨2, ![32, 18432]⟩
abbrev S1536x1024 : Shape := ⟨2, ![1536, 1024]⟩
abbrev S1536x32 : Shape := ⟨2, ![1536, 32]⟩
abbrev S32x1536 : Shape := ⟨2, ![32, 1536]⟩
abbrev S1x1024x1024 : Shape := ⟨3, ![1, 1024, 1024]⟩
abbrev S1x1x1024 : Shape := ⟨3, ![1, 1, 1024]⟩
abbrev S128x128 : Shape := ⟨2, ![128, 128]⟩
abbrev S1x32 : Shape := ⟨2, ![1, 32]⟩
abbrev S32x1 : Shape := ⟨2, ![32, 1]⟩
abbrev S128x32 : Shape := ⟨2, ![128, 32]⟩
abbrev S32x128 : Shape := ⟨2, ![32, 128]⟩
abbrev S32 : Shape := ⟨1, ![32]⟩
abbrev S1536 : Shape := ⟨1, ![1536]⟩
abbrev S1536x1 : Shape := ⟨2, ![1536, 1]⟩
abbrev S1x1536 : Shape := ⟨2, ![1, 1536]⟩
abbrev S256x1 : Shape := ⟨2, ![256, 1]⟩
abbrev S1x256 : Shape := ⟨2, ![1, 256]⟩
abbrev S1 : Shape := ⟨1, ![1]⟩
abbrev S256x1536 : Shape := ⟨2, ![256, 1536]⟩
abbrev S1536x256 : Shape := ⟨2, ![1536, 256]⟩
abbrev S256x1024 : Shape := ⟨2, ![256, 1024]⟩
abbrev S256 : Shape := ⟨1, ![256]⟩
abbrev S1024x1024 : Shape := ⟨2, ![1024, 1024]⟩
abbrev S1x1024 : Shape := ⟨2, ![1, 1024]⟩

abbrev nBuf : Space → Nat
  | .hbm => 51
  | .vmem => 22
  | .smem => 1
  | _ => 0

abbrev bufTy : (tb : Table) → Fin (tcTables nBuf tb) → BufTy
  | .hbm, ⟨0, _⟩ => ⟨S17664x1024, .f32⟩
  | .hbm, ⟨1, _⟩ => ⟨S17664x32, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S17664x1024, .bf16⟩
  | .hbm, ⟨7, _⟩ => ⟨S2048x2048, .i32⟩
  | .hbm, ⟨8, _⟩ => ⟨S2048x2048, .i32⟩
  | .hbm, ⟨9, _⟩ => ⟨S_, .i32⟩
  | .hbm, ⟨10, _⟩ => ⟨S2048x2048, .i32⟩
  | .hbm, ⟨11, _⟩ => ⟨S2048x2048, .i1⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S2048x2048, .bf16⟩
  | .hbm, ⟨27, _⟩ => ⟨S32x1024x2048, .bf16⟩
  | .hbm, ⟨28, _⟩ => ⟨S32x1024x2048, .f32⟩
  | .hbm, ⟨29, _⟩ => ⟨S32x1024x2048, .bf16⟩
  | .hbm, ⟨30, _⟩ => ⟨S32x1024, .f32⟩
  | .hbm, ⟨31, _⟩ => ⟨S32x1x1024, .f32⟩
  | .hbm, ⟨32, _⟩ => ⟨S32x1024, .f32⟩
  | .hbm, ⟨33, _⟩ => ⟨S32x1x1024, .f32⟩
  | .hbm, ⟨34, _⟩ => ⟨S32x1024x1024, .bf16⟩
  | .hbm, ⟨35, _⟩ => ⟨S32x1x1024, .f32⟩
  | .hbm, ⟨36, _⟩ => ⟨S_, .i32⟩
  | .hbm, ⟨37, _⟩ => ⟨S_, .bf16⟩
  | .hbm, ⟨38, _⟩ => ⟨S18432x1024, .bf16⟩
  | .hbm, ⟨39, _⟩ => ⟨S_, .i32⟩
  | .hbm, ⟨40, _⟩ => ⟨S_, .f32⟩
  | .hbm, ⟨41, _⟩ => ⟨S18432x32, .f32⟩
  | .hbm, ⟨42, _⟩ => ⟨S_, .f32⟩
  | .hbm, ⟨43, _⟩ => ⟨S18432x32, .f32⟩
  | .hbm, ⟨44, _⟩ => ⟨S18432x32, .i1⟩
  | .hbm, ⟨45, _⟩ => ⟨S12x1536x32, .i1⟩
  | .hbm, ⟨46, _⟩ => ⟨S12x1536x32, .i32⟩
  | .hbm, ⟨47, _⟩ => ⟨S_, .i32⟩
  | .hbm, ⟨48, _⟩ => ⟨S12x32, .i32⟩
  | .hbm, ⟨49, _⟩ => ⟨S32x18432, .f32⟩
  | .hbm, ⟨50, _⟩ => ⟨S18432x1024, .f32⟩
  | .local _ .vmem, ⟨0, _⟩ => ⟨S1536x1024, .bf16⟩
  | .local _ .vmem, ⟨1, _⟩ => ⟨S1536x1024, .bf16⟩
  | .local _ .vmem, ⟨2, _⟩ => ⟨S1536x32, .f32⟩
  | .local _ .vmem, ⟨3, _⟩ => ⟨S1536x32, .f32⟩
  | .local _ .vmem, ⟨4, _⟩ => ⟨S32x1536, .f32⟩
  | .local _ .vmem, ⟨5, _⟩ => ⟨S32x1536, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1536x1024, .f32⟩
  | .local _ .vmem, ⟨19, _⟩ => ⟨S1536x1024, .f32⟩
  | .local _ .vmem, ⟨20, _⟩ => ⟨S1536x32, .f32⟩
  | .local _ .vmem, ⟨21, _⟩ => ⟨S32x1536, .f32⟩
  | .local _ .smem, ⟨0, _⟩ => ⟨S384, .i32⟩
  | _, _ => ⟨S17664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_call1_v0 : Ref sig .tc := ⟨.hbm, 37, rfl⟩
abbrev main_v25 : Ref sig .tc := ⟨.hbm, 38, rfl⟩
abbrev main_c_5 : Ref sig .tc := ⟨.hbm, 39, rfl⟩
abbrev main_call2_v0 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v33 : Ref sig .tc := ⟨.hbm, 49, rfl⟩
abbrev main_v34 : Ref sig .tc := ⟨.hbm, 50, rfl⟩
abbrev main_v32 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![12, 32], ![false, false]⟩

abbrev pre0 : Pipeline.Prefetch sig := ⟨1, ![main_v32.idx], fun | 0 => main_v32.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg1 : BitVec 32 := BitVec.ofNat 32 (i 1).val
  let v21 : Index := Scalar.indexCast arg1
  let c0_7 : Index := 0#32
  ![v21.toNat, 0]
def k0_off2 (i : grid0.Coords) : Fin 1 → Nat :=
  let arg0 : BitVec 32 := BitVec.ofNat 32 (i 0).val
  let c32_i32 : BitVec 32 := 32#32
  let v30 : BitVec 32 := Scalar.muli arg0 c32_i32
  let arg1 : BitVec 32 := BitVec.ofNat 32 (i 1).val
  let v31 : BitVec 32 := Scalar.addi v30 arg1
  let v32 : Index := Scalar.indexCast v31
  ![v32.toNat]
@[reducible] def k0_t1_loop (v33 : BitVec 32) : Scf.Loop 32 :=
  let c0_i32_16 : BitVec 32 := 0#32
  let c256_i32 : BitVec 32 := 256#32
  let v34 : BitVec 32 := Scalar.addi v33 c256_i32
  let c1_i32 : BitVec 32 := 1#32
  let v35 : BitVec 32 := Scalar.subi v34 c1_i32
  let c0_i32_10 : BitVec 32 := 0#32
  let v37 : BitVec 1 := Scalar.cmpi .sgt v35 c0_i32_10
  let v38 : BitVec 32 := Scalar.extui v37
  let c0_i32_11 : BitVec 32 := 0#32
  let v39 : BitVec 1 := Scalar.cmpi .slt v35 c0_i32_11
  let v40 : BitVec 32 := Scalar.extui v39
  let v41 : BitVec 32 := Scalar.subi v38 v40
  let c256_i32_9 : BitVec 32 := 256#32
  let c0_i32_12 : BitVec 32 := 0#32
  let v42 : BitVec 1 := Scalar.cmpi .sgt c256_i32_9 c0_i32_12
  let v43 : BitVec 32 := Scalar.extui v42
  let c0_i32_13 : BitVec 32 := 0#32
  let v44 : BitVec 1 := Scalar.cmpi .slt c256_i32_9 c0_i32_13
  let v45 : BitVec 32 := Scalar.extui v44
  let v46 : BitVec 32 := Scalar.subi v43 v45
  let v47 : BitVec 1 := Scalar.cmpi .ne v41 v46
  let v48 : BitVec 32 := Scalar.remsi v35 c256_i32_9
  let c0_i32_14 : BitVec 32 := 0#32
  let v49 : BitVec 1 := Scalar.cmpi .ne v48 c0_i32_14
  let v50 : BitVec 1 := Scalar.andi v47 v49
  let v36 : BitVec 32 := Scalar.divsi v35 c256_i32_9
  let c1_i32_15 : BitVec 32 := 1#32
  let v51 : BitVec 32 := Scalar.subi v36 c1_i32_15
  let v52 : BitVec 32 := Scalar.select v50 v51 v36
  let v53 : BitVec 32 := Scalar.subi v52 c0_i32_16
  let c1_i32_18 : BitVec 32 := 1#32
  let v55 : BitVec 32 := Scalar.divsi v53 c1_i32_18
  let v56 : BitVec 32 := Scalar.muli v55 c1_i32_18
  let v57 : BitVec 32 := Scalar.addi c0_i32_16 v56
  let c1_i32_19 : BitVec 32 := 1#32
  ⟨c0_i32_16, v57, c1_i32_19⟩

@[reducible] def k0_t2_loop (v33 : BitVec 32) : Scf.Loop 32 :=
  let c0_i32_16 : BitVec 32 := 0#32
  let c256_i32 : BitVec 32 := 256#32
  let v34 : BitVec 32 := Scalar.addi v33 c256_i32
  let c1_i32 : BitVec 32 := 1#32
  let v35 : BitVec 32 := Scalar.subi v34 c1_i32
  let c0_i32_10 : BitVec 32 := 0#32
  let v37 : BitVec 1 := Scalar.cmpi .sgt v35 c0_i32_10
  let v38 : BitVec 32 := Scalar.extui v37
  let c0_i32_11 : BitVec 32 := 0#32
  let v39 : BitVec 1 := Scalar.cmpi .slt v35 c0_i32_11
  let v40 : BitVec 32 := Scalar.extui v39
  let v41 : BitVec 32 := Scalar.subi v38 v40
  let c256_i32_9 : BitVec 32 := 256#32
  let c0_i32_12 : BitVec 32 := 0#32
  let v42 : BitVec 1 := Scalar.cmpi .sgt c256_i32_9 c0_i32_12
  let v43 : BitVec 32 := Scalar.extui v42
  let c0_i32_13 : BitVec 32 := 0#32
  let v44 : BitVec 1 := Scalar.cmpi .slt c256_i32_9 c0_i32_13
  let v45 : BitVec 32 := Scalar.extui v44
  let v46 : BitVec 32 := Scalar.subi v43 v45
  let v47 : BitVec 1 := Scalar.cmpi .ne v41 v46
  let v48 : BitVec 32 := Scalar.remsi v35 c256_i32_9
  let c0_i32_14 : BitVec 32 := 0#32
  let v49 : BitVec 1 := Scalar.cmpi .ne v48 c0_i32_14
  let v50 : BitVec 1 := Scalar.andi v47 v49
  let v36 : BitVec 32 := Scalar.divsi v35 c256_i32_9
  let c1_i32_15 : BitVec 32 := 1#32
  let v51 : BitVec 32 := Scalar.subi v36 c1_i32_15
  let v52 : BitVec 32 := Scalar.select v50 v51 v36
  let v53 : BitVec 32 := Scalar.subi v52 c0_i32_16
  let c1_i32_18 : BitVec 32 := 1#32
  let v55 : BitVec 32 := Scalar.divsi v53 c1_i32_18
  let v56 : BitVec 32 := Scalar.muli v55 c1_i32_18
  let v57 : BitVec 32 := Scalar.addi c0_i32_16 v56
  let v54 : BitVec 32 := Scalar.addi c0_i32_16 v53
  let c1_i32_20 : BitVec 32 := 1#32
  ⟨v57, v54, c1_i32_20⟩

def k0_chk1 (v33 : BitVec 32) : Prop :=
  ((k0_t1_loop v33).OK) ∧
  ((k0_t2_loop v33).OK)
theorem k0_t1_ok : ∀ (v33 : BitVec 32) (k0_hw1 : k0_chk1 v33), (k0_t1_loop v33).OK := fun v33 k0_hw1 => k0_hw1.1
theorem k0_t2_ok : ∀ (v33 : BitVec 32) (k0_hw1 : k0_chk1 v33), (k0_t2_loop v33).OK := fun v33 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg1.toNat, c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1536x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S17664x1024 : Shape := ⟨2, ![17664, 1024]⟩
abbrev S17664x32 : Shape := ⟨2, ![17664, 32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x2048x17664 : Shape := ⟨3, ![32, 2048, 17664]⟩
abbrev S32x17664x2048 : Shape := ⟨3, ![32, 17664, 2048]⟩
abbrev S32x1x2048 : Shape := ⟨3, ![32, 1, 2048]⟩
abbrev S32x17664x1024 : Shape := ⟨3, ![32, 17664, 1024]⟩
abbrev S_ : Shape := ⟨0, ![]⟩
abbrev S32x1x1024 : Shape := ⟨3, ![32, 1, 1024]⟩
abbrev S32x17664 : Shape := ⟨2, ![32, 17664]⟩
abbrev S32x17664x1 : Shape := ⟨3, ![32, 17664, 1]⟩
abbrev S18432x1024 : Shape := ⟨2, ![18432, 1024]⟩

abbrev nBuf : Space → Nat
  | .hbm => 53
  | .vmem => 0
  | .smem => 0
  | _ => 0

abbrev bufTy : (tb : Table) → Fin (tcTables nBuf tb) → BufTy
  | .hbm, ⟨0, _⟩ => ⟨S17664x1024, .f32⟩
  | .hbm, ⟨1, _⟩ => ⟨S17664x32, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S32x2048x17664, .f32⟩
  | .hbm, ⟨7, _⟩ => ⟨S32x17664x2048, .f32⟩
  | .hbm, ⟨8, _⟩ => ⟨S32x1x2048, .f32⟩
  | .hbm, ⟨9, _⟩ => ⟨S32x17664x2048, .f32⟩
  | .hbm, ⟨10, _⟩ => ⟨S32x17664x2048, .f32⟩
  | .hbm, ⟨11, _⟩ => ⟨S32x17664x1024, .f32⟩
  | .hbm, ⟨12, _⟩ => ⟨S_, .f32⟩
  | .hbm, ⟨13, _⟩ => ⟨S32x17664x1024, .f32⟩
  | .hbm, ⟨14, _⟩ => ⟨S32x17664x1024, .f32⟩
  | .hbm, ⟨15, _⟩ => ⟨S32x17664x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32x17664x1024, .f32⟩
  | .hbm, ⟨20, _⟩ => ⟨S32x17664x1024, .f32⟩
  | .hbm, ⟨21, _⟩ => ⟨S_, .f32⟩
  | .hbm, ⟨22, _⟩ => ⟨S32x17664x1024, .f32⟩
  | .hbm, ⟨23, _⟩ => ⟨S32x17664x1024, .f32⟩
  | .hbm, ⟨24, _⟩ => ⟨S_, .f32⟩
  | .hbm, ⟨25, _⟩ => ⟨S32x17664x1024, .f32⟩
  | .hbm, ⟨26, _⟩ => ⟨S32x17664x1024, .f32⟩
  | .hbm, ⟨27, _⟩ => ⟨S32x17664x1024, .f32⟩
  | .hbm, ⟨28, _⟩ => ⟨S32x17664x1024, .f32⟩
  | .hbm, ⟨29, _⟩ => ⟨S_, .f32⟩
  | .hbm, ⟨30, _⟩ => ⟨S32x17664x1024, .f32⟩
  | .hbm, ⟨31, _⟩ => ⟨S32x17664x1024, .f32⟩
  | .hbm, ⟨32, _⟩ => ⟨S_, .f32⟩
  | .hbm, ⟨33, _⟩ => ⟨S32x17664x1024, .f32⟩
  | .hbm, ⟨34, _⟩ => ⟨S32x17664x1024, .f32⟩
  | .hbm, ⟨35, _⟩ => ⟨S32x17664x1024, .f32⟩
  | .hbm, ⟨36, _⟩ => ⟨S_, .f32⟩
  | .hbm, ⟨37, _⟩ => ⟨S32x17664x1024, .f32⟩
  | .hbm, ⟨38, _⟩ => ⟨S32x17664x1024, .f32⟩
  | .hbm, ⟨39, _⟩ => ⟨S32x17664x1024, .f32⟩
  | .hbm, ⟨40, _⟩ => ⟨S32x17664x1024, .f32⟩
  | .hbm, ⟨41, _⟩ => ⟨S32x1x1024, .f32⟩
  | .hbm, ⟨42, _⟩ => ⟨S32x17664x1024, .f32⟩
  | .hbm, ⟨43, _⟩ => ⟨S32x17664x1024, .f32⟩
  | .hbm, ⟨44, _⟩ => ⟨S32x17664, .f32⟩
  | .hbm, ⟨45, _⟩ => ⟨S32x17664x1, .f32⟩
  | .hbm, ⟨46, _⟩ => ⟨S32x17664x1024, .f32⟩
  | .hbm, ⟨47, _⟩ => ⟨S32x17664x1024, .f32⟩
  | .hbm, ⟨48, _⟩ => ⟨S_, .f32⟩
  | .hbm, ⟨49, _⟩ => ⟨S17664x1024, .f32⟩
  | .hbm, ⟨50, _⟩ => ⟨S_, .i32⟩
  | .hbm, ⟨51, _⟩ => ⟨S_, .f32⟩
  | .hbm, ⟨52, _⟩ => ⟨S18432x1024, .f32⟩
  | _, _ => ⟨S17664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_c : Ref sig .tc := ⟨.hbm, 50, rfl⟩
abbrev main_call1_v0 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Norm.lean ====
abbrev S17664x1024 : Shape := ⟨2, ![17664, 1024]⟩
abbrev S18432x1024 : Shape := ⟨2, ![18432, 1024]⟩
abbrev S1024 : Shape := ⟨1, ![1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 7
  | .vmem => 8
  | .smem => 0
  | _ => 0

abbrev bufTy : (tb : Table) → Fin (tcTables nBuf tb) → BufTy
  | .hbm, ⟨0, _⟩ => ⟨S17664x1024, .f32⟩
  | .hbm, ⟨1, _⟩ => ⟨S18432x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S17664x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1x1024, .f32⟩
  | .local _ .vmem, ⟨5, _⟩ => ⟨S1x1024, .f32⟩
  | .local _ .vmem, ⟨6, _⟩ => ⟨S768x1024, .f32⟩
  | .local _ .vmem, ⟨7, _⟩ => ⟨S768x1024, .f32⟩
  | _, _ => ⟨S17664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![23], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormPlainIdeal.lean ====
abbrev S17664x1024 : Shape := ⟨2, ![17664, 1024]⟩
abbrev S18432x1024 : Shape := ⟨2, ![18432, 1024]⟩
abbrev S1024 : Shape := ⟨1, ![1024]⟩
abbrev S_ : Shape := ⟨0, ![]⟩
abbrev S17664 : Shape := ⟨1, ![17664]⟩
abbrev S17664x1 : Shape := ⟨2, ![17664, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S17664x1024, .f32⟩
  | .hbm, ⟨1, _⟩ => ⟨S18432x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S17664x1024, .f32⟩
  | .hbm, ⟨6, _⟩ => ⟨S17664x1024, .f32⟩
  | .hbm, ⟨7, _⟩ => ⟨S17664x1024, .f32⟩
  | .hbm, ⟨8, _⟩ => ⟨S17664x1024, .f32⟩
  | .hbm, ⟨9, _⟩ => ⟨S_, .f32⟩
  | .hbm, ⟨10, _⟩ => ⟨S17664, .f32⟩
  | .hbm, ⟨11, _⟩ => ⟨S17664x1, .f32⟩
  | .hbm, ⟨12, _⟩ => ⟨S_, .f32⟩
  | .hbm, ⟨13, _⟩ => ⟨S17664x1, .f32⟩
  | .hbm, ⟨14, _⟩ => ⟨S17664x1, .f32⟩
  | .hbm, ⟨15, _⟩ => ⟨S17664x1024, .f32⟩
  | .hbm, ⟨16, _⟩ => ⟨S17664x1024, .f32⟩
  | .hbm, ⟨17, _⟩ => ⟨S17664x1024, .f32⟩
  | .hbm, ⟨18, _⟩ => ⟨S_, .f32⟩
  | .hbm, ⟨19, _⟩ => ⟨S17664, .f32⟩
  | .hbm, ⟨20, _⟩ => ⟨S17664x1, .f32⟩
  | .hbm, ⟨21, _⟩ => ⟨S_, .f32⟩
  | .hbm, ⟨22, _⟩ => ⟨S17664x1, .f32⟩
  | .hbm, ⟨23, _⟩ => ⟨S17664x1, .f32⟩
  | .hbm, ⟨24, _⟩ => ⟨S17664x1024, .f32⟩
  | .hbm, ⟨25, _⟩ => ⟨S17664x1024, .f32⟩
  | .hbm, ⟨26, _⟩ => ⟨S_, .f32⟩
  | .hbm, ⟨27, _⟩ => ⟨S17664x1, .f32⟩
  | .hbm, ⟨28, _⟩ => ⟨S17664x1, .f32⟩
  | .hbm, ⟨29, _⟩ => ⟨S17664x1, .f32⟩
  | .hbm, ⟨30, _⟩ => ⟨S17664x1024, .f32⟩
  | .hbm, ⟨31, _⟩ => ⟨S17664x1024, .f32⟩
  | .hbm, ⟨32, _⟩ => ⟨S1x1024, .f32⟩
  | .hbm, ⟨33, _⟩ => ⟨S17664x1024, .f32⟩
  | .hbm, ⟨34, _⟩ => ⟨S17664x1024, .f32⟩
  | .hbm, ⟨35, _⟩ => ⟨S1x1024, .f32⟩
  | .hbm, ⟨36, _⟩ => ⟨S17664x1024, .f32⟩
  | .hbm, ⟨37, _⟩ => ⟨S17664x1024, .f32⟩
  | _, _ => ⟨S17664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Gates.lean ====
abbrev S17664x1024 : Shape := ⟨2, ![17664, 1024]⟩
abbrev S1024x8012 : Shape := ⟨2, ![1024, 8012]⟩
abbrev S8012 : Shape := ⟨1, ![8012]⟩
abbrev S1024x3072 : Shape := ⟨2, ![1024, 3072]⟩
abbrev S3072 : Shape := ⟨1, ![3072]⟩
abbrev S1x3072 : Shape := ⟨2, ![1, 3072]⟩
abbrev S17664x3072 : Shape := ⟨2, ![17664, 3072]⟩
abbrev S768x1024 : Shape := ⟨2, ![768, 1024]⟩
abbrev S1024x512 : Shape := ⟨2, ![1024, 512]⟩
abbrev S1x512 : Shape := ⟨2, ![1, 512]⟩
abbrev S768x512 : Shape := ⟨2, ![768, 512]⟩

abbrev nBuf : Space → Nat
  | .hbm => 9
  | .vmem => 8
  | .smem => 0
  | _ => 0

abbrev bufTy : (tb : Table) → Fin (tcTables nBuf tb) → BufTy
  | .hbm, ⟨0, _⟩ => ⟨S17664x1024, .f32⟩
  | .hbm, ⟨1, _⟩ => ⟨S1024x8012, .f32⟩
  | .hbm, ⟨2, _⟩ => ⟨S8012, .f32⟩
  | .hbm, ⟨3, _⟩ => ⟨S17664x1024, .bf16⟩
  | .hbm, ⟨4, _⟩ => ⟨S1024x3072, .f32⟩
  | .hbm, ⟨5, _⟩ => ⟨S1024x3072, .bf16⟩
  | .hbm, ⟨6, _⟩ => ⟨S3072, .f32⟩
  | .hbm, ⟨7, _⟩ => ⟨S1x3072, .f32⟩
  | .hbm, ⟨8, _⟩ => ⟨S17664x3072, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S768x512, .f32⟩
  | .local _ .vmem, ⟨7, _⟩ => ⟨S768x512, .f32⟩
  | _, _ => ⟨S17664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![23, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesPlainIdeal.lean ====
abbrev S17664x1024 : Shape := ⟨2, ![17664, 1024]⟩
abbrev S1024x8012 : Shape := ⟨2, ![1024, 8012]⟩
abbrev S8012 : Shape := ⟨1, ![8012]⟩
abbrev S17664x8012 : Shape := ⟨2, ![17664, 8012]⟩
abbrev S1x8012 : Shape := ⟨2, ![1, 8012]⟩
abbrev S17664x3072 : Shape := ⟨2, ![17664, 3072]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S17664x1024, .f32⟩
  | .hbm, ⟨1, _⟩ => ⟨S1024x8012, .f32⟩
  | .hbm, ⟨2, _⟩ => ⟨S8012, .f32⟩
  | .hbm, ⟨3, _⟩ => ⟨S17664x8012, .f32⟩
  | .hbm, ⟨4, _⟩ => ⟨S1x8012, .f32⟩
  | .hbm, ⟨5, _⟩ => ⟨S17664x8012, .f32⟩
  | .hbm, ⟨6, _⟩ => ⟨S17664x8012, .f32⟩
  | .hbm, ⟨7, _⟩ => ⟨S17664x3072, .f32⟩
  | .hbm, ⟨8, _⟩ => ⟨S17664x3072, .f32⟩
  | .hbm, ⟨9, _⟩ => ⟨S17664x3072, .f32⟩
  | .hbm, ⟨10, _⟩ => ⟨S_, .f32⟩
  | .hbm, ⟨11, _⟩ => ⟨S17664x3072, .f32⟩
  | .hbm, ⟨12, _⟩ => ⟨S17664x3072, .f32⟩
  | .hbm, ⟨13, _⟩ => ⟨S_, .f32⟩
  | .hbm, ⟨14, _⟩ => ⟨S17664x3072, .f32⟩
  | .hbm, ⟨15, _⟩ => ⟨S17664x3072, .f32⟩
  | _, _ => ⟨S17664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proj.lean ====
abbrev S17664x1024 : Shape := ⟨2, ![17664, 1024]⟩
abbrev S17664 : Shape := ⟨1, ![17664]⟩
abbrev S1024x8012 : Shape := ⟨2, ![1024, 8012]⟩
abbrev S8012 : Shape := ⟨1, ![8012]⟩
abbrev S10 : Shape := ⟨1, ![10]⟩
abbrev S_ : Shape := ⟨0, ![]⟩
abbrev S1024x16 : Shape := ⟨2, ![1024, 16]⟩
abbrev S1024x8 : Shape := ⟨2, ![1024, 8]⟩
abbrev S1024x4 : Shape := ⟨2, ![1024, 4]⟩
abbrev S1024x100 : Shape := ⟨2, ![1024, 100]⟩
abbrev S1024x128 : Shape := ⟨2, ![1024, 128]⟩
abbrev S1024x512 : Shape := ⟨2, ![1024, 512]⟩
abbrev S1024x256 : Shape := ⟨2, ![1024, 256]⟩
abbrev S1024x64 : Shape := ⟨2, ![1024, 64]⟩
abbrev S1024x5120 : Shape := ⟨2, ![1024, 5120]⟩
abbrev S1024x3072 : Shape := ⟨2, ![1024, 3072]⟩
abbrev S1x8012 : Shape := ⟨2, ![1, 8012]⟩
abbrev S1x16 : Shape := ⟨2, ![1, 16]⟩
abbrev S1x8 : Shape := ⟨2, ![1, 8]⟩
abbrev S1x4 : Shape := ⟨2, ![1, 4]⟩
abbrev S1x100 : Shape := ⟨2, ![1, 100]⟩
abbrev S1x128 : Shape := ⟨2, ![1, 128]⟩
abbrev S1x512 : Shape := ⟨2, ![1, 512]⟩
abbrev S1x256 : Shape := ⟨2, ![1, 256]⟩
abbrev S1x64 : Shape := ⟨2, ![1, 64]⟩
abbrev S1x5120 : Shape := ⟨2, ![1, 5120]⟩
abbrev S1x3072 : Shape := ⟨2, ![1, 3072]⟩
abbrev S8 : Shape := ⟨1, ![8]⟩
abbrev S17664x1 : Shape := ⟨2, ![17664, 1]⟩
abbrev S17664x8 : Shape := ⟨2, ![17664, 8]⟩
abbrev S17664x48 : Shape := ⟨2, ![17664, 48]⟩
abbrev S17664x64 : Shape := ⟨2, ![17664, 64]⟩
abbrev S17664x128 : Shape := ⟨2, ![17664, 128]⟩
abbrev S17664x5120 : Shape := ⟨2, ![17664, 5120]⟩
abbrev S768x1024 : Shape := ⟨2, ![768, 1024]⟩
abbrev S768x128 : Shape := ⟨2, ![768, 128]⟩
abbrev S768x512 : Shape := ⟨2, ![768, 512]⟩
abbrev S1 : Shape := ⟨1, ![1]⟩

abbrev nBuf : Space → Nat
  | .hbm => 81
  | .vmem => 16
  | .smem => 1
  | _ => 0

abbrev bufTy : (tb : Table) → Fin (tcTables nBuf tb) → BufTy
  | .hbm, ⟨0, _⟩ => ⟨S17664x1024, .f32⟩
  | .hbm, ⟨1, _⟩ => ⟨S17664, .i32⟩
  | .hbm, ⟨2, _⟩ => ⟨S1024x8012, .f32⟩
  | .hbm, ⟨3, _⟩ => ⟨S8012, .f32⟩
  | .hbm, ⟨4, _⟩ => ⟨S_, .f32⟩
  | .hbm, ⟨5, _⟩ => ⟨S1024x16, .f32⟩
  | .hbm, ⟨6, _⟩ => ⟨S1024x8, .f32⟩
  | .hbm, ⟨7, _⟩ => ⟨S1024x4, .f32⟩
  | .hbm, ⟨8, _⟩ => ⟨S_, .f32⟩
  | .hbm, ⟨9, _⟩ => ⟨S1024x100, .f32⟩
  | .hbm, ⟨10, _⟩ => ⟨S1024x128, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x256, .f32⟩
  | .hbm, ⟨21, _⟩ => ⟨S1024x64, .f32⟩
  | .hbm, ⟨22, _⟩ => ⟨S1024x64, .f32⟩
  | .hbm, ⟨23, _⟩ => ⟨S1024x5120, .f32⟩
  | .hbm, ⟨24, _⟩ => ⟨S1024x3072, .f32⟩
  | .hbm, ⟨25, _⟩ => ⟨S1x8012, .f32⟩
  | .hbm, ⟨26, _⟩ => ⟨S_, .f32⟩
  | .hbm, ⟨27, _⟩ => ⟨S1x16, .f32⟩
  | .hbm, ⟨28, _⟩ => ⟨S1x8, .f32⟩
  | .hbm, ⟨29, _⟩ => ⟨S1x4, .f32⟩
  | .hbm, ⟨30, _⟩ => ⟨S_, .f32⟩
  | .hbm, ⟨31, _⟩ => ⟨S1x100, .f32⟩
  | .hbm, ⟨32, _⟩ => ⟨S1x128, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S1x256, .f32⟩
  | .hbm, ⟨43, _⟩ => ⟨S1x64, .f32⟩
  | .hbm, ⟨44, _⟩ => ⟨S1x64, .f32⟩
  | .hbm, ⟨45, _⟩ => ⟨S1x5120, .f32⟩
  | .hbm, ⟨46, _⟩ => ⟨S1x3072, .f32⟩
  | .hbm, ⟨47, _⟩ => ⟨S1024x5120, .bf16⟩
  | .hbm, ⟨48, _⟩ => ⟨S1024x3072, .bf16⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S17664, .f32⟩
  | .hbm, ⟨58, _⟩ => ⟨S17664x1, .f32⟩
  | .hbm, ⟨59, _⟩ => ⟨S1x8, .f32⟩
  | .hbm, ⟨60, _⟩ => ⟨S17664x8, .f32⟩
  | .hbm, ⟨61, _⟩ => ⟨S17664x8, .f32⟩
  | .hbm, ⟨62, _⟩ => ⟨S17664x8, .f32⟩
  | .hbm, ⟨63, _⟩ => ⟨S17664x8, .f32⟩
  | .hbm, ⟨64, _⟩ => ⟨S17664x8, .f32⟩
  | .hbm, ⟨65, _⟩ => ⟨S_, .f32⟩
  | .hbm, ⟨66, _⟩ => ⟨S17664x48, .f32⟩
  | .hbm, ⟨67, _⟩ => ⟨S_, .f32⟩
  | .hbm, ⟨68, _⟩ => ⟨S17664x48, .f32⟩
  | .hbm, ⟨69, _⟩ => ⟨S_, .f32⟩
  | .hbm, ⟨70, _⟩ => ⟨S17664x8, .f32⟩
  | .hbm, ⟨71, _⟩ => ⟨S17664x64, .f32⟩
  | .hbm, ⟨72, _⟩ => ⟨S17664x8, .f32⟩
  | .hbm, ⟨73, _⟩ => ⟨S17664x64, .f32⟩
  | .hbm, ⟨74, _⟩ => ⟨S17664x64, .f32⟩
  | .hbm, ⟨75, _⟩ => ⟨S17664x128, .f32⟩
  | .hbm, ⟨76, _⟩ => ⟨S17664x128, .f32⟩
  | .hbm, ⟨77, _⟩ => ⟨S17664x128, .f32⟩
  | .hbm, ⟨78, _⟩ => ⟨S17664x1024, .bf16⟩
  | .hbm, ⟨79, _⟩ => ⟨S17664x5120, .f32⟩
  | .hbm, ⟨80, _⟩ => ⟨S17664x5120, .bf16⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S768x128, .f32⟩
  | .local _ .vmem, ⟨12, _⟩ => ⟨S768x512, .f32⟩
  | .local _ .vmem, ⟨13, _⟩ => ⟨S768x512, .f32⟩
  | .local _ .vmem, ⟨14, _⟩ => ⟨S768x512, .bf16⟩
  | .local _ .vmem, ⟨15, _⟩ => ⟨S768x512, .bf16⟩
  | .local _ .smem, ⟨0, _⟩ => ⟨S10, .i32⟩
  | _, _ => ⟨S17664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66_0 : Ref sig .tc := ⟨.hbm, 79, rfl⟩
abbrev main_v66_1 : Ref sig .tc := ⟨.hbm, 80, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![23, 10], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v9 : Index := Scalar.indexCast arg1
  ![v9.toNat]
def k0_off2 (i : grid0.Coords) : Fin 1 → Nat :=
  let arg1 : BitVec 32 := BitVec.ofNat 32 (i 1).val
  let v14 : Index := Scalar.indexCast arg1
  ![v14.toNat]
def k0_cond1 (v10 : BitVec 32) : BitVec 1 :=
  let c0_i32 : BitVec 32 := 0#32
  let v11 : BitVec 1 := Scalar.cmpi .eq v10 c0_i32
  let v12 : BitVec 32 := Scalar.extui v11
  let c0_i32_5 : BitVec 32 := 0#32
  let v13 : BitVec 1 := Scalar.cmpi .ne v12 c0_i32_5
  v13

def k0_cond2 (v15 : BitVec 32) : BitVec 1 :=
  let c1_i32 : BitVec 32 := 1#32
  let v16 : BitVec 1 := Scalar.cmpi .eq v15 c1_i32
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjPlainIdeal.lean ====
abbrev S17664x1024 : Shape := ⟨2, ![17664, 1024]⟩
abbrev S17664 : Shape := ⟨1, ![17664]⟩
abbrev S1024x8012 : Shape := ⟨2, ![1024, 8012]⟩
abbrev S8012 : Shape := ⟨1, ![8012]⟩
abbrev S17664x8012 : Shape := ⟨2, ![17664, 8012]⟩
abbrev S1x8012 : Shape := ⟨2, ![1, 8012]⟩
abbrev S17664x512 : Shape := ⟨2, ![17664, 512]⟩
abbrev S17664x8 : Shape := ⟨2, ![17664, 8]⟩
abbrev S17664x256 : Shape := ⟨2, ![17664, 256]⟩
abbrev S17664x64 : Shape := ⟨2, ![17664, 64]⟩
abbrev S17664x4 : Shape := ⟨2, ![17664, 4]⟩
abbrev S17664x3072 : Shape := ⟨2, ![17664, 3072]⟩
abbrev S17664x1x64 : Shape := ⟨3, ![17664, 1, 64]⟩
abbrev S8 : Shape := ⟨1, ![8]⟩
abbrev S_ : Shape := ⟨0, ![]⟩
abbrev S17664x1 : Shape := ⟨2, ![17664, 1]⟩
abbrev S1x8 : Shape := ⟨2, ![1, 8]⟩
abbrev S17664x1x8 : Shape := ⟨3, ![17664, 1, 8]⟩
abbrev S17664x1x48 : Shape := ⟨3, ![17664, 1, 48]⟩
abbrev S17664x8x64 : Shape := ⟨3, ![17664, 8, 64]⟩
abbrev S17664x8x8 : Shape := ⟨3, ![17664, 8, 8]⟩
abbrev S17664x8x48 : Shape := ⟨3, ![17664, 8, 48]⟩
abbrev S17664x4x64 : Shape := ⟨3, ![17664, 4, 64]⟩
abbrev S17664x4x8 : Shape := ⟨3, ![17664, 4, 8]⟩
abbrev S17664x4x48 : Shape := ⟨3, ![17664, 4, 48]⟩
abbrev S17664x16 : Shape := ⟨2, ![17664, 16]⟩
abbrev S17664x100 : Shape := ⟨2, ![17664, 100]⟩
abbrev S17664x5120 : Shape := ⟨2, ![17664, 5120]⟩

abbrev nBuf : Space → Nat
  | .hbm => 228
  | .vmem => 0
  | .smem => 0
  | _ => 0

abbrev hbmTy0_0 (i : Nat) : BufTy := match i % 128 with
  | 0 => ⟨S17664x1024, .f32⟩
  | 1 => ⟨S17664, .i32⟩
  | 2 => ⟨S1024x8012, .f32⟩
  | 3 => ⟨S8012, .f32⟩
  | 4 => ⟨S17664x8012, .f32⟩
  | 5 => ⟨S1x8012, .f32⟩
  | 6 => ⟨S17664x8012, .f32⟩
  | 7 => ⟨S17664x8012, .f32⟩
  | 8 => ⟨S17664x512, .f32⟩
  | 9 => ⟨S17664x512, .f32⟩
  | 10 => ⟨S17664x512, .f32⟩
  | 11 => ⟨S17664x512, .f32⟩
  | 12 => ⟨S17664x512, .f32⟩
  | 13 => ⟨S17664x512, .f32⟩
  | 14 => ⟨S17664x8, .f32⟩
  | 15 => ⟨S17664x512, .f32⟩
  | 16 => ⟨S17664x512, .f32⟩
  | 17 => ⟨S17664x512, .f32⟩
  | 18 => ⟨S17664x256, .f32⟩
  | 19 => ⟨S17664x64, .f32⟩
  | 20 => ⟨S17664x4, .f32⟩
  | 21 => ⟨S17664x3072, .f32⟩
  | 22 => ⟨S17664x1x64, .f32⟩
  | 23 => ⟨S8, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S17664, .f32⟩
  | 32 => ⟨S17664x1, .f32⟩
  | 33 => ⟨S1x8, .f32⟩
  | 34 => ⟨S17664x8, .f32⟩
  | 35 => ⟨S17664x8, .f32⟩
  | 36 => ⟨S17664x8, .f32⟩
  | 37 => ⟨S17664x8, .f32⟩
  | 38 => ⟨S17664x1x8, .f32⟩
  | 39 => ⟨S17664x8, .f32⟩
  | 40 => ⟨S17664x1x8, .f32⟩
  | 41 => ⟨S17664x1x8, .f32⟩
  | 42 => ⟨S17664x1x8, .f32⟩
  | 43 => ⟨S17664x1x8, .f32⟩
  | 44 => ⟨S17664x1x8, .f32⟩
  | 45 => ⟨S17664x1x8, .f32⟩
  | 46 => ⟨S17664x1x8, .f32⟩
  | 47 => ⟨S17664x1x8, .f32⟩
  | 48 => ⟨S17664x1x8, .f32⟩
  | 49 => ⟨S17664x1x48, .f32⟩
  | 50 => ⟨S17664x1x64, .f32⟩
  | 51 => ⟨S17664x64, .f32⟩
  | 52 => ⟨S17664x8x64, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S17664, .f32⟩
  | 62 => ⟨S17664x1, .f32⟩
  | 63 => ⟨S1x8, .f32⟩
  | 64 => ⟨S17664x8, .f32⟩
  | 65 => ⟨S17664x8, .f32⟩
  | 66 => ⟨S17664x8, .f32⟩
  | 67 => ⟨S17664x8, .f32⟩
  | 68 => ⟨S17664x1x8, .f32⟩
  | 69 => ⟨S17664x8, .f32⟩
  | 70 => ⟨S17664x1x8, .f32⟩
  | 71 => ⟨S17664x8x8, .f32⟩
  | 72 => ⟨S17664x8x8, .f32⟩
  | 73 => ⟨S17664x8x8, .f32⟩
  | 74 => ⟨S17664x8x8, .f32⟩
  | 75 => ⟨S17664x8x8, .f32⟩
  | 76 => ⟨S17664x8x8, .f32⟩
  | 77 => ⟨S17664x8x8, .f32⟩
  | 78 => ⟨S17664x8x8, .f32⟩
  | 79 => ⟨S17664x8x8, .f32⟩
  | 80 => ⟨S17664x8x8, .f32⟩
  | 81 => ⟨S17664x8x8, .f32⟩
  | 82 => ⟨S17664x8x8, .f32⟩
  | 83 => ⟨S17664x8x48, .f32⟩
  | 84 => ⟨S17664x8x64, .f32⟩
  | 85 => ⟨S17664x512, .f32⟩
  | 86 => ⟨S17664x8x64, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S17664, .f32⟩
  | 96 => ⟨S17664x1, .f32⟩
  | 97 => ⟨S1x8, .f32⟩
  | 98 => ⟨S17664x8, .f32⟩
  | 99 => ⟨S17664x8, .f32⟩
  | 100 => ⟨S17664x8, .f32⟩
  | 101 => ⟨S17664x8, .f32⟩
  | 102 => ⟨S17664x1x8, .f32⟩
  | 103 => ⟨S17664x8, .f32⟩
  | 104 => ⟨S17664x1x8, .f32⟩
  | 105 => ⟨S17664x8x8, .f32⟩
  | 106 => ⟨S17664x8x8, .f32⟩
  | 107 => ⟨S17664x8x8, .f32⟩
  | 108 => ⟨S17664x8x8, .f32⟩
  | 109 => ⟨S17664x8x8, .f32⟩
  | 110 => ⟨S17664x8x8, .f32⟩
  | 111 => ⟨S17664x8x8, .f32⟩
  | 112 => ⟨S17664x8x8, .f32⟩
  | 113 => ⟨S17664x8x8, .f32⟩
  | 114 => ⟨S17664x8x8, .f32⟩
  | 115 => ⟨S17664x8x8, .f32⟩
  | 116 => ⟨S17664x8x8, .f32⟩
  | 117 => ⟨S17664x8x48, .f32⟩
  | 118 => ⟨S17664x8x64, .f32⟩
  | 119 => ⟨S17664x512, .f32⟩
  | 120 => ⟨S17664x8x64, .f32⟩
  | 121 => ⟨S8, .f32⟩
  | 122 => ⟨S8, .f32⟩
  | 123 => ⟨S_, .f32⟩
  | 124 => ⟨S8, .f32⟩
  | 125 => ⟨S8, .f32⟩
  | 126 => ⟨S_, .f32⟩
  | 127 => ⟨S8, .f32⟩
  | _ => ⟨S17664x1024, .f32⟩

abbrev hbmTy0_1 (i : Nat) : BufTy := match i % 128 with
  | 0 => ⟨S8, .f32⟩
  | 1 => ⟨S17664, .f32⟩
  | 2 => ⟨S17664x1, .f32⟩
  | 3 => ⟨S1x8, .f32⟩
  | 4 => ⟨S17664x8, .f32⟩
  | 5 => ⟨S17664x8, .f32⟩
  | 6 => ⟨S17664x8, .f32⟩
  | 7 => ⟨S17664x8, .f32⟩
  | 8 => ⟨S17664x1x8, .f32⟩
  | 9 => ⟨S17664x8, .f32⟩
  | 10 => ⟨S17664x1x8, .f32⟩
  | 11 => ⟨S17664x8x8, .f32⟩
  | 12 => ⟨S17664x8x8, .f32⟩
  | 13 => ⟨S17664x8x8, .f32⟩
  | 14 => ⟨S17664x8x8, .f32⟩
  | 15 => ⟨S17664x8x8, .f32⟩
  | 16 => ⟨S17664x8x8, .f32⟩
  | 17 => ⟨S17664x8x8, .f32⟩
  | 18 => ⟨S17664x8x8, .f32⟩
  | 19 => ⟨S17664x8x8, .f32⟩
  | 20 => ⟨S17664x8x8, .f32⟩
  | 21 => ⟨S17664x8x8, .f32⟩
  | 22 => ⟨S17664x8x8, .f32⟩
  | 23 => ⟨S17664x8x48, .f32⟩
  | 24 => ⟨S17664x8x64, .f32⟩
  | 25 => ⟨S17664x512, .f32⟩
  | 26 => ⟨S17664x8x64, .f32⟩
  | 27 => ⟨S8, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S17664, .f32⟩
  | 36 => ⟨S17664x1, .f32⟩
  | 37 => ⟨S1x8, .f32⟩
  | 38 => ⟨S17664x8, .f32⟩
  | 39 => ⟨S17664x8, .f32⟩
  | 40 => ⟨S17664x8, .f32⟩
  | 41 => ⟨S17664x8, .f32⟩
  | 42 => ⟨S17664x1x8, .f32⟩
  | 43 => ⟨S17664x8, .f32⟩
  | 44 => ⟨S17664x1x8, .f32⟩
  | 45 => ⟨S17664x8x8, .f32⟩
  | 46 => ⟨S17664x8x8, .f32⟩
  | 47 => ⟨S17664x8x8, .f32⟩
  | 48 => ⟨S17664x8x8, .f32⟩
  | 49 => ⟨S17664x8x8, .f32⟩
  | 50 => ⟨S17664x8x8, .f32⟩
  | 51 => ⟨S17664x8x8, .f32⟩
  | 52 => ⟨S17664x8x8, .f32⟩
  | 53 => ⟨S17664x8x8, .f32⟩
  | 54 => ⟨S17664x8x8, .f32⟩
  | 55 => ⟨S17664x8x8, .f32⟩
  | 56 => ⟨S17664x8x8, .f32⟩
  | 57 => ⟨S17664x8x48, .f32⟩
  | 58 => ⟨S17664x8x64, .f32⟩
  | 59 => ⟨S17664x512, .f32⟩
  | 60 => ⟨S17664x4x64, .f32⟩
  | 61 => ⟨S8, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S17664, .f32⟩
  | 70 => ⟨S17664x1, .f32⟩
  | 71 => ⟨S1x8, .f32⟩
  | 72 => ⟨S17664x8, .f32⟩
  | 73 => ⟨S17664x8, .f32⟩
  | 74 => ⟨S17664x8, .f32⟩
  | 75 => ⟨S17664x8, .f32⟩
  | 76 => ⟨S17664x1x8, .f32⟩
  | 77 => ⟨S17664x8, .f32⟩
  | 78 => ⟨S17664x1x8, .f32⟩
  | 79 => ⟨S17664x4x8, .f32⟩
  | 80 => ⟨S17664x4x8, .f32⟩
  | 81 => ⟨S17664x4x8, .f32⟩
  | 82 => ⟨S17664x4x8, .f32⟩
  | 83 => ⟨S17664x4x8, .f32⟩
  | 84 => ⟨S17664x4x8, .f32⟩
  | 85 => ⟨S17664x4x8, .f32⟩
  | 86 => ⟨S17664x4x8, .f32⟩
  | 87 => ⟨S17664x4x8, .f32⟩
  | 88 => ⟨S17664x4x8, .f32⟩
  | 89 => ⟨S17664x4x8, .f32⟩
  | 90 => ⟨S17664x4x8, .f32⟩
  | 91 => ⟨S17664x4x48, .f32⟩
  | 92 => ⟨S17664x4x64, .f32⟩
  | 93 => ⟨S17664x256, .f32⟩
  | 94 => ⟨S_, .f32⟩
  | 95 => ⟨S17664x16, .f32⟩
  | 96 => ⟨S_, .f32⟩
  | 97 => ⟨S17664x100, .f32⟩
  | 98 => ⟨S17664x5120, .f32⟩
  | 99 => ⟨S17664x5120, .bf16⟩
  | _ => ⟨S17664x1024, .f32⟩

abbrev hbmTy (i : Nat) : BufTy := match i / 128 with
  | 0 => hbmTy0_0 i
  | 1 => hbmTy0_1 i
  | _ => ⟨S17664x1024, .f32⟩

abbrev bufTy : (tb : Table) → Fin (tcTables nBuf tb) → BufTy
  | .hbm, ⟨i, _⟩ => hbmTy i
  | _, _ => ⟨S17664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_1 : Ref sig .tc := ⟨.hbm, 55, rfl⟩
abbrev main_v49 : Ref sig .tc := ⟨.hbm, 56, rfl⟩
abbrev main_v50 : Ref sig .tc := ⟨.hbm, 57, rfl⟩
abbrev main_cst_2 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_cst_3 : Ref sig .tc := ⟨.hbm, 89, rfl⟩
abbrev main_v81 : Ref sig .tc := ⟨.hbm, 90, rfl⟩
abbrev main_v82 : Ref sig .tc := ⟨.hbm, 91, rfl⟩
abbrev main_cst_4 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_cst_5 : Ref sig .tc := ⟨.hbm, 123, rfl⟩
abbrev main_v113 : Ref sig .tc := ⟨.hbm, 124, rfl⟩
abbrev main_v114 : Ref sig .tc := ⟨.hbm, 125, rfl⟩
abbrev main_cst_6 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_cst_7 : Ref sig .tc := ⟨.hbm, 157, rfl⟩
abbrev main_v145 : Ref sig .tc := ⟨.hbm, 158, rfl⟩
abbrev main_v146 : Ref sig .tc := ⟨.hbm, 159, rfl⟩
abbrev main_cst_8 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_cst_9 : Ref sig .tc := ⟨.hbm, 191, rfl⟩
abbrev main_v177 : Ref sig .tc := ⟨.hbm, 192, rfl⟩
abbrev main_v178 : Ref sig .tc := ⟨.hbm, 193, rfl⟩
abbrev main_cst_10 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_cst_11 : Ref sig .tc := ⟨.hbm, 222, rfl⟩
abbrev main_v206 : Ref sig .tc := ⟨.hbm, 223, rfl⟩
abbrev main_cst_12 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩

abbrev nD : Nat := 1
abbrev τ : Topo := Topo.v7x

variable {F : FTy → Type} [FloatOps F]
-- ==== Proof.Trip.lean ====
module

public import proofs.«01_k».proof.Proof.Gen.KernelIdeal.Frame.Runs

public import Idealize.ShloMosaic.Lib.VecWindow

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One pass of the loop over chunks of selected rows, on values

The kernel goes over the selected rows of a tile in chunks of 256. One pass gathers a chunk by a
product with a 0/1 matrix, takes it through the expert's two products, and adds the results back to
their rows of the output block. `pass` is what one pass makes of the output block; `passes` iterates it. -/

/-- The output block after pass `k`, from the block before it: `v13` the expert's gate column, `v20` the
    ranks as a column, `v23` and `v25` the same as rows, `v27` and `v29` the numbers 0 … 255, `v33` the count. -/
def pass (v13 v20 : FVec F S1536x1 .f32) (v23 : FVec F S1x1536 .f32) (v25 : Vec F S1x1536 .f32) (v27 : FVec F S256x1 .f32) (v29 : FVec F S1x256 .f32) (v33 : Elt F .i32) (k : Fin (k0_t1_loop v33).trips)
    (x3 : Vec F S1536x1024 .bf16) (x6 : Vec F S1x1024x1024 .bf16) (x7 : Vec F S1x1024x1024 .bf16) (x8 : Vec F S1x1x1024 .f32) (x9 : Vec F S1x1x1024 .f32) (x10 : Vec F S1x1024x1024 .bf16) (x11 : Vec F S1x1x1024 .f32)
    (acc : Vec F S1536x1024 .f32) : Vec F S1536x1024 .f32 :=
  k0_pay1 (k0_pay91 acc) (k0_pay92 (F := F) (k0_pay87 v13 v20 v29 v33 0#32 1#32 k))
    (k0_pay93 (k0_pay88 v23 v25 v27 v33 0#32 1#32 k x3) (k0_pay89 v23 v25 v27 v33 0#32 1#32 k)
      (k0_pay90 v23 v25 v27 v33 0#32 1#32 k x3 x6 x8) (Scalar.ofBits .f32 0x40E00000#32) x7 x9 x10 x11)
    (constant S1536x1024 .f32 0x00000000#32)

/-- The output block before pass `k`. -/
def passes (v13 v20 : FVec F S1536x1 .f32) (v23 : FVec F S1x1536 .f32) (v25 : Vec F S1x1536 .f32) (v27 : FVec F S256x1 .f32) (v29 : FVec F S1x256 .f32) (v33 : Elt F .i32)
    (x3 : Vec F S1536x1024 .bf16) (x6 : Vec F S1x1024x1024 .bf16) (x7 : Vec F S1x1024x1024 .bf16) (x8 : Vec F S1x1x1024 .f32) (x9 : Vec F S1x1x1024 .f32) (x10 : Vec F S1x1024x1024 .bf16) (x11 : Vec F S1x1x1024 .f32)
    (acc : Vec F S1536x1024 .f32) : ℕ → Vec F S1536x1024 .f32
  | 0 => acc
  | k + 1 => if h : k < (k0_t1_loop v33).trips then
      pass v13 v20 v23 v25 v27 v29 v33 ⟨k, h⟩ x3 x6 x7 x8 x9 x10 x11 (passes v13 v20 v23 v25 v27 v29 v33 x3 x6 x7 x8 x9 x10 x11 acc k)
    else passes v13 v20 v23 v25 v27 v29 v33 x3 x6 x7 x8 x9 x10 x11 acc k

theorem passes_succ (v13 v20 : FVec F S1536x1 .f32) (v23 : FVec F S1x1536 .f32) (v25 : Vec F S1x1536 .f32) (v27 : FVec F S256x1 .f32) (v29 : FVec F S1x256 .f32) (v33 : Elt F .i32)
    (x3 : Vec F S1536x1024 .bf16) (x6 : Vec F S1x1024x1024 .bf16) (x7 : Vec F S1x1024x1024 .bf16) (x8 : Vec F S1x1x1024 .f32) (x9 : Vec F S1x1x1024 .f32) (x10 : Vec F S1x1024x1024 .bf16) (x11 : Vec F S1x1x1024 .f32)
    (acc : Vec F S1536x1024 .f32) (k : Fin (k0_t1_loop v33).trips) :
    passes v13 v20 v23 v25 v27 v29 v33 x3 x6 x7 x8 x9 x10 x11 acc (k.val + 1)
      = pass v13 v20 v23 v25 v27 v29 v33 k x3 x6 x7 x8 x9 x10 x11 (passes v13 v20 v23 v25 v27 v29 v33 x3 x6 x7 x8 x9 x10 x11 acc k.val) :=
  dif_pos k.isLt

/-- The output block's buffer before pass `k`: as found before the first, then holding `passes`. -/
def held {arg12 : Memref sig .tc .vmem S1536x1024 .f32} (harg12 : arg12.IsWhole) (v13 v20 : FVec F S1536x1 .f32) (v23 : FVec F S1x1536 .f32) (v25 : Vec F S1x1536 .f32) (v27 : FVec F S256x1 .f32) (v29 : FVec F S1x256 .f32) (v33 : Elt F .i32)
    (x3 : Vec F S1536x1024 .bf16) (x6 : Vec F S1x1024x1024 .bf16) (x7 : Vec F S1x1024x1024 .bf16) (x8 : Vec F S1x1x1024 .f32) (x9 : Vec F S1x1x1024 .f32) (x10 : Vec F S1x1024x1024 .bf16) (x11 : Vec F S1x1x1024 .f32)
    (G : BufTy.Contents (Elt F) arg12.view.ty) : ℕ → BufTy.Contents (Elt F) arg12.view.ty
  | 0 => G
  | k + 1 => harg12.unread (passes v13 v20 v23 v25 v27 v29 v33 x3 x6 x7 x8 x9 x10 x11 (arg12.view.read (Elt F) G) (k + 1))

theorem read_held {arg12 : Memref sig .tc .vmem S1536x1024 .f32} (harg12 : arg12.IsWhole) (v13 v20 : FVec F S1536x1 .f32) (v23 : FVec F S1x1536 .f32) (v25 : Vec F S1x1536 .f32) (v27 : FVec F S256x1 .f32) (v29 : FVec F S1x256 .f32) (v33 : Elt F .i32)
    (x3 : Vec F S1536x1024 .bf16) (x6 : Vec F S1x1024x1024 .bf16) (x7 : Vec F S1x1024x1024 .bf16) (x8 : Vec F S1x1x1024 .f32) (x9 : Vec F S1x1x1024 .f32) (x10 : Vec F S1x1024x1024 .bf16) (x11 : Vec F S1x1x1024 .f32)
    (G : BufTy.Contents (Elt F) arg12.view.ty) (k : ℕ) :
    arg12.view.read (Elt F) (held harg12 v13 v20 v23 v25 v27 v29 v33 x3 x6 x7 x8 x9 x10 x11 G k)
      = passes v13 v20 v23 v25 v27 v29 v33 x3 x6 x7 x8 x9 x10 x11 (arg12.view.read (Elt F) G) k := by
  cases k with
  | zero => rfl
  | succ k => exact harg12.read_unread _

/-- The carried word before pass `k`: the initial one, then 0. -/
def word (init : BitVec 32) : ℕ → BitVec 32
  | 0 => init
  | _ + 1 => 0#32

set_option warn.classDefReducibility false in
/-- The loop over chunks leaves in the output block's buffer what `held` says, pass by pass. -/
@[sl_loop] def loop (𝒱 : Variants) (c : Dev nD) (bd : Option 𝒱.V) (E : Set ℕ) (i : grid0.Coords) (arg2 : Memref sig .tc .smem S384 .i32) (harg2 : arg2.IsWhole) (arg3 : Memref sig .tc .vmem S1536x1024 .bf16) (harg3 : arg3.IsWhole) (arg4 : Memref sig .tc .vmem S1536x32 .f32) (harg4 : arg4.IsWhole) (arg5 : Memref sig .tc .vmem S32x1536 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1536x1024 .f32) (harg12 : arg12.IsWhole) (arg13 : Memref sig .tc .vmem S1536x32 .f32) (harg13 : arg13.IsWhole) (arg14 : Memref sig .tc .vmem S32x1536 .f32) (harg14 : arg14.IsWhole)
    (v13 v20 : FVec F S1536x1 .f32) (v23 : FVec F S1x1536 .f32) (v25 : Vec F S1x1536 .f32) (v27 : FVec F S256x1 .f32) (v29 : FVec F S1x256 .f32) (v33 : Elt F .i32) (hw : k0_chk1 v33)
    (X3 : BufTy.Contents (Elt F) arg3.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (G : BufTy.Contents (Elt F) arg12.view.ty) (init : BitVec 32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v13 v20 v23 v25 v27 v29 v33 hw init where
  inv k acc := iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
    ∗ (∃ f, (arg12.view.loc (c : Thread nD τ) ↦[arg12.view.set]{fullShare} f) ∗ ⌜f = held harg12 v13 v20 v23 v25 v27 v29 v33 (arg3.view.read (Elt F) X3) (arg6.view.read (Elt F) X6) (arg7.view.read (Elt F) X7) (arg8.view.read (Elt F) X8) (arg9.view.read (Elt F) X9) (arg10.view.read (Elt F) X10) (arg11.view.read (Elt F) X11) G k⌝) ∗ ⌜acc = word init k⌝)
  step k acc := by
    iintro ⟨H3, H6, H7, H8, H9, H10, H11, ⟨%f, H12, %hf⟩, %hacc⟩
    subst hacc
    have hr := (congrArg (arg12.view.read (Elt F)) hf).trans (read_held harg12 v13 v20 v23 v25 v27 v29 v33 (arg3.view.read (Elt F) X3) (arg6.view.read (Elt F) X6) (arg7.view.read (Elt F) X7) (arg8.view.read (Elt F) X8) (arg9.view.read (Elt F) X9) (arg10.view.read (Elt F) X10) (arg11.view.read (Elt F) X11) G k)
    clear hf
    unfold k0_t1_body
    sl_exec
    sl_step
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]
    · iexists _; isplitl [H12]; · iexact H12
      ipureintro
      refine harg12.eq_unread ?_
      rw [passes_succ, View.read_writes_full, ← hr]
      unfold pass
      rw [← View.readAt_full arg3.view X3 inb_S1536x1024_S1536x1024_0_0, ← View.readAt_full arg6.view X6 inb_S1x1024x1024_S1x1024x1024_0_0_0,
        ← View.readAt_full arg7.view X7 inb_S1x1024x1024_S1x1024x1024_0_0_0, ← View.readAt_full arg8.view X8 inb_S1x1x1024_S1x1x1024_0_0_0,
        ← View.readAt_full arg9.view X9 inb_S1x1x1024_S1x1x1024_0_0_0, ← View.readAt_full arg10.view X10 inb_S1x1024x1024_S1x1024x1024_0_0_0,
        ← View.readAt_full arg11.view X11 inb_S1x1x1024_S1x1x1024_0_0_0, ← View.readAt_full arg12.view f inb_S1536x1024_S1536x1024_0_0]
      rfl
    ipureintro; rfl

/-- A signed division by one is the word itself. -/
theorem divsi_one (x : BitVec 32) : Scalar.divsi x 1#32 = x := by
  have hc : ¬ IntOp.SDivCorner x 1#32 := by
    unfold IntOp.SDivCorner
    simp
  show IntOp.divsi .scalar x 1#32 = x
  unfold IntOp.divsi
  rw [if_neg hc, BitVec.sdiv_one]

/-- The remainder loop starts where it ends. -/
theorem rest_bounds (v33 : BitVec 32) : (k0_t2_loop v33).lb = (k0_t2_loop v33).ub := by
  unfold k0_t2_loop
  dsimp only
  rw [divsi_one]
  show 0#32 + _ * 1#32 = _
  rw [BitVec.mul_one]
  rfl

/-- The remainder loop runs no pass. -/
theorem trips_rest (v33 : BitVec 32) : (k0_t2_loop v33).trips = 0 := by
  unfold Scf.Loop.trips Scf.trips
  rw [rest_bounds, show (k0_t2_loop v33).st = 1#32 from rfl]
  simp

set_option warn.classDefReducibility false in
/-- So nothing is to be said of what one of its passes does. -/
@[sl_loop] def rest (𝒱 : Variants) (c : Dev nD) (bd : Option 𝒱.V) (E : Set ℕ) (i : grid0.Coords) (arg2 : Memref sig .tc .smem S384 .i32) (harg2 : arg2.IsWhole) (arg3 : Memref sig .tc .vmem S1536x1024 .bf16) (harg3 : arg3.IsWhole) (arg4 : Memref sig .tc .vmem S1536x32 .f32) (harg4 : arg4.IsWhole) (arg5 : Memref sig .tc .vmem S32x1536 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1536x1024 .f32) (harg12 : arg12.IsWhole) (arg13 : Memref sig .tc .vmem S1536x32 .f32) (harg13 : arg13.IsWhole) (arg14 : Memref sig .tc .vmem S32x1536 .f32) (harg14 : arg14.IsWhole)
    (v13 v20 : FVec F S1536x1 .f32) (v23 : FVec F S1x1536 .f32) (v25 : Vec F S1x1536 .f32) (v27 : FVec F S256x1 .f32) (v29 : FVec F S1x256 .f32) (v33 : Elt F .i32) (hw : k0_chk1 v33) (v57 : BitVec 32) (init : BitVec 32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v13 v20 v23 v25 v27 v29 v33 hw v57 init where
  inv k acc := iprop(⌜acc = init⌝)
  step k acc := absurd (Nat.lt_of_lt_of_eq k.isLt (trips_rest v33)) (Nat.not_lt_zero _)

/-- A loop from `lb` by ones always has a meaning. -/
theorem ok_of_step_one (lb ub : BitVec 32) : Scf.OK lb ub 1#32 := by
  have h1 : (1#32 : BitVec 32).toInt = 1 := by decide
  have := ub.toInt_lt
  have := lb.toInt_lt
  unfold Scf.OK Scf.trips
  rw [h1]
  omega

/-- The body's side condition holds of every count word. -/
theorem chk (v33 : BitVec 32) : k0_chk1 v33 := ⟨ok_of_step_one _ _, ok_of_step_one _ _⟩

/-- Of a count of at most 1536 rows the loop makes one pass per chunk of 256 begun. -/
theorem trips_count : ∀ n : Fin 1537, (k0_t1_loop (BitVec.ofNat 32 n.val)).trips = (n.val + 255) / 256 := by
  decide +kernel

end Cert.Moe

end
-- ==== Proof.RunLater.lean ====
module

public import proofs.«01_k».proof.Proof.Trip

public import Idealize.ShloMosaic.Lib.WholeRead

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of one grid point

What the body leaves in its output block: all the passes of the loop over chunks, from the block as
the loop finds it. At a point that is not the first of its tile the body finds the ranks of the tile's
selected rows in the two scratch buffers and leaves them there; at the first point of a tile it
computes them. -/

/-- Row `i 1` of a 32-row block. -/
def rowAt (i : grid0.Coords) (x : Vec F S32x1536 .f32) : Vec F S1x1536 .f32 :=
  fun y => x ((Rect.unit (s := S32x1536) (k0_off1 i) S1x1536.size (k0_off1_inb i)).toLoadRect.idx y)

/-- The output block after the body at coordinates `i`: `d13` and `d14` the ranks by rows and by columns,
    `v33` the count word, `acc` the block as the loop finds it. -/
def bodyOut (i : grid0.Coords) (x3 : Vec F S1536x1024 .bf16) (x4 : Vec F S1536x32 .f32) (x5 : Vec F S32x1536 .f32) (x6 x7 : Vec F S1x1024x1024 .bf16) (x8 x9 : Vec F S1x1x1024 .f32) (x10 : Vec F S1x1024x1024 .bf16) (x11 : Vec F S1x1x1024 .f32) (d13 : Vec F S1536x32 .f32) (d14 : Vec F S32x1536 .f32) (v33 : Elt F .i32)
    (acc : Vec F S1536x1024 .f32) : Vec F S1536x1024 .f32 :=
  passes (k0_pay104 i x4) (k0_pay105 i d13) (k0_pay106 (rowAt i x5)) (rowAt i d14) (k0_pay107 (F := F)) (k0_pay108 (F := F)) v33
    x3 x6 x7 x8 x9 x10 x11 acc (k0_t1_loop v33).trips

set_option maxHeartbeats 1000000 in
/-- The body at a point that is not the first of its tile. -/
theorem run_later (c : Dev nD) (i : grid0.Coords) (arg3 : Memref sig .tc .vmem S1536x1024 .bf16) (harg3 : arg3.IsWhole) (arg4 : Memref sig .tc .vmem S1536x32 .f32) (harg4 : arg4.IsWhole) (arg5 : Memref sig .tc .vmem S32x1536 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1536x1024 .f32) (harg12 : arg12.IsWhole) (arg13 : Memref sig .tc .vmem S1536x32 .f32) (harg13 : arg13.IsWhole) (arg14 : Memref sig .tc .vmem S32x1536 .f32) (harg14 : arg14.IsWhole) (hc0 : ¬cond0_0 i)
    (x3 : Vec F S1536x1024 .bf16) (x4 : Vec F S1536x32 .f32) (x5 : Vec F S32x1536 .f32) (x6 x7 : Vec F S1x1024x1024 .bf16) (x8 x9 : Vec F S1x1x1024 .f32) (x10 : Vec F S1x1024x1024 .bf16) (x11 : Vec F S1x1x1024 .f32) (xt : TbBuf0 (F := F) c tbM0_0) (x12 : Vec F S1536x1024 .f32)
    (d13 : Vec F S1536x32 .f32) (d14 : Vec F S32x1536 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare d13 ∗ owns (c : Thread nD τ) arg14 fullShare d14 ∗ tbPt0 c tbM0_0 xt
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (bodyOut i x3 x4 x5 x6 x7 x8 x9 x10 x11 d13 d14 (tbM0_0.view.readAt (Elt F) (Rect.unit (s := S384) (k0_off2 i) S1.size (k0_off2_inb i)).toLoadRect xt (Shape.Idx.first (numel1_S1.symm ▸ Nat.one_pos))) x12) ∗ owns (c : Thread nD τ) arg13 fullShare d13 ∗ owns (c : Thread nD τ) arg14 fullShare d14 ∗ tbPt0 c tbM0_0 xt) -∗ K ⟨⟩))
      ⊢ wp frame (wpE (defs₀ (F := F)) Variants.none c none) E (cc0_moe_experts i tbM0_0 htbM0_0 arg3 harg3 arg4 harg4 arg5 harg5 arg6 harg6 arg7 harg7 arg8 harg8 arg9 harg9 arg10 harg10 arg11 harg11 arg12 harg12 arg13 harg13 arg14 harg14) K := by
    have hw := chk (tbM0_0.view.readAt (Elt F) (Rect.unit (s := S384) (k0_off2 i) S1.size (k0_off2_inb i)).toLoadRect xt (Shape.Idx.first (numel1_S1.symm ▸ Nat.one_pos)))
    have htr := trips_rest (tbM0_0.view.readAt (Elt F) (Rect.unit (s := S384) (k0_off2 i) S1.size (k0_off2_inb i)).toLoadRect xt (Shape.Idx.first (numel1_S1.symm ▸ Nat.one_pos)))
    simp only [cc0_moe_experts_eq_skeleton]; unfold cc0_moe_experts_skel
    simp only [k0_part16_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, HT, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    obtain rfl := harg12.eq_unread hf12; obtain rfl := harg13.eq_unread hf13; obtain rfl := harg14.eq_unread hf14
    sl_exec (disch := first | sl_exact hc0 | sl_exact hw)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; swap; · iexact H12
      ipureintro
      rw [read_held]
      simp only [harg3.read_unread, harg6.read_unread, harg7.read_unread, harg8.read_unread, harg9.read_unread,
        harg10.read_unread, harg11.read_unread]
      rw [show View.read (Elt F) arg12.view (Classical.choose _) = x12 from harg12.read_unread x12]
      show passes (k0_pay104 i (View.readAt (Elt F) arg4.view (Rect.unit ![0, 0] S1536x32.size inb_S1536x32_S1536x32_0_0).toLoadRect (harg4.unread x4)))
        (k0_pay105 i (View.readAt (Elt F) arg13.view (Rect.unit ![0, 0] S1536x32.size inb_S1536x32_S1536x32_0_0).toLoadRect (harg13.unread d13)))
        (k0_pay106 (View.readAt (Elt F) arg5.view (Rect.unit (s := S32x1536) (k0_off1 i) S1x1536.size (k0_off1_inb i)).toLoadRect (harg5.unread x5)))
        (View.readAt (Elt F) arg14.view (Rect.unit (s := S32x1536) (k0_off1 i) S1x1536.size (k0_off1_inb i)).toLoadRect (harg14.unread d14))
        _ _ _ _ _ _ _ _ _ _ _ _ = _
      rw [View.readAt_full, View.readAt_full, harg4.read_unread, harg13.read_unread]
      rw [show View.readAt (Elt F) arg5.view (Rect.unit (s := S32x1536) (k0_off1 i) S1x1536.size (k0_off1_inb i)).toLoadRect (harg5.unread x5) = rowAt i x5 from
          funext fun y => harg5.readAt_unread x5 _ y,
        show View.readAt (Elt F) arg14.view (Rect.unit (s := S32x1536) (k0_off1 i) S1x1536.size (k0_off1_inb i)).toLoadRect (harg14.unread d14) = rowAt i d14 from
          funext fun y => harg14.readAt_unread d14 _ y]
      rfl
    isplitl [H13]
    · iexists _; isplitr; · ipureintro; exact harg13.read_unread _
      iexact H13
    isplitl [H14]
    · iexists _; isplitr; · ipureintro; exact harg14.read_unread _
      iexact H14
    iexact HT

end Cert.Moe

end
-- ==== Proof.RunFirst.lean ====
module

public import proofs.«01_k».proof.Proof.RunLater

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The passes of a point, from what the body loads out of its gate blocks and its scratch buffers. -/
theorem bodyOut_of (i : grid0.Coords) (arg4 : Memref sig .tc .vmem S1536x32 .f32) (harg4 : arg4.IsWhole) (arg5 : Memref sig .tc .vmem S32x1536 .f32) (harg5 : arg5.IsWhole) (arg13 : Memref sig .tc .vmem S1536x32 .f32) (arg14 : Memref sig .tc .vmem S32x1536 .f32)
    (x3 : Vec F S1536x1024 .bf16) (x4 : Vec F S1536x32 .f32) (x5 : Vec F S32x1536 .f32) (x6 x7 : Vec F S1x1024x1024 .bf16) (x8 x9 : Vec F S1x1x1024 .f32) (x10 : Vec F S1x1024x1024 .bf16) (x11 : Vec F S1x1x1024 .f32) (f13 : BufTy.Contents (Elt F) arg13.view.ty) (f14 : BufTy.Contents (Elt F) arg14.view.ty) (v33 : Elt F .i32) (acc : Vec F S1536x1024 .f32) :
    passes (k0_pay104 i (View.readAt (Elt F) arg4.view (Rect.unit ![0, 0] S1536x32.size inb_S1536x32_S1536x32_0_0).toLoadRect (harg4.unread x4)))
        (k0_pay105 i (View.readAt (Elt F) arg13.view (Rect.unit ![0, 0] S1536x32.size inb_S1536x32_S1536x32_0_0).toLoadRect f13))
        (k0_pay106 (View.readAt (Elt F) arg5.view (Rect.unit (s := S32x1536) (k0_off1 i) S1x1536.size (k0_off1_inb i)).toLoadRect (harg5.unread x5)))
        (View.readAt (Elt F) arg14.view (Rect.unit (s := S32x1536) (k0_off1 i) S1x1536.size (k0_off1_inb i)).toLoadRect f14)
        (k0_pay107 (F := F)) (k0_pay108 (F := F)) v33 x3 x6 x7 x8 x9 x10 x11 acc (k0_t1_loop v33).trips
      = bodyOut i x3 x4 x5 x6 x7 x8 x9 x10 x11 (View.read (Elt F) arg13.view f13) (View.read (Elt F) arg14.view f14) v33 acc := by
  rw [View.readAt_full, View.readAt_full, harg4.read_unread]
  rw [show View.readAt (Elt F) arg5.view (Rect.unit (s := S32x1536) (k0_off1 i) S1x1536.size (k0_off1_inb i)).toLoadRect (harg5.unread x5) = rowAt i x5 from
      funext fun y => harg5.readAt_unread x5 _ y]
  rfl

/-- A block stored whole with zeros. -/
theorem zero_block (arg12 : Memref sig .tc .vmem S1536x1024 .f32) :
    View.read (Elt F) arg12.view (arg12.view.writes (Elt F) arg12.view.junk
      [⟨Rect.unit ![0, 0] S1536x1024.size inb_S1536x1024_S1536x1024_0_0, k0_pay3 (F := F)⟩]) = k0_pay3 (F := F) :=
  View.read_writes_full (Val := Elt F) (e := .f32) arg12.view arg12.view.junk inb_S1536x1024_S1536x1024_0_0 (k0_pay3 (F := F)) []

set_option maxHeartbeats 1200000 in
/-- The body at the first point of a tile: what it leaves in the scratch buffers is a function of the gate
    blocks that the run finds. -/
def run_first (c : Dev nD) (i : grid0.Coords) (arg3 : Memref sig .tc .vmem S1536x1024 .bf16) (harg3 : arg3.IsWhole) (arg4 : Memref sig .tc .vmem S1536x32 .f32) (harg4 : arg4.IsWhole) (arg5 : Memref sig .tc .vmem S32x1536 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1536x1024 .f32) (harg12 : arg12.IsWhole) (arg13 : Memref sig .tc .vmem S1536x32 .f32) (harg13 : arg13.IsWhole) (arg14 : Memref sig .tc .vmem S32x1536 .f32) (harg14 : arg14.IsWhole) (hc0 : cond0_0 i)
    (x3 : Vec F S1536x1024 .bf16) (x4 : Vec F S1536x32 .f32) (x5 : Vec F S32x1536 .f32) (x6 x7 : Vec F S1x1024x1024 .bf16) (x8 x9 : Vec F S1x1x1024 .f32) (x10 : Vec F S1x1024x1024 .bf16) (x11 : Vec F S1x1x1024 .f32) (xt : TbBuf0 (F := F) c tbM0_0) :
    Σ' (d13 : Vec F S1536x32 .f32), { d14 : Vec F S32x1536 .f32 // ∀ (E : Set ℕ) (K : PUnit → sProp 𝕄),
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ tbPt0 c tbM0_0 xt
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (bodyOut i x3 x4 x5 x6 x7 x8 x9 x10 x11 d13 d14 (tbM0_0.view.readAt (Elt F) (Rect.unit (s := S384) (k0_off2 i) S1.size (k0_off2_inb i)).toLoadRect xt (Shape.Idx.first (numel1_S1.symm ▸ Nat.one_pos))) (k0_pay3 (F := F))) ∗ owns (c : Thread nD τ) arg13 fullShare d13 ∗ owns (c : Thread nD τ) arg14 fullShare d14 ∗ tbPt0 c tbM0_0 xt) -∗ K ⟨⟩))
      ⊢ wp frame (wpE (defs₀ (F := F)) Variants.none c none) E (cc0_moe_experts i tbM0_0 htbM0_0 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    have hw := chk (tbM0_0.view.readAt (Elt F) (Rect.unit (s := S384) (k0_off2 i) S1.size (k0_off2_inb i)).toLoadRect xt (Shape.Idx.first (numel1_S1.symm ▸ Nat.one_pos)))
    have htr := trips_rest (tbM0_0.view.readAt (Elt F) (Rect.unit (s := S384) (k0_off2 i) S1.size (k0_off2_inb i)).toLoadRect xt (Shape.Idx.first (numel1_S1.symm ▸ Nat.one_pos)))
    simp only [cc0_moe_experts_eq_skeleton]; unfold cc0_moe_experts_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, HT, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact hc0 | sl_exact hw)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; rotate_left
    isplitl [H13]
    · iexists _; isplitr; swap; · iexact H13
      ipureintro; rfl
    isplitl [H14]
    · iexists _; isplitr; swap; · iexact H14
      ipureintro; rfl
    iexact HT
    · iexists _; isplitr; swap; · iexact H12
      ipureintro
      rw [read_held]
      simp only [harg3.read_unread, harg6.read_unread, harg7.read_unread, harg8.read_unread, harg9.read_unread,
        harg10.read_unread, harg11.read_unread]
      exact (bodyOut_of i arg4 harg4 arg5 harg5 arg13 arg14 x3 x4 x5 x6 x7 x8 x9 x10 x11
        (arg13.view.writes (Elt F) arg13.view.junk (run_first.sl.H13_12 c arg4 harg4 x4))
        (arg14.view.writes (Elt F) arg14.view.junk (run_first.sl.H14_12 c arg5 harg5 x5)) (tbM0_0.view.readAt (Elt F) (Rect.unit (s := S384) (k0_off2 i) S1.size (k0_off2_inb i)).toLoadRect xt (Shape.Idx.first (numel1_S1.symm ▸ Nat.one_pos))) _).trans
          (congrArg (bodyOut i x3 x4 x5 x6 x7 x8 x9 x10 x11 _ _ (tbM0_0.view.readAt (Elt F) (Rect.unit (s := S384) (k0_off2 i) S1.size (k0_off2_inb i)).toLoadRect xt (Shape.Idx.first (numel1_S1.symm ▸ Nat.one_pos)))) (zero_block arg12))

end Cert.Moe

end
-- ==== Proof.Ranks.lean ====
module

public import proofs.«01_k».proof.Proof.RunFirst
public import Idealize.ShloMosaic.Lib.Pointwise.Index

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The ranks that the first point of a tile leaves

The kernel ranks the selected rows of a tile (the rows whose gate for an expert is positive) by a
strict running count, in blocks of 128 rows: within a block by a product with a strictly triangular
0/1 matrix, across blocks by a carried count. `rowRanks` holds the ranks by rows and `colRanks` the
same by columns, each as a function of the twelve blocks of the gate. -/

/-- The counts of selected rows before block `b`, expert by expert, from the blocks `W` of the gate. -/
def rowCarry (W : ℕ → Vec F S128x32 .f32) : ℕ → FVec F S1x32 .f32
  | 0 => k0_pay6 (F := F)
  | b + 1 => k0_pay13 (rowCarry W b) (k0_pay8 (W b))

/-- The ranks of the rows of block `b`. -/
def rowBlock (W : ℕ → Vec F S128x32 .f32) (b : ℕ) : FVec F S128x32 .f32 :=
  shapeCast S128x32 (addf (matmul dot_S128x128_S128x32_S128x32_1_0_0_1_n_n none (k0_pay4 (F := F))
    (truncf .bf16 (k0_pay8 (W b)) bitsLt_bf16_f32) (constant S128x32 .f32 0x00000000#32))
    (broadcastTo S128x32 (rowCarry W b) broadcasts_S1x32_S128x32)) shapeCasts_S128x32_S128x32

/-- The same count by columns. -/
def colCarry (W : ℕ → Vec F S32x128 .f32) : ℕ → FVec F S32x1 .f32
  | 0 => k0_pay7 (F := F)
  | b + 1 => k0_pay14 (colCarry W b) (k0_pay9 (W b))

/-- The ranks of the columns of block `b`. -/
def colBlock (W : ℕ → Vec F S32x128 .f32) (b : ℕ) : FVec F S32x128 .f32 :=
  shapeCast S32x128 (addf (matmul dot_S32x128_S128x128_S32x128_1_0_0_1_n_n none
    (truncf .bf16 (k0_pay9 (W b)) bitsLt_bf16_f32) (k0_pay5 (F := F)) (constant S32x128 .f32 0x00000000#32))
    (broadcastTo S32x128 (colCarry W b) broadcasts_S32x1_S32x128)) shapeCasts_S32x128_S32x128

theorem rows_inb (b : ℕ) (h : b < 12) : ∀ a : Fin 2, (![128 * b, 0] : Fin 2 → ℕ) a + S128x32.size a ≤ S1536x32.size a :=
  Fin.forall_fin_two.mpr ⟨by show 128 * b + 128 ≤ 1536; omega, by show 0 + 32 ≤ 32; omega⟩

theorem cols_inb (b : ℕ) (h : b < 12) : ∀ a : Fin 2, (![0, 128 * b] : Fin 2 → ℕ) a + S32x128.size a ≤ S32x1536.size a :=
  Fin.forall_fin_two.mpr ⟨by show 0 + 32 ≤ 32; omega, by show 128 * b + 128 ≤ 1536; omega⟩

/-- Rows `128 b` to `128 b + 127` of a gate tile. -/
def rowWin (x : Vec F S1536x32 .f32) (b : ℕ) : Vec F S128x32 .f32 := fun y =>
  x (ix2 (n0 := 1536) (n1 := 32) ⟨(128 * b + (y 0).val) % 1536, Nat.mod_lt _ (by decide)⟩ (y 1))

/-- Columns `128 b` to `128 b + 127` of a transposed gate tile. -/
def colWin (x : Vec F S32x1536 .f32) (b : ℕ) : Vec F S32x128 .f32 := fun y =>
  x (ix2 (n0 := 32) (n1 := 1536) (y 0) ⟨(128 * b + (y 1).val) % 1536, Nat.mod_lt _ (by decide)⟩)

/-- The ranks of a tile's rows, from its gate block. -/
def rowRanks (x : Vec F S1536x32 .f32) : Vec F S1536x32 .f32 := fun y =>
  rowBlock (rowWin x) ((y 0).val / 128) (ix2 (n0 := 128) (n1 := 32) ⟨(y 0).val % 128, Nat.mod_lt _ (by decide)⟩ (y 1))

/-- The ranks of a tile's columns, from its transposed gate block. -/
def colRanks (x : Vec F S32x1536 .f32) : Vec F S32x1536 .f32 := fun y =>
  colBlock (colWin x) ((y 1).val / 128) (ix2 (n0 := 32) (n1 := 128) (y 0) ⟨(y 1).val % 128, Nat.mod_lt _ (by decide)⟩)

/-- The blocks as the body loads them. -/
def rowLoad (c : Dev nD) (arg4 : Memref sig .tc .vmem S1536x32 .f32) (X : BufTy.Contents (Elt F) arg4.view.ty) (b : ℕ) : Vec F S128x32 .f32 :=
  if h : b < 12 then View.readAt (Elt F) arg4.view (Rect.unit (s := S1536x32) ![128 * b, 0] S128x32.size (rows_inb b h)).toLoadRect X
  else fun _ => Scalar.ofBits .f32 0x00000000#32

def colLoad (c : Dev nD) (arg5 : Memref sig .tc .vmem S32x1536 .f32) (X : BufTy.Contents (Elt F) arg5.view.ty) (b : ℕ) : Vec F S32x128 .f32 :=
  if h : b < 12 then View.readAt (Elt F) arg5.view (Rect.unit (s := S32x1536) ![0, 128 * b] S32x128.size (cols_inb b h)).toLoadRect X
  else fun _ => Scalar.ofBits .f32 0x00000000#32

theorem rowLoad_eq (c : Dev nD) (arg4 : Memref sig .tc .vmem S1536x32 .f32) (harg4 : arg4.IsWhole) (x : Vec F S1536x32 .f32) (b : ℕ) (h : b < 12) :
    rowLoad c arg4 (harg4.unread x) b = rowWin x b := by
  unfold rowLoad
  rw [dif_pos h]
  funext y
  rw [harg4.readAt_unread]
  unfold rowWin
  refine congrArg x (funext fun a => Fin.ext ?_)
  match a with
  | ⟨0, _⟩ =>
    have : (y 0).val < 128 := (y 0).isLt
    show 128 * b + 1 * (y 0).val = (128 * b + (y 0).val) % 1536
    omega
  | ⟨1, _⟩ => show 0 + 1 * (y 1).val = (y 1).val; omega

theorem colLoad_eq (c : Dev nD) (arg5 : Memref sig .tc .vmem S32x1536 .f32) (harg5 : arg5.IsWhole) (x : Vec F S32x1536 .f32) (b : ℕ) (h : b < 12) :
    colLoad c arg5 (harg5.unread x) b = colWin x b := by
  unfold colLoad
  rw [dif_pos h]
  funext y
  rw [harg5.readAt_unread]
  unfold colWin
  refine congrArg x (funext fun a => Fin.ext ?_)
  match a with
  | ⟨0, _⟩ => show 0 + 1 * (y 0).val = (y 0).val; omega
  | ⟨1, _⟩ =>
    have : (y 1).val < 128 := (y 1).isLt
    show 128 * b + 1 * (y 1).val = (128 * b + (y 1).val) % 1536
    omega

theorem rowCarry_congr (W W' : ℕ → Vec F S128x32 .f32) (b : ℕ) (h : ∀ k < b, W k = W' k) : rowCarry W b = rowCarry W' b := by
  induction b with
  | zero => rfl
  | succ b ih => unfold rowCarry; rw [ih fun k hk => h k (by omega), h b (by omega)]

theorem colCarry_congr (W W' : ℕ → Vec F S32x128 .f32) (b : ℕ) (h : ∀ k < b, W k = W' k) : colCarry W b = colCarry W' b := by
  induction b with
  | zero => rfl
  | succ b ih => unfold colCarry; rw [ih fun k hk => h k (by omega), h b (by omega)]

/-- A buffer written in twelve blocks of rows with `rowBlock`. -/
theorem read_rows (v : View sig .tc .vmem S1536x32 .f32) (f : v.ty.Contents (Elt F)) (W : ℕ → Vec F S128x32 .f32) (x : Vec F S1536x32 .f32)
    (hW : ∀ b < 12, W b = rowWin x b) :
    v.read (Elt F) (v.writes (Elt F) f (View.tilePieces (Val := Elt F) (e := .f32) S128x32.size (fun i : Fin 12 => (![128 * i.val, 0] : Fin 2 → ℕ))
      (fun i => rows_inb i.val i.isLt) (fun i => rowBlock W i.val) 12 le_rfl)) = rowRanks x := by
  funext y
  have hy : (y 0).val < 1536 := (y 0).isLt
  rw [View.read_tilePieces (s := S1536x32) v f S128x32.size (fun i : Fin 12 => (![128 * i.val, 0] : Fin 2 → ℕ))
    (fun i => rows_inb i.val i.isLt) (fun i => rowBlock W i.val) 12 le_rfl y ⟨(y 0).val / 128, by omega⟩ (by show (y 0).val / 128 < 12; omega)
    (ix2 (n0 := 128) (n1 := 32) ⟨(y 0).val % 128, Nat.mod_lt _ (by decide)⟩ (y 1))
    (Fin.forall_fin_two.mpr ⟨by show (y 0).val = 128 * ((y 0).val / 128) + (y 0).val % 128; omega, by show (y 1).val = 0 + (y 1).val; omega⟩)
    0 (fun i' hi => by
      have : i'.val ≠ (y 0).val / 128 := fun h => hi (Fin.ext h)
      show (y 0).val < 128 * i'.val ∨ 128 * i'.val + 128 ≤ (y 0).val
      omega)]
  show rowBlock W ((y 0).val / 128) _ = rowBlock (rowWin x) ((y 0).val / 128) _
  unfold rowBlock
  rw [rowCarry_congr W (rowWin x) _ fun k hk => hW k (by omega), hW _ (by omega)]

/-- A buffer written in twelve blocks of columns with `colBlock`. -/
theorem read_cols (v : View sig .tc .vmem S32x1536 .f32) (f : v.ty.Contents (Elt F)) (W : ℕ → Vec F S32x128 .f32) (x : Vec F S32x1536 .f32)
    (hW : ∀ b < 12, W b = colWin x b) :
    v.read (Elt F) (v.writes (Elt F) f (View.tilePieces (Val := Elt F) (e := .f32) S32x128.size (fun i : Fin 12 => (![0, 128 * i.val] : Fin 2 → ℕ))
      (fun i => cols_inb i.val i.isLt) (fun i => colBlock W i.val) 12 le_rfl)) = colRanks x := by
  funext y
  have hy : (y 1).val < 1536 := (y 1).isLt
  rw [View.read_tilePieces (s := S32x1536) v f S32x128.size (fun i : Fin 12 => (![0, 128 * i.val] : Fin 2 → ℕ))
    (fun i => cols_inb i.val i.isLt) (fun i => colBlock W i.val) 12 le_rfl y ⟨(y 1).val / 128, by omega⟩ (by show (y 1).val / 128 < 12; omega)
    (ix2 (n0 := 32) (n1 := 128) (y 0) ⟨(y 1).val % 128, Nat.mod_lt _ (by decide)⟩)
    (Fin.forall_fin_two.mpr ⟨by show (y 0).val = 0 + (y 0).val; omega, by show (y 1).val = 128 * ((y 1).val / 128) + (y 1).val % 128; omega⟩)
    1 (fun i' hi => by
      have : i'.val ≠ (y 1).val / 128 := fun h => hi (Fin.ext h)
      show (y 1).val < 128 * i'.val ∨ 128 * i'.val + 128 ≤ (y 1).val
      omega)]
  show colBlock W ((y 1).val / 128) _ = colBlock (colWin x) ((y 1).val / 128) _
  unfold colBlock
  rw [colCarry_congr W (colWin x) _ fun k hk => hW k (by omega), hW _ (by omega)]

set_option maxHeartbeats 1200000 in
/-- The ranks by rows that the first point of a tile leaves. -/
theorem run_first_rows (c : Dev nD) (i : grid0.Coords) (arg3 : Memref sig .tc .vmem S1536x1024 .bf16) (harg3 : arg3.IsWhole) (arg4 : Memref sig .tc .vmem S1536x32 .f32) (harg4 : arg4.IsWhole) (arg5 : Memref sig .tc .vmem S32x1536 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1536x1024 .f32) (harg12 : arg12.IsWhole) (arg13 : Memref sig .tc .vmem S1536x32 .f32) (harg13 : arg13.IsWhole) (arg14 : Memref sig .tc .vmem S32x1536 .f32) (harg14 : arg14.IsWhole) (hc0 : cond0_0 i)
    (x3 : Vec F S1536x1024 .bf16) (x4 : Vec F S1536x32 .f32) (x5 : Vec F S32x1536 .f32) (x6 x7 : Vec F S1x1024x1024 .bf16) (x8 x9 : Vec F S1x1x1024 .f32) (x10 : Vec F S1x1024x1024 .bf16) (x11 : Vec F S1x1x1024 .f32) (xt : TbBuf0 (F := F) c tbM0_0) :
    (run_first c i arg3 harg3 arg4 harg4 arg5 harg5 arg6 harg6 arg7 harg7 arg8 harg8 arg9 harg9 arg10 harg10 arg11 harg11 arg12 harg12 arg13 harg13 arg14 harg14 hc0 x3 x4 x5 x6 x7 x8 x9 x10 x11 xt).1 = rowRanks x4 :=
  Eq.trans (b := View.read (Elt F) arg13.view (arg13.view.writes (Elt F) arg13.view.junk (View.tilePieces (Val := Elt F) (e := .f32) S128x32.size
      (fun i : Fin 12 => (![128 * i.val, 0] : Fin 2 → ℕ)) (fun i => rows_inb i.val i.isLt)
      (fun i => rowBlock (rowLoad c arg4 (harg4.unread x4)) i.val) 12 le_rfl)))
    rfl (read_rows arg13.view _ _ x4 fun b hb => rowLoad_eq c arg4 harg4 x4 b hb)

set_option maxHeartbeats 1200000 in
/-- The ranks by columns that the first point of a tile leaves. -/
theorem run_first_cols (c : Dev nD) (i : grid0.Coords) (arg3 : Memref sig .tc .vmem S1536x1024 .bf16) (harg3 : arg3.IsWhole) (arg4 : Memref sig .tc .vmem S1536x32 .f32) (harg4 : arg4.IsWhole) (arg5 : Memref sig .tc .vmem S32x1536 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1536x1024 .f32) (harg12 : arg12.IsWhole) (arg13 : Memref sig .tc .vmem S1536x32 .f32) (harg13 : arg13.IsWhole) (arg14 : Memref sig .tc .vmem S32x1536 .f32) (harg14 : arg14.IsWhole) (hc0 : cond0_0 i)
    (x3 : Vec F S1536x1024 .bf16) (x4 : Vec F S1536x32 .f32) (x5 : Vec F S32x1536 .f32) (x6 x7 : Vec F S1x1024x1024 .bf16) (x8 x9 : Vec F S1x1x1024 .f32) (x10 : Vec F S1x1024x1024 .bf16) (x11 : Vec F S1x1x1024 .f32) (xt : TbBuf0 (F := F) c tbM0_0) :
    (run_first c i arg3 harg3 arg4 harg4 arg5 harg5 arg6 harg6 arg7 harg7 arg8 harg8 arg9 harg9 arg10 harg10 arg11 harg11 arg12 harg12 arg13 harg13 arg14 harg14 hc0 x3 x4 x5 x6 x7 x8 x9 x10 x11 xt).2.1 = colRanks x5 :=
  Eq.trans (b := View.read (Elt F) arg14.view (arg14.view.writes (Elt F) arg14.view.junk (View.tilePieces (Val := Elt F) (e := .f32) S32x128.size
      (fun i : Fin 12 => (![0, 128 * i.val] : Fin 2 → ℕ)) (fun i => cols_inb i.val i.isLt)
      (fun i => colBlock (colLoad c arg5 (harg5.unread x5)) i.val) 12 le_rfl)))
    rfl (read_cols arg14.view _ _ x5 fun b hb => colLoad_eq c arg5 harg5 x5 b hb)

theorem found {α β : Type} {Q : α → β → Prop} (p : Σ' a, { b // Q a b }) {a : α} {b : β} (h : p.1 = a) (h' : p.2.1 = b) : Q a b := by
  obtain ⟨_, _, q⟩ := p
  subst h
  subst h'
  exact q

/-- The body at the first point of a tile: from any contents of its output and scratch buffers it leaves the
    tile's ranks in the scratch buffers, and the output block as from zeros. -/
theorem run_tile (c : Dev nD) (i : grid0.Coords) (arg3 : Memref sig .tc .vmem S1536x1024 .bf16) (harg3 : arg3.IsWhole) (arg4 : Memref sig .tc .vmem S1536x32 .f32) (harg4 : arg4.IsWhole) (arg5 : Memref sig .tc .vmem S32x1536 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1536x1024 .f32) (harg12 : arg12.IsWhole) (arg13 : Memref sig .tc .vmem S1536x32 .f32) (harg13 : arg13.IsWhole) (arg14 : Memref sig .tc .vmem S32x1536 .f32) (harg14 : arg14.IsWhole) (hc0 : cond0_0 i)
    (x3 : Vec F S1536x1024 .bf16) (x4 : Vec F S1536x32 .f32) (x5 : Vec F S32x1536 .f32) (x6 x7 : Vec F S1x1024x1024 .bf16) (x8 x9 : Vec F S1x1x1024 .f32) (x10 : Vec F S1x1024x1024 .bf16) (x11 : Vec F S1x1x1024 .f32) (xt : TbBuf0 (F := F) c tbM0_0) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ tbPt0 c tbM0_0 xt
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (bodyOut i x3 x4 x5 x6 x7 x8 x9 x10 x11 (rowRanks x4) (colRanks x5) (tbM0_0.view.readAt (Elt F) (Rect.unit (s := S384) (k0_off2 i) S1.size (k0_off2_inb i)).toLoadRect xt (Shape.Idx.first (numel1_S1.symm ▸ Nat.one_pos))) (k0_pay3 (F := F))) ∗ owns (c : Thread nD τ) arg13 fullShare (rowRanks x4) ∗ owns (c : Thread nD τ) arg14 fullShare (colRanks x5) ∗ tbPt0 c tbM0_0 xt) -∗ K ⟨⟩))
      ⊢ wp frame (wpE (defs₀ (F := F)) Variants.none c none) E (cc0_moe_experts i tbM0_0 htbM0_0 arg3 harg3 arg4 harg4 arg5 harg5 arg6 harg6 arg7 harg7 arg8 harg8 arg9 harg9 arg10 harg10 arg11 harg11 arg12 harg12 arg13 harg13 arg14 harg14) K :=
  found (run_first c i arg3 harg3 arg4 harg4 arg5 harg5 arg6 harg6 arg7 harg7 arg8 harg8 arg9 harg9 arg10 harg10 arg11 harg11 arg12 harg12 arg13 harg13 arg14 harg14 hc0 x3 x4 x5 x6 x7 x8 x9 x10 x11 xt) (run_first_rows c i arg3 harg3 arg4 harg4 arg5 harg5 arg6 harg6 arg7 harg7 arg8 harg8 arg9 harg9 arg10 harg10 arg11 harg11 arg12 harg12 arg13 harg13 arg14 harg14 hc0 x3 x4 x5 x6 x7 x8 x9 x10 x11 xt) (run_first_cols c i arg3 harg3 arg4 harg4 arg5 harg5 arg6 harg6 arg7 harg7 arg8 harg8 arg9 harg9 arg10 harg10 arg11 harg11 arg12 harg12 arg13 harg13 arg14 harg14 hc0 x3 x4 x5 x6 x7 x8 x9 x10 x11 xt) E K

end Cert.Moe

end
-- ==== Proof.Launch.lean ====
module

public import proofs.«01_k».proof.Proof.Ranks
public import Idealize.ShloMosaic.Lib.Claim

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The launch

What the output block holds after each grid point, the ranks that the scratch buffers carry from the
first point of a tile to its others, and the run of the whole program. -/

variable (m : (ℓ : Loc nD τ sig) → Buf (Elt F) ℓ) (ρ : Dev nD → PrngReg)

theorem ok : Ok m := by first | trivial | exact True.intro

/-- The count word of a point: how many rows of its tile are selected for its expert. -/
def countAt (i : grid0.Coords) : Elt F .i32 :=
  View.readAt (Elt F) (View.whole main_v32) (Rect.unit (s := S384) (k0_off2 i) S1.size (k0_off2_inb i)).toLoadRect (tbl m 0)
    (Shape.Idx.first (numel1_S1.symm ▸ Nat.one_pos))

/-- The output block after point `t`, from the block as the point finds it. -/
def stepAt (hO : Ok m) (c : Dev nD) (t : Fin (cfgM m hO).N) (acc : Vec F S1536x1024 .f32) : Vec F S1536x1024 .f32 :=
  bodyOut (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (rowRanks (iblk m hO c 1 t)) (colRanks (iblk m hO c 2 t)) (countAt m (grid0.coords t)) acc

/-- The output block after each point: zeros at the first point of a tile, then one step per expert. -/
def outsAt (hO : Ok m) (c : Dev nD) : (n : ℕ) → n < (cfgM m hO).N → Vec F S1536x1024 .f32
  | 0, hn => stepAt m hO c ⟨0, hn⟩ (k0_pay3 (F := F))
  | n + 1, hn => stepAt m hO c ⟨n + 1, hn⟩ (if (n + 1) % 32 = 0 then k0_pay3 (F := F) else outsAt hO c n (Nat.lt_of_succ_lt hn))

theorem outsAt_first (hO : Ok m) (c : Dev nD) (t : Fin (cfgM m hO).N) (h0 : t.val % 32 = 0) :
    outsAt m hO c t.val t.isLt = stepAt m hO c t (k0_pay3 (F := F)) := by
  obtain ⟨n, hn⟩ := t
  cases n with
  | zero => rfl
  | succ n => exact congrArg (stepAt m hO c ⟨n + 1, hn⟩) (if_pos h0)

theorem outsAt_later (hO : Ok m) (c : Dev nD) (t : Fin (cfgM m hO).N) (h0 : ¬t.val % 32 = 0) :
    outsAt m hO c t.val t.isLt = stepAt m hO c t (outsAt m hO c (t.val - 1) (Nat.lt_of_le_of_lt (Nat.sub_le _ _) t.isLt)) := by
  obtain ⟨n, hn⟩ := t
  cases n with
  | zero => exact absurd (Nat.zero_mod _) h0
  | succ n => exact congrArg (stepAt m hO c ⟨n + 1, hn⟩) (if_neg h0)

/-- The scratch buffers and the generator register before point `n`: after a point they hold the ranks of its tile. -/
def scratch (hO : Ok m) (c : Dev nD) : ℕ → sProp 𝕄
  | 0 => Pipeline.ΦA spec0 c
  | n + 1 => if h : n < (cfgM m hO).N then
      iprop(iprop(owns (c : Thread nD τ) scM0_0 fullShare (rowRanks (F := F) (iblk m hO c 1 ⟨n, h⟩))
        ∗ owns (c : Thread nD τ) scM0_1 fullShare (colRanks (F := F) (iblk m hO c 2 ⟨n, h⟩))) ∗ (∃ r, prngReg c r))
    else Pipeline.ΦA spec0 c

theorem scratch_succ (hO : Ok m) (c : Dev nD) (n : ℕ) (h : n < (cfgM m hO).N) :
    scratch m hO c (n + 1) = iprop(iprop(owns (c : Thread nD τ) scM0_0 fullShare (rowRanks (F := F) (iblk m hO c 1 ⟨n, h⟩))
        ∗ owns (c : Thread nD τ) scM0_1 fullShare (colRanks (F := F) (iblk m hO c 2 ⟨n, h⟩))) ∗ (∃ r, prngReg c r)) := dif_pos h

theorem scratch_weaken (hO : Ok m) (c : Dev nD) (n : ℕ) : scratch m hO c n ⊢ (Pipeline.ΦA spec0 c : sProp 𝕄) := by
  cases n with
  | zero => exact .rfl
  | succ n =>
    by_cases h : n < (cfgM m hO).N
    · rw [scratch_succ m hO c n h, PhiA0_eq]
      iintro ⟨⟨H0, H1⟩, Hg⟩
      isplitl [H0 H1]
      · isplitl [H0]
        · iexists _; iexact H0
        iexists _; iexact H1
      iexact Hg
    · rw [show scratch m hO c (n + 1) = Pipeline.ΦA spec0 c from dif_neg h]

/-- The proof data of the pipeline: each input's buffer keeps its block, the output's holds `outsAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => outsAt m hO c t.val t.isLt
  Φ t := iprop(scratch m hO c t.val ∗ Pipeline.ΦT pre0 (tbl m) c)
  q w := Pipeline.shareOf spec0 w
  owed _ := 0

theorem dats_A (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = iblk m hO c 7 t := by dsimp only [dats]; try rfl
theorem after_8 (hO : Ok m) (c : Dev nD) (t : Fin (cfgM m hO).N) : (dats m hO 0 c).after 8 t = iblk m hO c 8 t := by dsimp only [dats]; try rfl
theorem after_9 (hO : Ok m) (c : Dev nD) (t : Fin (cfgM m hO).N) : (dats m hO 0 c).after 9 t = outsAt m hO c t.val t.isLt := by dsimp only [dats]; try rfl

theorem before_0 (hO : Ok m) (c : Dev nD) (t : Fin (cfgM m hO).N) (d) : (dats m hO 0 c).before 0 t d = iblk m hO c 0 t :=
  before0_0_of m hO (dats m hO 0 c) (dats_A m hO c 0) (after_0 m hO c) t d
theorem before_1 (hO : Ok m) (c : Dev nD) (t : Fin (cfgM m hO).N) (d) : (dats m hO 0 c).before 1 t d = iblk m hO c 1 t :=
  before0_1_of m hO (dats m hO 0 c) (dats_A m hO c 1) (after_1 m hO c) t d
theorem before_2 (hO : Ok m) (c : Dev nD) (t : Fin (cfgM m hO).N) (d) : (dats m hO 0 c).before 2 t d = iblk m hO c 2 t :=
  before0_2_of m hO (dats m hO 0 c) (dats_A m hO c 2) (after_2 m hO c) t d
theorem before_3 (hO : Ok m) (c : Dev nD) (t : Fin (cfgM m hO).N) (d) : (dats m hO 0 c).before 3 t d = iblk m hO c 3 t :=
  before0_3_of m hO (dats m hO 0 c) (dats_A m hO c 3) (after_3 m hO c) t d
theorem before_4 (hO : Ok m) (c : Dev nD) (t : Fin (cfgM m hO).N) (d) : (dats m hO 0 c).before 4 t d = iblk m hO c 4 t :=
  before0_4_of m hO (dats m hO 0 c) (dats_A m hO c 4) (after_4 m hO c) t d
theorem before_5 (hO : Ok m) (c : Dev nD) (t : Fin (cfgM m hO).N) (d) : (dats m hO 0 c).before 5 t d = iblk m hO c 5 t :=
  before0_5_of m hO (dats m hO 0 c) (dats_A m hO c 5) (after_5 m hO c) t d
theorem before_6 (hO : Ok m) (c : Dev nD) (t : Fin (cfgM m hO).N) (d) : (dats m hO 0 c).before 6 t d = iblk m hO c 6 t :=
  before0_6_of m hO (dats m hO 0 c) (dats_A m hO c 6) (after_6 m hO c) t d
theorem before_7 (hO : Ok m) (c : Dev nD) (t : Fin (cfgM m hO).N) (d) : (dats m hO 0 c).before 7 t d = iblk m hO c 7 t :=
  before0_7_of m hO (dats m hO 0 c) (dats_A m hO c 7) (after_7 m hO c) t d
theorem before_8 (hO : Ok m) (c : Dev nD) (t : Fin (cfgM m hO).N) (d) : (dats m hO 0 c).before 8 t d = iblk m hO c 8 t :=
  before0_8_of m hO (dats m hO 0 c) (dats_A m hO c 8) (after_8 m hO c) t d

/-- Inside a tile the output's buffer holds what the point before left. -/
theorem before_9 (hO : Ok m) (c : Dev nD) (t : Fin (cfgM m hO).N) (h0 : ¬t.val % 32 = 0) (d) :
    (dats m hO 0 c).before 9 t d = outsAt m hO c (t.val - 1) (Nat.lt_of_le_of_lt (Nat.sub_le _ _) t.isLt) := by
  have hN : t.val < 384 := lt_of_lt_of_eq t.isLt (show (cfgM m hO).N = 384 from N_0)
  rw [Dat.before_out_kept _ 9 rfl t (by omega) (Bool.eq_false_iff.mpr fun h => by have := (flush0_9 (adm m hO) _).mp h; dsimp only at this; omega)
    (fun _ => rfl) (fun _ _ => rfl)]
  dsimp only [dats]
  try rfl

/-- Inside a tile, window 1's block is the one of the point before. -/
theorem tile_1 (hO : Ok m) (c : Dev nD) (t : Fin (cfgM m hO).N) (h0 : ¬t.val % 32 = 0) :
    iblk m hO c 1 t = iblk m hO c 1 ⟨t.val - 1, Nat.lt_of_le_of_lt (Nat.sub_le _ _) t.isLt⟩ := by
  have hf : ((cfgM m hO).win 1).fetch t = false := Bool.eq_false_iff.mpr fun h => h0 ((fetch0_1 (adm m hO) t).mp h)
  obtain ⟨-, hix⟩ := ((cfgM m hO).win 1).index_eq_of_fetch rfl t hf
  have e : ∀ t', (dats m hO 0 c).fetched 1 t' (iblk m hO c 1 t) = iblk m hO c 1 t' := fun t' => by
    unfold Dat.fetched Dat.blockOf iblk; rw [dats_A m hO c 1]; try rfl
  exact (e t).symm.trans (((dats m hO 0 c).fetched_congr 1 hix rfl _).trans (e _))

/-- Inside a tile, window 2's block is the one of the point before. -/
theorem tile_2 (hO : Ok m) (c : Dev nD) (t : Fin (cfgM m hO).N) (h0 : ¬t.val % 32 = 0) :
    iblk m hO c 2 t = iblk m hO c 2 ⟨t.val - 1, Nat.lt_of_le_of_lt (Nat.sub_le _ _) t.isLt⟩ := by
  have hf : ((cfgM m hO).win 2).fetch t = false := Bool.eq_false_iff.mpr fun h => h0 ((fetch0_2 (adm m hO) t).mp h)
  obtain ⟨-, hix⟩ := ((cfgM m hO).win 2).index_eq_of_fetch rfl t hf
  have e : ∀ t', (dats m hO 0 c).fetched 2 t' (iblk m hO c 2 t) = iblk m hO c 2 t' := fun t' => by
    unfold Dat.fetched Dat.blockOf iblk; rw [dats_A m hO c 2]; try rfl
  exact (e t).symm.trans (((dats m hO 0 c).fetched_congr 2 hix rfl _).trans (e _))

theorem Phi_castSucc (hO : Ok m) (c : Dev nD) (t : Fin (cfgM m hO).N) :
    (dats m hO 0 c).Φ t.castSucc = iprop(scratch m hO c t.val ∗ Pipeline.ΦT pre0 (tbl m) c) := by
  dsimp only [dats, Fin.val_castSucc]

theorem Phi_succ (hO : Ok m) (c : Dev nD) (t : Fin (cfgM m hO).N) :
    (dats m hO 0 c).Φ t.succ = iprop(scratch m hO c (t.val + 1) ∗ Pipeline.ΦT pre0 (tbl m) c) := by
  dsimp only [dats, Fin.val_succ]

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)) ∗ (∃ d, owns (c : Thread nD τ) (ms0_3 m hO t) fullShare ((dats m hO 0 c).before 3 t d)) ∗ (∃ d, owns (c : Thread nD τ) (ms0_4 m hO t) fullShare ((dats m hO 0 c).before 4 t d)) ∗ (∃ d, owns (c : Thread nD τ) (ms0_5 m hO t) fullShare ((dats m hO 0 c).before 5 t d)) ∗ (∃ d, owns (c : Thread nD τ) (ms0_6 m hO t) fullShare ((dats m hO 0 c).before 6 t d)) ∗ (∃ d, owns (c : Thread nD τ) (ms0_7 m hO t) fullShare ((dats m hO 0 c).before 7 t d)) ∗ (∃ d, owns (c : Thread nD τ) (ms0_8 m hO t) fullShare ((dats m hO 0 c).before 8 t d)) ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t) ∗ owns (c : Thread nD τ) (ms0_3 m hO t) fullShare ((dats m hO 0 c).after 3 t) ∗ owns (c : Thread nD τ) (ms0_4 m hO t) fullShare ((dats m hO 0 c).after 4 t) ∗ owns (c : Thread nD τ) (ms0_5 m hO t) fullShare ((dats m hO 0 c).after 5 t) ∗ owns (c : Thread nD τ) (ms0_6 m hO t) fullShare ((dats m hO 0 c).after 6 t) ∗ owns (c : Thread nD τ) (ms0_7 m hO t) fullShare ((dats m hO 0 c).after 7 t) ∗ owns (c : Thread nD τ) (ms0_8 m hO t) fullShare ((dats m hO 0 c).after 8 t) ∗ owns (c : Thread nD τ) (ms0_9 m hO t) fullShare ((dats m hO 0 c).after 9 t))

set_option maxHeartbeats 2400000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before_0, before_1, before_2, before_3, before_4, before_5, before_6, before_7, before_8]
  rw [Phi_succ m hO c t,
    show (dats m hO 0 c).owesAt () t.succ = (dats m hO 0 c).owesAt () t.castSucc from rfl,
    after_0, after_1, after_2, after_3, after_4, after_5, after_6, after_7, after_8, after_9]
  rw [Phi_castSucc m hO c t, PhiT0_eq, scratch_succ m hO c t.val t.isLt]
  have hN : t.val < 384 := lt_of_lt_of_eq t.isLt (show (cfgM m hO).N = 384 from N_0)
  by_cases h0 : t.val % 32 = 0
  · rw [outsAt_first m hO c t h0]
    refine (sep_mono (sep_mono (scratch_weaken m hO c t.val) .rfl) .rfl).trans ?_
    rw [PhiA0_eq]
    iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_tile (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HT0]; · iexact HT0
    iintro ⟨H0, H1, H2, H3, H4, H5, H6, H7, H8, H9, HS0, HS1, HT0⟩
    isplitl [HS0 HS1 Hg HT0]
    · isplitl [HS0 HS1 Hg]
      · isplitl [HS0 HS1]
        · isplitl [HS0]
          · iexact HS0
          iexact HS1
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [outsAt_later m hO c t h0]
    simp only [before_9 m hO c t h0]
    rw [show scratch m hO c t.val = iprop(iprop(owns (c : Thread nD τ) scM0_0 fullShare (rowRanks (F := F) (iblk m hO c 1 t))
        ∗ owns (c : Thread nD τ) scM0_1 fullShare (colRanks (F := F) (iblk m hO c 2 t))) ∗ (∃ r, prngReg c r)) from by
      rw [tile_1 m hO c t h0, tile_2 m hO c t h0]
      have e : t.val = (t.val - 1) + 1 := by omega
      exact (congrArg (scratch m hO c) e).trans (scratch_succ m hO c (t.val - 1) _)]
    iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HT0]; · iexact HT0
    iintro ⟨H0, H1, H2, H3, H4, H5, H6, H7, H8, H9, HS0, HS1, HT0⟩
    isplitl [HS0 HS1 Hg HT0]
    · isplitl [HS0 HS1 Hg]
      · isplitl [HS0 HS1]
        · isplitl [HS0]
          · iexact HS0
          iexact HS1
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs_row m hO]
  exact triple_restated (sound_body m hO c t) rfl .rfl fun _ => .rfl

set_option backward.isDefEq.respectTransparency.types false in
/-- The run of the whole program: the pipeline's arrays end at what the proof data say, and every counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := dats_A m hO) (hpf := V_pre m)
    (hin := fun c => BI.Entails.refl _)
    (hout := fun c => (sep_mono (scratch_weaken m hO c _) .rfl).trans (by iintro ⟨H, -⟩; iexact H))

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (ok m) (dats m (ok m)) (dats_A m (ok m)) (run_main m ρ (ok m)))
    ((θ_run defs _ _).mono (fun _ h => h.2) (run_main_quiescent m ρ (ok m)))

end Cert.Moe

end
-- ==== Proof.Same.lean ====
/- The kernel read at machine floats and the kernel read at extended reals are printed from one text: their
   programs are equal, so the run written for one serves the frame of the other. -/
module

public import proofs.«01_k».proof.Defs
public import proofs.«01_k».proof.Proof.Gen.Kernel
public import proofs.«01_k».proof.Proof.Gen.KernelIdeal
public import proofs.«01_k».proof.Proof.Launch

@[expose] public section

noncomputable section

namespace Cert.Moe

open Idealize.ShloMosaic Idealize.SL.Sem

variable {F : FTy → Type} [FloatOps F]

set_option maxHeartbeats 3000000 in
theorem main_same : Cert.Kernel.main (F := F) = Cert.KernelIdeal.main (F := F) := by
  funext c
  simp only [Cert.Kernel.main, Cert.KernelIdeal.main, Cert.Kernel.fn_where.body, Cert.KernelIdeal.fn_where.body,
    Cert.Kernel.fn_pad.body, Cert.KernelIdeal.fn_pad.body, Cert.Kernel.fn_pad_0.body, Cert.KernelIdeal.fn_pad_0.body]
  rfl

set_option maxHeartbeats 1000000 in
theorem body_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l, a with
  | ⟨0, _⟩, (t, s) => rfl

set_option maxHeartbeats 1000000 in
theorem defs_same : Cert.Kernel.defs (F := F) = Cert.KernelIdeal.defs (F := F) := by
  unfold Cert.Kernel.defs Cert.KernelIdeal.defs
  exact congrArg (Pipeline.defs Cert.KernelIdeal.pcfgs) body_same

open Cert.KernelIdeal in
theorem frame_of_same (m : (ℓ : Loc nD τ sig) → Buf (Elt F) ℓ) (ρ : Dev nD → PrngReg)
    (d : Defs nD τ sig (Elt F) (Pipeline.Sig Λ₀ (Fin 1) fun p => (pcfgs (F := F) p).Adm)) (hd : d = defs (F := F))
    (p : Dev nD → Prog (TpuEff nD τ sig (Elt F) (Pipeline.Sig Λ₀ (Fin 1) fun p => (pcfgs (F := F) p).Adm) .tc) PUnit) (hp : p = main (F := F)) :
    θ_run d (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  subst hd
  subst hp
  exact frame_any m ρ

set_option maxHeartbeats 1000000 in
theorem frame_kernel : Cert.quiescent_Kernel (hKernel := Cert.Kernel.Gen.facts) :=
  fun m ρ _ => frame_of_same (F := Bits) m ρ Cert.Kernel.defs defs_same Cert.Kernel.main main_same

end Cert.Moe

end
-- ==== Proof.Chunk.lean ====
module

public import proofs.«01_k».proof.Proof.Ranks
public import Idealize.ShloMosaic.Lib.Pointwise
public import Idealize.ShloMosaic.Lib.KernelVsHost

@[expose] public section

set_option maxRecDepth 16384

noncomputable section

namespace Cert.Moe

open Cert.KernelIdeal Cert.KernelIdeal.Gen
open Idealize.ShloMosaic Idealize.ShloMosaic.TcCoe

/-! # One pass over a chunk, over the extended reals

The rows whose gate is positive are numbered in order by `rank`. The pass over chunk `k` adds to each
row whose number lies in `[256 k, 256 k + 256)` the expert's output at that row times the row's gate, and to
every other row nothing: of the two 0/1 matrices the first picks exactly that row, the second brings the result
back to it. -/

/-! ## Numbers as extended reals -/

/-- A natural number as an extended real. -/
def num (n : ℕ) : EReal := ((n : ℝ) : EReal)

theorem num_zero : num 0 = 0 := by simp [num]

theorem num_add (a b : ℕ) : num (a + b) = num a + num b := by
  unfold num; push_cast; rfl

theorem num_sub_eq (a b s : ℕ) : num a - num b = num s ↔ a = b + s := by
  unfold num
  rw [← EReal.coe_sub, EReal.coe_eq_coe_iff]
  constructor
  · intro h
    have h' : ((a : ℕ) : ℝ) = ((b + s : ℕ) : ℝ) := by push_cast; linarith
    exact_mod_cast h'
  · intro h; subst h; push_cast; ring

/-- A sum of 0/1 values is a count. -/
theorem sum_one_zero {ι : Type} [DecidableEq ι] (S : Finset ι) (p : ι → Prop) [DecidablePred p] :
    ∑ i ∈ S, (if p i then (1 : EReal) else 0) = num (S.filter p).card := by
  induction S using Finset.induction_on with
  | empty => simp [num]
  | insert a S ha ih =>
    rw [Finset.sum_insert ha, ih, Finset.filter_insert]
    by_cases h : p a
    · rw [if_pos h, if_pos h, Finset.card_insert_of_notMem (fun hm => ha (Finset.mem_filter.1 hm).1), Nat.add_comm, num_add]
      simp [num]
    · rw [if_neg h, if_neg h, zero_add]

theorem sitofp_ofNat (n : ℕ) (hn : n < 2 ^ 31) : (FloatOps.sitofp (F := Ideal) .f32 (BitVec.ofNat 32 n) : EReal) = num n := by
  show ((((BitVec.ofNat 32 n).toInt : ℤ) : ℝ) : EReal) = num n
  have : (BitVec.ofNat 32 n).toInt = (n : ℤ) := by
    rw [BitVec.toInt_eq_toNat_of_lt] <;> simp [BitVec.toNat_ofNat] <;> omega
  rw [this]; simp [num]

theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-! ## Ranks -/

/-- The number of positive entries before `r`. -/
def rank (g : Fin 1536 → EReal) (r : Fin 1536) : ℕ := (Finset.univ.filter fun r' : Fin 1536 => r' < r ∧ 0 < g r').card

/-- The number of positive entries. -/
def total (g : Fin 1536 → EReal) : ℕ := (Finset.univ.filter fun r' : Fin 1536 => 0 < g r').card

theorem rank_le (g : Fin 1536 → EReal) (r : Fin 1536) : rank g r ≤ 1536 :=
  (Finset.card_le_univ _).trans (by simp)

theorem total_le (g : Fin 1536 → EReal) : total g ≤ 1536 :=
  (Finset.card_le_univ _).trans (by simp)

theorem rank_lt_rank (g : Fin 1536 → EReal) {r r' : Fin 1536} (h : r < r') (hr : 0 < g r) : rank g r < rank g r' := by
  refine Finset.card_lt_card (Finset.ssubset_iff_subset_ne.2 ⟨fun x hx => ?_, fun he => ?_⟩)
  · simp only [Finset.mem_filter, Finset.mem_univ, true_and] at hx ⊢
    exact ⟨hx.1.trans h, hx.2⟩
  · have : r ∈ (Finset.univ.filter fun x : Fin 1536 => x < r ∧ 0 < g x) := by
      rw [he]; simp [h, hr]
    simp at this

theorem rank_lt_total (g : Fin 1536 → EReal) {r : Fin 1536} (hr : 0 < g r) : rank g r < total g := by
  refine Finset.card_lt_card (Finset.ssubset_iff_subset_ne.2 ⟨fun x hx => ?_, fun he => ?_⟩)
  · simp only [Finset.mem_filter, Finset.mem_univ, true_and] at hx ⊢
    exact hx.2
  · have : r ∈ (Finset.univ.filter fun x : Fin 1536 => x < r ∧ 0 < g x) := by
      rw [he]; simp [hr]
    simp at this

theorem rank_inj (g : Fin 1536 → EReal) {r r' : Fin 1536} (hr : 0 < g r) (hr' : 0 < g r') (h : rank g r = rank g r') : r = r' := by
  rcases lt_trichotomy r r' with hl | he | hl
  · exact absurd h (rank_lt_rank g hl hr).ne
  · exact he
  · exact absurd h (rank_lt_rank g hl hr').ne'

/-! ## The expert -/

/-- The gated unit of an expert, from the gate part and the linear part of its first product. -/
def gated (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- An expert applied to a row. -/
def expert (w1g w1l : Fin 1024 → Fin 1024 → EReal) (b1g b1l : Fin 1024 → EReal) (w2 : Fin 1024 → Fin 1024 → EReal) (b2 : Fin 1024 → EReal)
    (row : Fin 1024 → EReal) (d : Fin 1024) : EReal :=
  (∑ f : Fin 1024, gated ((∑ k : Fin 1024, row k * w1g k f) + b1g f) ((∑ k : Fin 1024, row k * w1l k f) + b1l f) * w2 f d) + b2 d

/-- The expert whose blocks the body loads. -/
def expertOf (x6 x7 : Vec Ideal S1x1024x1024 .bf16) (x8 x9 : Vec Ideal S1x1x1024 .f32) (x10 : Vec Ideal S1x1024x1024 .bf16) (x11 : Vec Ideal S1x1x1024 .f32)
    (row : Fin 1024 → EReal) (d : Fin 1024) : EReal :=
  expert (fun k f => x6 (ix3 0 k f)) (fun k f => x7 (ix3 0 k f)) (fun f => x8 (ix3 0 0 f)) (fun f => x9 (ix3 0 0 f)) (fun f d => x10 (ix3 0 f d)) (fun d => x11 (ix3 0 0 d)) row d

/-! ## The operations of a pass -/

set_option maxHeartbeats 400000 in
/-- What the expert's two products make of row `s` of a chunk. -/
theorem pay93_apply (v87 : FVec Ideal S256x1024 .bf16) (v93 : FVec Ideal S256x1 .f32) (v100 : FVec Ideal S256x1024 .f32) (w1l : Vec Ideal S1x1024x1024 .bf16) (b1l : Vec Ideal S1x1x1024 .f32) (w2 : Vec Ideal S1x1024x1024 .bf16) (b2 : Vec Ideal S1x1x1024 .f32) (s : Fin 256) (d : Fin 1024) :
    k0_pay93 v87 v93 v100 (Ideal.ofBits .f32 0x40E00000#32) w1l b1l w2 b2 (ix2 s d)
      = ((∑ f : Fin 1024, gated (v100 (ix2 s f)) ((∑ k : Fin 1024, v87 (ix2 s k) * w1l (ix3 0 k f)) + b1l (ix3 0 0 f)) * w2 (ix3 0 f d)) + b2 (ix3 0 0 d)) * v93 (ix2 s 0) := by
  unfold k0_pay93
  simp only [pointwise, zero_add]
  rfl

theorem base_eq (k : ℕ) (hk : k < 1536) : (((Scalar.muli (Scf.iv 0#32 1#32 k) 256#32).toInt : ℝ) : EReal) = num (256 * k) := by
  have h : (Scalar.muli (Scf.iv 0#32 1#32 k) 256#32) = BitVec.ofNat 32 (256 * k) := by
    refine BitVec.eq_of_toNat_eq ?_
    simp only [Scalar.muli, Scf.iv, IntOp.muli, BitVec.toNat_mul, BitVec.toNat_add, BitVec.toNat_ofNat]
    omega
  rw [h]
  have : (BitVec.ofNat 32 (256 * k)).toInt = ((256 * k : ℕ) : ℤ) := by
    rw [BitVec.toInt_eq_toNat_of_lt] <;> simp only [BitVec.toNat_ofNat] <;> omega
  rw [this]; unfold num; push_cast; rfl

section Pass

variable (g : Fin 1536 → EReal) (v33 : BitVec 32) (k : Fin (k0_t1_loop v33).trips) (hk : k.val < 1536)
include hk

/-- The gathered rows of a chunk. -/
theorem pay88_apply (v23 v25 : Vec Ideal S1x1536 .f32) (h23 : ∀ r, v23 (ix2 0 r) = g r) (h25 : ∀ r, v25 (ix2 0 r) = num (rank g r))
    (x3 : Vec Ideal S1536x1024 .bf16) (s : Fin 256) (j : Fin 1024) :
    k0_pay88 v23 v25 k0_pay107 v33 0#32 1#32 k x3 (ix2 s j)
      = ∑ r : Fin 1536, if rank g r = 256 * k.val + s.val ∧ 0 < g r then x3 (ix2 r j) else 0 := by
  unfold k0_pay88 k0_pay86 k0_pay85 k0_pay107
  simp only [pointwise, zero_add]
  refine Finset.sum_congr rfl fun r _ => ?_
  rw [select_and, base_eq _ hk]
  refine if_congr (and_congr ?_ ?_) (one_mul _) rfl
  · refine Iff.trans (Eq.to_iff ?_) (num_sub_eq (rank g r) (256 * k.val) s.val)
    refine congrArg₂ (fun a b : EReal => a - num (256 * k.val) = b) (h25 r) ?_
    refine (sitofp_ofNat _ ?_).trans (congrArg num ?_)
    · show 0 * 256 + s.val < 2 ^ 31
      omega
    · show 0 * 256 + s.val = s.val
      omega
  · exact Eq.to_iff (congrArg (fun a : EReal => 0 < a) (h23 r))

/-- The gates of the rows of a chunk. -/
theorem pay89_apply (v23 v25 : Vec Ideal S1x1536 .f32) (h23 : ∀ r, v23 (ix2 0 r) = g r) (h25 : ∀ r, v25 (ix2 0 r) = num (rank g r)) (s : Fin 256) :
    k0_pay89 v23 v25 k0_pay107 v33 0#32 1#32 k (ix2 s 0)
      = ∑ r : Fin 1536, if rank g r = 256 * k.val + s.val ∧ 0 < g r then g r else 0 := by
  unfold k0_pay89 k0_pay86 k0_pay85 k0_pay107
  simp only [pointwise, zero_add]
  refine Finset.sum_congr rfl fun r _ => ?_
  rw [select_and, base_eq _ hk]
  refine if_congr (and_congr ?_ ?_) (h23 r) rfl
  · refine Iff.trans (Eq.to_iff ?_) (num_sub_eq (rank g r) (256 * k.val) s.val)
    refine congrArg₂ (fun a b : EReal => a - num (256 * k.val) = b) (h25 r) ?_
    refine (sitofp_ofNat _ ?_).trans (congrArg num ?_)
    · show 0 * 256 + s.val < 2 ^ 31
      omega
    · show 0 * 256 + s.val = s.val
      omega
  · exact Eq.to_iff (congrArg (fun a : EReal => 0 < a) (h23 r))

/-- The matrix that brings the rows of a chunk back. -/
theorem pay92_apply (v13 v20 : FVec Ideal S1536x1 .f32) (h13 : ∀ r, v13 (ix2 r 0) = g r) (h20 : ∀ r, v20 (ix2 r 0) = num (rank g r)) (r : Fin 1536) (s : Fin 256) :
    k0_pay92 (F := Ideal) (k0_pay87 v13 v20 k0_pay108 v33 0#32 1#32 k) (ix2 r s)
      = if rank g r = 256 * k.val + s.val ∧ 0 < g r then 1 else 0 := by
  unfold k0_pay92 k0_pay87 k0_pay85 k0_pay108
  simp only [pointwise, zero_add]
  rw [select_and, base_eq _ hk]
  refine if_congr (and_congr ?_ ?_) rfl rfl
  · refine Iff.trans (Eq.to_iff ?_) (num_sub_eq (rank g r) (256 * k.val) s.val)
    refine congrArg₂ (fun a b : EReal => a - num (256 * k.val) = b) (h20 r) ?_
    refine (sitofp_ofNat _ ?_).trans (congrArg num ?_)
    · show 0 * 256 + s.val < 2 ^ 31
      omega
    · show 0 * 256 + s.val = s.val
      omega
  · exact Eq.to_iff (congrArg (fun a : EReal => 0 < a) (h13 r))

/-- The gate part of the first product, at row `s` of a chunk. -/
theorem pay90_apply (v23 v25 : Vec Ideal S1x1536 .f32) (x3 : Vec Ideal S1536x1024 .bf16) (x6 : Vec Ideal S1x1024x1024 .bf16) (x8 : Vec Ideal S1x1x1024 .f32) (s : Fin 256) (f : Fin 1024) :
    k0_pay90 v23 v25 k0_pay107 v33 0#32 1#32 k x3 x6 x8 (ix2 s f)
      = (∑ j : Fin 1024, k0_pay88 v23 v25 k0_pay107 v33 0#32 1#32 k x3 (ix2 s j) * x6 (ix3 0 j f)) + x8 (ix3 0 0 f) := by
  unfold k0_pay90
  simp only [pointwise, zero_add]
  rfl

/-- A sum that picks the row of rank `n`. -/
theorem sum_pick (y : Fin 1536 → EReal) (r : Fin 1536) (hr : 0 < g r) (n : ℕ) (hn : rank g r = n) :
    (∑ r' : Fin 1536, if rank g r' = n ∧ 0 < g r' then y r' else 0) = y r := by
  rw [Finset.sum_eq_single r]
  · rw [if_pos ⟨hn, hr⟩]
  · intro r' _ hne
    rw [if_neg]
    rintro ⟨h1, h2⟩
    exact hne (rank_inj g h2 hr (h1.trans hn.symm))
  · intro h; exact absurd (Finset.mem_univ _) h

set_option maxHeartbeats 400000 in
/-- What a pass adds to an entry of the output block. -/
theorem pass_apply (v13 v20 : FVec Ideal S1536x1 .f32) (v23 v25 : Vec Ideal S1x1536 .f32)
    (h13 : ∀ r, v13 (ix2 r 0) = g r) (h20 : ∀ r, v20 (ix2 r 0) = num (rank g r))
    (h23 : ∀ r, v23 (ix2 0 r) = g r) (h25 : ∀ r, v25 (ix2 0 r) = num (rank g r))
    (x3 : Vec Ideal S1536x1024 .bf16) (x6 x7 : Vec Ideal S1x1024x1024 .bf16) (x8 x9 : Vec Ideal S1x1x1024 .f32) (x10 : Vec Ideal S1x1024x1024 .bf16) (x11 : Vec Ideal S1x1x1024 .f32)
    (acc : Vec Ideal S1536x1024 .f32) (r : Fin 1536) (d : Fin 1024) :
    pass v13 v20 v23 v25 k0_pay107 k0_pay108 v33 k x3 x6 x7 x8 x9 x10 x11 acc (ix2 r d)
      = acc (ix2 r d) + if 0 < g r ∧ rank g r / 256 = k.val then expertOf x6 x7 x8 x9 x10 x11 (fun j => x3 (ix2 r j)) d * g r else 0 := by
  unfold pass k0_pay1 k0_pay91
  simp only [pointwise, zero_add]
  refine congrArg (acc (ix2 r d) + ·) ?_
  simp only [pay92_apply g v33 k hk v13 v20 h13 h20]
  by_cases hr : 0 < g r ∧ rank g r / 256 = k.val
  · rw [if_pos hr]
    have hs : rank g r = 256 * k.val + rank g r % 256 := by omega
    rw [Finset.sum_eq_single (⟨rank g r % 256, Nat.mod_lt _ (by decide)⟩ : Fin 256)]
    · rw [if_pos ⟨hs, hr.1⟩, one_mul, pay93_apply]
      simp only [pay90_apply v33 k hk, pay88_apply g v33 k hk v23 v25 h23 h25, pay89_apply g v33 k hk v23 v25 h23 h25]
      simp only [← hs, sum_pick g v33 k hk _ r hr.1 _ rfl]
      rfl
    · intro s _ hne
      rw [if_neg, zero_mul]
      rintro ⟨h1, _⟩
      exact hne (Fin.ext (by show s.val = rank g r % 256; omega))
    · intro h; exact absurd (Finset.mem_univ _) h
  · rw [if_neg hr]
    refine Finset.sum_eq_zero fun s _ => ?_
    rw [if_neg, zero_mul]
    rintro ⟨h1, h2⟩
    exact hr ⟨h2, by have := s.isLt; omega⟩

end Pass

end Cert.Moe

end
-- ==== Proof.Counts.lean ====
module

public import proofs.«01_k».proof.Proof.Chunk

@[expose] public section

set_option maxRecDepth 16384

noncomputable section

namespace Cert.Moe

open Cert.KernelIdeal Cert.KernelIdeal.Gen
open Idealize.ShloMosaic Idealize.ShloMosaic.TcCoe

/-! # The ranks are the ranks

`rowRanks` and `colRanks`, which the kernel computes in blocks of 128, are `rank` of each expert's gates. -/

theorem sum_fin_count (n : ℕ) (p : ℕ → Prop) [DecidablePred p] :
    ∑ k : Fin n, (if p k.val then (1 : EReal) else 0) = num (Nat.count p n) := by
  rw [Fin.sum_univ_eq_sum_range (fun k => if p k then (1 : EReal) else 0) n, sum_one_zero, Nat.count_eq_card_filter_range]

theorem count_below (n r : ℕ) (hr : r ≤ n) (p : ℕ → Prop) [DecidablePred p] :
    Nat.count (fun k => k < r ∧ p k) n = Nat.count p r := by
  rw [Nat.count_eq_card_filter_range, Nat.count_eq_card_filter_range]
  congr 1
  ext k
  simp only [Finset.mem_filter, Finset.mem_range]
  constructor
  · rintro ⟨_, h1, h2⟩; exact ⟨h1, h2⟩
  · rintro ⟨h1, h2⟩; exact ⟨by omega, h1, h2⟩

theorem rank_eq_count (g : Fin 1536 → EReal) (r : Fin 1536) (G : ℕ → EReal) (hG : ∀ r : Fin 1536, G r.val = g r) :
    num (rank g r) = num (Nat.count (fun n => 0 < G n) r.val) := by
  unfold rank
  rw [← sum_one_zero, ← count_below 1536 r.val (by omega), ← sum_fin_count]
  refine Finset.sum_congr rfl fun k _ => if_congr (and_congr Iff.rfl ?_) rfl rfl
  rw [hG]

theorem bit_lt (a b : ℕ) (ha : a < 128) (hb : b < 128) :
    (FloatOps.sitofp (F := Ideal) .f32 (BitVec.setWidth 32 (IntOp.cmpi CmpIPredicate.slt (BitVec.ofNat 32 a) (BitVec.ofNat 32 b))) : EReal)
      = if a < b then 1 else 0 := by
  show ((((BitVec.setWidth 32 (IntOp.cmpi CmpIPredicate.slt (BitVec.ofNat 32 a) (BitVec.ofNat 32 b))).toInt : ℤ) : ℝ) : EReal) = _
  have h : (BitVec.ofNat 32 a).slt (BitVec.ofNat 32 b) = decide (a < b) := by
    rw [BitVec.slt]
    have e : ∀ n : ℕ, n < 128 → (BitVec.ofNat 32 n).toInt = (n : ℤ) := fun n hn => by
      rw [BitVec.toInt_eq_toNat_of_lt] <;> simp [BitVec.toNat_ofNat] <;> omega
    rw [e a ha, e b hb]
    simp
  by_cases hab : a < b <;> simp [IntOp.cmpi, h, hab]

theorem rowCarry_succ (W : ℕ → Vec Ideal S128x32 .f32) (b : ℕ) (e : Fin 32) :
    rowCarry W (b + 1) (ix2 0 e) = rowCarry W b (ix2 0 e) + ∑ k : Fin 128, if 0 < W b (ix2 k e) then 1 else 0 := by
  conv_lhs => unfold rowCarry k0_pay13 k0_pay8
  simp only [pointwise, zero_add]

theorem colCarry_succ (W : ℕ → Vec Ideal S32x128 .f32) (b : ℕ) (e : Fin 32) :
    colCarry W (b + 1) (ix2 e 0) = colCarry W b (ix2 e 0) + ∑ k : Fin 128, if 0 < W b (ix2 e k) then 1 else 0 := by
  conv_lhs => unfold colCarry k0_pay14 k0_pay9
  simp only [pointwise, zero_add]

theorem rowCarry_zero (W : ℕ → Vec Ideal S128x32 .f32) (e : Fin 32) : rowCarry W 0 (ix2 0 e) = 0 := by
  unfold rowCarry k0_pay6
  simp only [pointwise]

theorem colCarry_zero (W : ℕ → Vec Ideal S32x128 .f32) (e : Fin 32) : colCarry W 0 (ix2 e 0) = 0 := by
  unfold colCarry k0_pay7
  simp only [pointwise]

theorem rowBlock_apply (W : ℕ → Vec Ideal S128x32 .f32) (b : ℕ) (r : Fin 128) (e : Fin 32) :
    rowBlock W b (ix2 r e) = (∑ k : Fin 128, if k.val < r.val ∧ 0 < W b (ix2 k e) then 1 else 0) + rowCarry W b (ix2 0 e) := by
  unfold rowBlock k0_pay4 k0_pay8
  simp only [pointwise, zero_add]
  refine congrArg₂ (· + ·) (Finset.sum_congr rfl fun k _ => ?_) rfl
  have h := bit_lt k.val r.val k.isLt r.isLt
  have e1 : (List.foldl (fun n a => n * ![128, 128] a + ((ix2 r k : S128x128.Idx) a : ℕ)) 0 [1]) = k.val := by
    show 0 * 128 + k.val = k.val; omega
  have e2 : (List.foldl (fun n a => n * ![128, 128] a + ((ix2 r k : S128x128.Idx) a : ℕ)) 0 [0]) = r.val := by
    show 0 * 128 + r.val = r.val; omega
  refine (congrArg (· * (if 0 < W b (ix2 k e) then (1 : EReal) else 0)) (Eq.trans ?_ h)).trans ?_
  · rw [← e1, ← e2]
  · by_cases h1 : k.val < r.val <;> by_cases h2 : 0 < W b (ix2 k e) <;> simp [h1, h2]

theorem colBlock_apply (W : ℕ → Vec Ideal S32x128 .f32) (b : ℕ) (r : Fin 128) (e : Fin 32) :
    colBlock W b (ix2 e r) = (∑ k : Fin 128, if k.val < r.val ∧ 0 < W b (ix2 e k) then 1 else 0) + colCarry W b (ix2 e 0) := by
  unfold colBlock k0_pay5 k0_pay9
  simp only [pointwise, zero_add]
  refine congrArg₂ (· + ·) (Finset.sum_congr rfl fun k _ => ?_) rfl
  have h := bit_lt k.val r.val k.isLt r.isLt
  have e1 : (List.foldl (fun n a => n * ![128, 128] a + ((ix2 k r : S128x128.Idx) a : ℕ)) 0 [0]) = k.val := by
    show 0 * 128 + k.val = k.val; omega
  have e2 : (List.foldl (fun n a => n * ![128, 128] a + ((ix2 k r : S128x128.Idx) a : ℕ)) 0 [1]) = r.val := by
    show 0 * 128 + r.val = r.val; omega
  refine (congrArg ((if 0 < W b (ix2 e k) then (1 : EReal) else 0) * ·) (Eq.trans ?_ h)).trans ?_
  · rw [← e1, ← e2]
  · by_cases h1 : k.val < r.val <;> by_cases h2 : 0 < W b (ix2 e k) <;> simp [h1, h2]

/-- A carried count is the count of everything before. -/
theorem count_step (p : ℕ → Prop) [DecidablePred p] (b : ℕ) (q : ℕ) :
    num (Nat.count p (128 * b + q)) = num (Nat.count p (128 * b)) + ∑ k : Fin q, (if p (128 * b + k.val) then (1 : EReal) else 0) := by
  rw [Nat.count_add, num_add, sum_fin_count q fun k => p (128 * b + k)]

theorem rowCarry_count (x : Vec Ideal S1536x32 .f32) (e : Fin 32) (b : ℕ) :
    rowCarry (rowWin x) b (ix2 0 e) = num (Nat.count (fun n => 0 < x (ix2 ⟨n % 1536, Nat.mod_lt _ (by decide)⟩ e)) (128 * b)) := by
  induction b with
  | zero => rw [rowCarry_zero, Nat.mul_zero, Nat.count_zero, num_zero]
  | succ b ih => rw [rowCarry_succ, ih, Nat.mul_succ, count_step]; rfl

theorem colCarry_count (x : Vec Ideal S32x1536 .f32) (e : Fin 32) (b : ℕ) :
    colCarry (colWin x) b (ix2 e 0) = num (Nat.count (fun n => 0 < x (ix2 e ⟨n % 1536, Nat.mod_lt _ (by decide)⟩)) (128 * b)) := by
  induction b with
  | zero => rw [colCarry_zero, Nat.mul_zero, Nat.count_zero, num_zero]
  | succ b ih => rw [colCarry_succ, ih, Nat.mul_succ, count_step]; rfl

theorem sum_below (p : ℕ → Prop) [DecidablePred p] (q : ℕ) (hq : q ≤ 128) :
    (∑ k : Fin 128, if k.val < q ∧ p k.val then (1 : EReal) else 0) = ∑ k : Fin q, (if p k.val then (1 : EReal) else 0) := by
  rw [sum_fin_count 128 fun k => k < q ∧ p k, count_below 128 q hq p, sum_fin_count]

/-- The ranks by rows. -/
theorem rowRanks_apply (x : Vec Ideal S1536x32 .f32) (r : Fin 1536) (e : Fin 32) :
    rowRanks x (ix2 r e) = num (rank (fun r => x (ix2 r e)) r) := by
  rw [rank_eq_count (fun r => x (ix2 r e)) r (fun n => x (ix2 ⟨n % 1536, Nat.mod_lt _ (by decide)⟩ e))
    (fun r => congrArg (fun r => x (ix2 r e)) (Fin.ext (Nat.mod_eq_of_lt r.isLt)))]
  refine (rowBlock_apply (rowWin x) (r.val / 128) ⟨r.val % 128, Nat.mod_lt _ (by decide)⟩ e).trans ?_
  have hs := sum_below (fun k => 0 < x (ix2 ⟨(128 * (r.val / 128) + k) % 1536, Nat.mod_lt _ (by decide)⟩ e)) (r.val % 128) (Nat.mod_lt _ (by decide)).le
  have hr : r.val = 128 * (r.val / 128) + r.val % 128 := by omega
  have hc := count_step (fun n => 0 < x (ix2 ⟨n % 1536, Nat.mod_lt _ (by decide)⟩ e)) (r.val / 128) (r.val % 128)
  rw [← hr] at hc
  rw [hc, rowCarry_count, add_comm]
  exact congrArg (_ + ·) hs

/-- The ranks by columns. -/
theorem colRanks_apply (x : Vec Ideal S32x1536 .f32) (r : Fin 1536) (e : Fin 32) :
    colRanks x (ix2 e r) = num (rank (fun r => x (ix2 e r)) r) := by
  rw [rank_eq_count (fun r => x (ix2 e r)) r (fun n => x (ix2 e ⟨n % 1536, Nat.mod_lt _ (by decide)⟩))
    (fun r => congrArg (fun r => x (ix2 e r)) (Fin.ext (Nat.mod_eq_of_lt r.isLt)))]
  refine (colBlock_apply (colWin x) (r.val / 128) ⟨r.val % 128, Nat.mod_lt _ (by decide)⟩ e).trans ?_
  have hs := sum_below (fun k => 0 < x (ix2 e ⟨(128 * (r.val / 128) + k) % 1536, Nat.mod_lt _ (by decide)⟩)) (r.val % 128) (Nat.mod_lt _ (by decide)).le
  have hr : r.val = 128 * (r.val / 128) + r.val % 128 := by omega
  have hc := count_step (fun n => 0 < x (ix2 e ⟨n % 1536, Nat.mod_lt _ (by decide)⟩)) (r.val / 128) (r.val % 128)
  rw [← hr] at hc
  rw [hc, colCarry_count, add_comm]
  exact congrArg (_ + ·) hs

/-! ## One expert's turn at a tile -/

/-- A column picked by a 0/1 row. -/
theorem pick_column (i : grid0.Coords) (x : Vec Ideal S1536x32 .f32) (r : Fin 1536) (e : Fin 32) (he : e.val = (i 1).val) :
    k0_pay104 i x (ix2 r 0) = x (ix2 r e) := by
  unfold k0_pay104 k0_pay103
  simp only [pointwise, zero_add]
  rw [Finset.sum_eq_single e]
  · have : IntOp.cmpi CmpIPredicate.eq (BitVec.ofNat 32 (0 * 32 + e.val)) (BitVec.ofNat 32 (i 1).val) = 1#1 := by
      rw [he]; simp [IntOp.cmpi]
    refine Eq.trans (congrArg (fun b => Scalar.select b (x (ix2 r e)) 0) this) ?_
    simp [Scalar.select]
  · intro k _ hne
    have hi : (i 1).val < 32 := (i 1).isLt
    have hne' : ¬ k.val = (i 1).val := fun h => hne (Fin.ext (h.trans he.symm))
    have : IntOp.cmpi CmpIPredicate.eq (BitVec.ofNat 32 (0 * 32 + k.val)) (BitVec.ofNat 32 (i 1).val) = 0#1 := by
      have : ¬ BitVec.ofNat 32 (0 * 32 + k.val) = BitVec.ofNat 32 (i 1).val := fun h => by
        have := congrArg BitVec.toNat h
        simp only [BitVec.toNat_ofNat] at this
        have := k.isLt
        omega
      show BitVec.ofBool (BitVec.ofNat 32 (0 * 32 + k.val) == BitVec.ofNat 32 (i 1).val) = 0#1
      rw [beq_eq_false_iff_ne.2 this]; rfl
    refine Eq.trans (congrArg (fun b => Scalar.select b (x (ix2 r k)) 0) this) ?_
    simp [Scalar.select]
  · intro h; exact absurd (Finset.mem_univ _) h

theorem pay105_eq (i : grid0.Coords) (x : Vec Ideal S1536x32 .f32) : k0_pay105 i x = k0_pay104 i x := by
  unfold k0_pay105 k0_pay104
  simp only [shapeCast_self]

theorem rowAt_apply (i : grid0.Coords) (x : Vec Ideal S32x1536 .f32) (r : Fin 1536) (e : Fin 32) (he : e.val = (i 1).val) :
    rowAt i x (ix2 0 r) = x (ix2 e r) := by
  unfold rowAt
  refine congrArg x (funext fun a => Fin.ext ?_)
  have h1 : k0_off1 i = ![(i 1).val, 0] := k0_off1_eq i
  match a with
  | ⟨0, _⟩ => show k0_off1 i 0 + 1 * 0 = e.val; rw [h1]; show (i 1).val + 1 * 0 = e.val; omega
  | ⟨1, _⟩ => show k0_off1 i 1 + 1 * r.val = r.val; rw [h1]; show 0 + 1 * r.val = r.val; omega

/-- Passes add up: after `n` of them every selected row whose rank is below `256 n` has its expert's output. -/
theorem passes_apply (g : Fin 1536 → EReal) (v33 : BitVec 32) (hT : (k0_t1_loop v33).trips ≤ 6)
    (v13 v20 : FVec Ideal S1536x1 .f32) (v23 v25 : Vec Ideal S1x1536 .f32)
    (h13 : ∀ r, v13 (ix2 r 0) = g r) (h20 : ∀ r, v20 (ix2 r 0) = num (rank g r))
    (h23 : ∀ r, v23 (ix2 0 r) = g r) (h25 : ∀ r, v25 (ix2 0 r) = num (rank g r))
    (x3 : Vec Ideal S1536x1024 .bf16) (x6 x7 : Vec Ideal S1x1024x1024 .bf16) (x8 x9 : Vec Ideal S1x1x1024 .f32) (x10 : Vec Ideal S1x1024x1024 .bf16) (x11 : Vec Ideal S1x1x1024 .f32)
    (acc : Vec Ideal S1536x1024 .f32) (r : Fin 1536) (d : Fin 1024) (n : ℕ) (hn : n ≤ (k0_t1_loop v33).trips) :
    passes v13 v20 v23 v25 k0_pay107 k0_pay108 v33 x3 x6 x7 x8 x9 x10 x11 acc n (ix2 r d)
      = acc (ix2 r d) + if 0 < g r ∧ rank g r / 256 < n then expertOf x6 x7 x8 x9 x10 x11 (fun j => x3 (ix2 r j)) d * g r else 0 := by
  induction n with
  | zero =>
    rw [if_neg (by rintro ⟨_, h⟩; exact absurd h (Nat.not_lt_zero _)), add_zero]; rfl
  | succ n ih =>
    have hn' : n < (k0_t1_loop v33).trips := hn
    rw [passes_succ v13 v20 v23 v25 k0_pay107 k0_pay108 v33 x3 x6 x7 x8 x9 x10 x11 acc ⟨n, hn'⟩,
      pass_apply g v33 ⟨n, hn'⟩ (by show n < 1536; omega) v13 v20 v23 v25 h13 h20 h23 h25, ih (by omega), add_assoc]
    refine congrArg (_ + ·) ?_
    show _ + (if 0 < g r ∧ rank g r / 256 = n then _ else _) = _
    by_cases hg : 0 < g r
    · rcases Nat.lt_trichotomy (rank g r / 256) n with h | h | h
      · simp [hg, h, h.ne, Nat.lt_succ_of_lt h]
      · simp [hg, h]
      · have h1 : ¬ rank g r / 256 < n := by omega
        have h2 : ¬ rank g r / 256 < n + 1 := by omega
        have h3 : ¬ rank g r / 256 = n := by omega
        simp [h1, h2, h3]
    · simp [hg]

/-- One expert's turn at a tile adds its output, weighted by the gate, to every row whose gate for it is positive. -/
theorem bodyOut_apply (i : grid0.Coords) (e : Fin 32) (he : e.val = (i 1).val) (x3 : Vec Ideal S1536x1024 .bf16) (x4 : Vec Ideal S1536x32 .f32) (x5 : Vec Ideal S32x1536 .f32)
    (h45 : ∀ r : Fin 1536, x5 (ix2 e r) = x4 (ix2 r e))
    (x6 x7 : Vec Ideal S1x1024x1024 .bf16) (x8 x9 : Vec Ideal S1x1x1024 .f32) (x10 : Vec Ideal S1x1024x1024 .bf16) (x11 : Vec Ideal S1x1x1024 .f32)
    (v33 : BitVec 32) (h33 : v33 = BitVec.ofNat 32 (total fun r => x4 (ix2 r e)))
    (acc : Vec Ideal S1536x1024 .f32) (r : Fin 1536) (d : Fin 1024) :
    bodyOut i x3 x4 x5 x6 x7 x8 x9 x10 x11 (rowRanks x4) (colRanks x5) v33 acc (ix2 r d)
      = acc (ix2 r d) + if 0 < x4 (ix2 r e) then expertOf x6 x7 x8 x9 x10 x11 (fun j => x3 (ix2 r j)) d * x4 (ix2 r e) else 0 := by
  have hle := total_le fun r => x4 (ix2 r e)
  have hT : (k0_t1_loop v33).trips = (total (fun r => x4 (ix2 r e)) + 255) / 256 := by
    rw [h33]; exact trips_count ⟨total fun r => x4 (ix2 r e), by omega⟩
  have h5 : (fun r => x5 (ix2 e r)) = fun r => x4 (ix2 r e) := funext h45
  unfold bodyOut
  rw [passes_apply (fun r => x4 (ix2 r e)) v33 (by omega) (k0_pay104 i x4) (k0_pay105 i (rowRanks x4)) (k0_pay106 (rowAt i x5)) (rowAt i (colRanks x5))
    (fun r => pick_column i x4 r e he)
    (fun r => by rw [pay105_eq, pick_column i _ r e he, rowRanks_apply])
    (fun r => by unfold k0_pay106; rw [shapeCast_self, rowAt_apply i x5 r e he, h45])
    (fun r => by rw [rowAt_apply i _ r e he, colRanks_apply, h5])
    x3 x6 x7 x8 x9 x10 x11 acc r d _ le_rfl]
  refine congrArg (_ + ·) (if_congr ⟨fun h => h.1, fun h => ⟨h, ?_⟩⟩ rfl rfl)
  have := rank_lt_total (fun r => x4 (ix2 r e)) h
  omega

end Cert.Moe

end
-- ==== Proof.Entries.lean ====
module

public import proofs.«01_k».proof.Proof.Launch
public import proofs.«01_k».proof.Proof.Counts
public import Idealize.ShloMosaic.Lib.Pipeline.ValueKit
public import Idealize.ShloMosaic.Lib.IndicatorCount

@[expose] public section

set_option maxRecDepth 16384

noncomputable section

namespace Cert.Moe

open Cert.KernelIdeal Cert.KernelIdeal.Gen
open Idealize.ShloMosaic Idealize.ShloMosaic.TcCoe Idealize.ShloMosaic.Tactic

/-! # What the launch reads

The arrays that the host part prepares, at an index, by the arguments. -/

variable (m : (ℓ : Loc nD τ sig) → Buf (Elt Ideal) ℓ) (c : Dev nD)

/-- The arguments. -/
abbrev argX : Vec Ideal S17664x1024 .f32 := m ((c.tc : Thread nD τ).loc main_arg0)
abbrev argGate : Vec Ideal S17664x32 .f32 := m ((c.tc : Thread nD τ).loc main_arg1)
abbrev argW1 : Vec Ideal S32x1024x2048 .f32 := m ((c.tc : Thread nD τ).loc main_arg2)
abbrev argB1 : Vec Ideal S32x2048 .f32 := m ((c.tc : Thread nD τ).loc main_arg3)
abbrev argW2 : Vec Ideal S32x1024x1024 .f32 := m ((c.tc : Thread nD τ).loc main_arg4)
abbrev argB2 : Vec Ideal S32x1024 .f32 := m ((c.tc : Thread nD τ).loc main_arg5)

/-- The padded tokens and gates, and the count words, as the host part computes them. -/
theorem v25_eq : V m c main_v25 = pad S18432x1024 ![0, 0] ![768, 0] ![0, 0] (argX m c) (sitofp (F := Ideal) .bf16 (constantI S_ 32 0#32)) pads_S17664x1024_S18432x1024_07680_000 h_S_ := by
  simp only [V, hostOps0, hostOps0_1, hostOps0_2, hostOps0_3, hostOps0_4, hostOps0_5, hostOps0_6, List.flatten_cons, List.flatten_nil, List.append_nil, List.cons_append, List.nil_append]
  entry_read
  rfl

theorem v26_eq : V m c main_v26 = pad S18432x32 ![0, 0] ![768, 0] ![0, 0] (argGate m c) (sitofp (F := Ideal) .f32 (constantI S_ 32 0#32)) pads_S17664x32_S18432x32_07680_000 h_S_ := by
  simp only [V, hostOps0, hostOps0_1, hostOps0_2, hostOps0_3, hostOps0_4, hostOps0_5, hostOps0_6, List.flatten_cons, List.flatten_nil, List.append_nil, List.cons_append, List.nil_append]
  entry_read
  rfl

theorem v32_eq : V m c main_v32 = shapeCast S384 (Host.reduce IntOp.addi (extui 32 (shapeCast S12x1536x32 (cmpf .ogt (V m c main_v26) (broadcastInDim S18432x32 ![] bcast_S_S18432x32 (constant (F := Ideal) S_ .f32 0x00000000#32))) shapeCasts_S18432x32_S12x1536x32) natLt_1_32) (constantI S_ 32 0#32) reducesTo_S12x1536x32_S12x32_d1 h_S_) shapeCasts_S12x32_S384 := by
  rw [v26_eq]
  simp only [V, hostOps0, hostOps0_1, hostOps0_2, hostOps0_3, hostOps0_4, hostOps0_5, hostOps0_6, List.flatten_cons, List.flatten_nil, List.append_nil, List.cons_append, List.nil_append]
  entry_read
  rfl

theorem v33_eq : V m c main_v33 = transpose S32x18432 [1, 0] (V m c main_v26) transposes_S18432x32_S32x18432_1_0 := by
  rw [v26_eq]
  simp only [V, hostOps0, hostOps0_1, hostOps0_2, hostOps0_3, hostOps0_4, hostOps0_5, hostOps0_6, List.flatten_cons, List.flatten_nil, List.append_nil, List.cons_append, List.nil_append]
  entry_read
  rfl

theorem entry_x (r : Fin 18432) (d : Fin 1024) : V m c main_v25 (ix2 r d) = if h : r.val < 17664 then argX m c (ix2 ⟨r.val, h⟩ d) else (0 : EReal) := by
  rw [v25_eq]
  by_cases h : r.val < 17664
  · rw [dif_pos h]
    exact pad_apply_of_inside _ _ _ _ _ _ _ (ix2 r d) (ix2 ⟨r.val, h⟩ d) fun a => by
      match a with
      | ⟨0, _⟩ => show r.val = 0 + r.val * 1; omega
      | ⟨1, _⟩ => show d.val = 0 + d.val * 1; omega
  · rw [dif_neg h]
    refine (pad_apply_of_not_inside _ _ _ _ _ _ _ (ix2 r d) 0 fun hh => h ?_).trans ?_
    · have h3 : (r.val - 0) / 1 < 17664 := hh.2.2
      omega
    · exact sitofp_zero (φ := .bf16)

theorem entry_gate (r : Fin 18432) (e : Fin 32) : V m c main_v26 (ix2 r e) = if h : r.val < 17664 then argGate m c (ix2 ⟨r.val, h⟩ e) else (0 : EReal) := by
  rw [v26_eq]
  by_cases h : r.val < 17664
  · rw [dif_pos h]
    exact pad_apply_of_inside _ _ _ _ _ _ _ (ix2 r e) (ix2 ⟨r.val, h⟩ e) fun a => by
      match a with
      | ⟨0, _⟩ => show r.val = 0 + r.val * 1; omega
      | ⟨1, _⟩ => show e.val = 0 + e.val * 1; omega
  · rw [dif_neg h]
    refine (pad_apply_of_not_inside _ _ _ _ _ _ _ (ix2 r e) 0 fun hh => h ?_).trans ?_
    · have h3 : (r.val - 0) / 1 < 17664 := hh.2.2
      omega
    · exact sitofp_zero (φ := .f32)

theorem entry_gate_t (r : Fin 18432) (e : Fin 32) : V m c main_v33 (ix2 e r) = V m c main_v26 (ix2 r e) := by
  rw [v33_eq]
  generalize V m c main_v26 = g
  pointwise

theorem entry_w2 (e : Fin 32) (f d : Fin 1024) : V m c main_v23 (ix3 e f d) = argW2 m c (ix3 e f d) := by
  simp only [V, hostOps0, hostOps0_1, hostOps0_2, hostOps0_3, hostOps0_4, hostOps0_5, hostOps0_6, List.flatten_cons, List.flatten_nil, List.append_nil, List.cons_append, List.nil_append]
  entry_read
  rfl

theorem entry_b2 (e : Fin 32) (d : Fin 1024) : V m c main_v24 (ix3 e 0 d) = argB2 m c (ix2 e d) := by
  simp only [V, hostOps0, hostOps0_1, hostOps0_2, hostOps0_3, hostOps0_4, hostOps0_5, hostOps0_6, List.flatten_cons, List.flatten_nil, List.append_nil, List.cons_append, List.nil_append]
  entry_read
  pointwise

theorem entry_b1g (e : Fin 32) (d : Fin 1024) : V m c main_v20 (ix3 e 0 d) = argB1 m c (ix2 e ⟨2 * d.val, by omega⟩) := by
  simp only [V, hostOps0, hostOps0_1, hostOps0_2, hostOps0_3, hostOps0_4, hostOps0_5, hostOps0_6, List.flatten_cons, List.flatten_nil, List.append_nil, List.cons_append, List.nil_append]
  entry_read
  pointwise

theorem entry_b1l (e : Fin 32) (d : Fin 1024) : V m c main_v22 (ix3 e 0 d) = argB1 m c (ix2 e ⟨2 * d.val + 1, by omega⟩) := by
  simp only [V, hostOps0, hostOps0_1, hostOps0_2, hostOps0_3, hostOps0_4, hostOps0_5, hostOps0_6, List.flatten_cons, List.flatten_nil, List.append_nil, List.cons_append, List.nil_append]
  entry_read
  pointwise
  exact congrArg (fun f => argB1 m c (ix2 e f)) (Fin.ext (Nat.add_comm _ _))

/-- The source column of column `f` of the de-interleaved first weight. -/
def source (f : Fin 2048) : Fin 2048 := if h : f.val < 1024 then ⟨2 * f.val, by omega⟩ else ⟨2 * (f.val - 1024) + 1, by omega⟩

theorem picks (x f : Fin 2048) : IntOp.cmpi CmpIPredicate.eq (BitVec.ofNat 32 x.val)
    (Scalar.select (IntOp.cmpi CmpIPredicate.slt (BitVec.ofNat 32 f.val) 1024#32) (IntOp.muli 2#32 (BitVec.ofNat 32 f.val))
      (IntOp.addi (IntOp.muli 2#32 (IntOp.subi (BitVec.ofNat 32 f.val) 1024#32)) 1#32)) = if x = source f then 1#1 else 0#1 := by
  have hx := x.isLt
  have hf := f.isLt
  have hlt : (BitVec.ofNat 32 f.val).slt 1024#32 = decide (f.val < 1024) := by
    have h1 : (BitVec.ofNat 32 f.val).toInt = (f.val : ℤ) := by
      rw [BitVec.toInt_eq_toNat_of_lt (by rw [BitVec.toNat_ofNat]; omega), BitVec.toNat_ofNat]; omega
    have h2 : (1024#32 : BitVec 32).toInt = 1024 := by decide
    unfold BitVec.slt
    rw [h1, h2]
    exact decide_eq_decide.2 (by omega)
  have hs : Scalar.select (IntOp.cmpi CmpIPredicate.slt (BitVec.ofNat 32 f.val) 1024#32) (IntOp.muli 2#32 (BitVec.ofNat 32 f.val))
      (IntOp.addi (IntOp.muli 2#32 (IntOp.subi (BitVec.ofNat 32 f.val) 1024#32)) 1#32) = BitVec.ofNat 32 (source f).val := by
    unfold source
    show Scalar.select (BitVec.ofBool ((BitVec.ofNat 32 f.val).slt 1024#32)) (2#32 * BitVec.ofNat 32 f.val) (2#32 * (BitVec.ofNat 32 f.val - 1024#32) + 1#32) = _
    rw [hlt]
    by_cases h : f.val < 1024
    · rw [decide_eq_true h, dif_pos h]
      show 2#32 * BitVec.ofNat 32 f.val = _
      apply BitVec.eq_of_toNat_eq
      simp only [BitVec.toNat_mul, BitVec.toNat_ofNat]
      omega
    · rw [decide_eq_false h, dif_neg h]
      show 2#32 * (BitVec.ofNat 32 f.val - 1024#32) + 1#32 = _
      apply BitVec.eq_of_toNat_eq
      simp only [BitVec.toNat_mul, BitVec.toNat_add, BitVec.toNat_sub, BitVec.toNat_ofNat]
      omega
  rw [hs]
  show BitVec.ofBool (BitVec.ofNat 32 x.val == BitVec.ofNat 32 (source f).val) = _
  by_cases h : x = source f
  · rw [if_pos h, h, beq_self_eq_true]; rfl
  · rw [if_neg h, beq_eq_false_iff_ne.2]
    · rfl
    · intro hh
      have h1 := congrArg BitVec.toNat hh
      simp only [BitVec.toNat_ofNat] at h1
      have := (source f).isLt
      exact h (Fin.ext (by omega))

theorem v18_eq : V m c main_v18 = Host.dotGeneral (F := Ideal) (φ₁ := .bf16) dot_S32x1024x2048_S2048x2048_S32x1024x2048_2_0_01_1_n_n none (argW1 m c)
        (uitofp (F := Ideal) FTy.bf16
          (cmpi CmpIPredicate.eq (iotaInDim S2048x2048 32 0)
              (select
                  (cmpi CmpIPredicate.slt (iotaInDim S2048x2048 32 1)
                    (broadcastInDim S2048x2048 ![] bcast_S_S2048x2048 (constantI S_ 32 1024#32)))
                  (muli (broadcastInDim S2048x2048 ![] bcast_S_S2048x2048 (constantI S_ 32 2#32))
                    (iotaInDim S2048x2048 32 1))
                  (addi
                    (muli (broadcastInDim S2048x2048 ![] bcast_S_S2048x2048 (constantI S_ 32 2#32))
                      (subi (iotaInDim S2048x2048 32 1)
                        (broadcastInDim S2048x2048 ![] bcast_S_S2048x2048 (constantI S_ 32 1024#32))))
                    (broadcastInDim S2048x2048 ![] bcast_S_S2048x2048 (constantI S_ 32 1#32)))))) := by
  simp only [V, hostOps0, hostOps0_1, hostOps0_2, hostOps0_3, hostOps0_4, hostOps0_5, hostOps0_6, List.flatten_cons, List.flatten_nil, List.append_nil, List.cons_append, List.nil_append]
  entry_read
  rfl

theorem entry_w1 (e : Fin 32) (k : Fin 1024) (f : Fin 2048) : V m c main_v18 (ix3 e k f) = argW1 m c (ix3 e k (source f)) := by
  rw [v18_eq]
  pointwise
  rw [Finset.sum_eq_single (source f)]
  · rw [picks, if_pos rfl]
    refine (congrArg (argW1 m c (ix3 e k (source f)) * ·) (?_ : _ = (1 : EReal))).trans (mul_one _)
    show ((((1#1 : BitVec 1).toNat : ℕ) : ℝ) : EReal) = 1
    simp
  · intro x _ hx
    rw [picks, if_neg hx]
    refine (congrArg (argW1 m c (ix3 e k x) * ·) (?_ : _ = (0 : EReal))).trans (mul_zero _)
    show ((((0#1 : BitVec 1).toNat : ℕ) : ℝ) : EReal) = 0
    simp
  · intro h; exact absurd (Finset.mem_univ _) h

theorem bit_one (p : Prop) [Decidable p] : BitVec.ofBool (decide p) = 1#1 ↔ p := by
  by_cases h : p <;> simp [h]

/-- The count word of a tile and an expert. -/
theorem entry_count (i : Fin 12) (e : Fin 32) : V m c main_v32 (ix1 ⟨32 * i.val + e.val, by omega⟩)
    = BitVec.ofNat 32 (total fun r : Fin 1536 => V m c main_v26 (ix2 ⟨1536 * i.val + r.val, by omega⟩ e)) := by
  rw [v32_eq]
  generalize V m c main_v26 = g
  pointwise
  rw [IndicatorCount.fold_addi_setWidth_eq_card]
  unfold total
  refine congrArg (fun s : Finset (Fin 1536) => BitVec.ofNat 32 s.card) (Finset.filter_congr fun x _ => ?_)
  have hx : (⟨i.val * 1536 + x.val, by omega⟩ : Fin 18432) = ⟨1536 * i.val + x.val, by omega⟩ := Fin.ext (by show i.val * 1536 + x.val = 1536 * i.val + x.val; omega)
  exact (bit_one _).trans (Iff.of_eq (congrArg (fun q => (0 : EReal) < g (ix2 q e)) hx))

theorem readAt_word (i : grid0.Coords) (T : Vec Ideal S384 .i32) (hn : 32 * (i 0).val + (i 1).val < 384) :
    View.readAt (Elt Ideal) (View.whole main_v32) (Rect.unit (s := S384) (k0_off2 i) S1.size (k0_off2_inb i)).toLoadRect T
      (Shape.Idx.first (numel1_S1.symm ▸ Nat.one_pos)) = T (ix1 ⟨32 * (i 0).val + (i 1).val, hn⟩) := by
  refine congrArg T (funext fun a => Fin.ext ?_)
  have h := k0_off2_eq i
  match a with
  | ⟨0, _⟩ =>
    show k0_off2 i 0 + 1 * 0 = 32 * (i 0).val + (i 1).val
    rw [h]; rfl

theorem countAt_eq (i : grid0.Coords) (hi : (i 0).val < 12) (he : (i 1).val < 32) : countAt m i
    = BitVec.ofNat 32 (total fun r : Fin 1536 => V m c main_v26 (ix2 ⟨1536 * (i 0).val + r.val, by omega⟩ ⟨(i 1).val, he⟩)) := by
  refine Eq.trans ?_ (entry_count m c ⟨(i 0).val, hi⟩ ⟨(i 1).val, he⟩)
  obtain rfl : c = 0 := Subsingleton.elim _ _
  unfold countAt tbl
  exact readAt_word i (V m 0 main_v32) (by omega)

end Cert.Moe

end
-- ==== Proof.Blocks.lean ====
module

public import proofs.«01_k».proof.Proof.Entries
public import Idealize.ShloMosaic.Lib.Pipeline.Covers

@[expose] public section

set_option maxRecDepth 16384

noncomputable section

namespace Cert.Moe

open Cert.KernelIdeal Cert.KernelIdeal.Gen
open Idealize.ShloMosaic Idealize.ShloMosaic.TcCoe Idealize.ShloMosaic.Tactic

/-! # The blocks

The windows' blocks at an index, by the arrays they are cut from. -/

variable (m : (ℓ : Loc nD τ sig) → Buf (Elt Ideal) ℓ) (c : Dev nD) (hO : Ok m) (t : Fin (cfgM m hO).N)

theorem coord_nat (n : ℕ) (h : n < 2 ^ 32) : (BitVec.ofNat 32 n).toNat = n := by
  rw [BitVec.toNat_ofNat, Nat.mod_eq_of_lt h]

theorem index_0 (i : grid0.Coords) : cc0_transform_0 i = ![(i 0).val, 0] := by
  have h : (i 0).val < 12 := (i 0).isLt
  unfold cc0_transform_0
  simp only [coord_nat (i 0).val (by omega)]
  rfl

theorem index_1 (i : grid0.Coords) : cc0_transform_1 i = ![(i 0).val, 0] := by
  have h : (i 0).val < 12 := (i 0).isLt
  unfold cc0_transform_1
  simp only [coord_nat (i 0).val (by omega)]
  rfl

theorem index_2 (i : grid0.Coords) : cc0_transform_2 i = ![0, (i 0).val] := by
  have h : (i 0).val < 12 := (i 0).isLt
  unfold cc0_transform_2
  simp only [coord_nat (i 0).val (by omega)]
  rfl

theorem index_3 (i : grid0.Coords) : cc0_transform_3 i = ![(i 1).val, 0, 0] := by
  have h : (i 1).val < 32 := (i 1).isLt
  unfold cc0_transform_3
  simp only [coord_nat (i 1).val (by omega)]
  rfl

theorem index_4 (i : grid0.Coords) : cc0_transform_4 i = ![(i 1).val, 0, 1] := by
  have h : (i 1).val < 32 := (i 1).isLt
  unfold cc0_transform_4
  simp only [coord_nat (i 1).val (by omega)]
  rfl

theorem index_5 (i : grid0.Coords) : cc0_transform_5 i = ![(i 1).val, 0, 0] := by
  have h : (i 1).val < 32 := (i 1).isLt
  unfold cc0_transform_5
  simp only [coord_nat (i 1).val (by omega)]
  rfl

theorem index_6 (i : grid0.Coords) : cc0_transform_6 i = ![(i 1).val, 0, 0] := by
  have h : (i 1).val < 32 := (i 1).isLt
  unfold cc0_transform_6
  simp only [coord_nat (i 1).val (by omega)]
  rfl

theorem index_7 (i : grid0.Coords) : cc0_transform_7 i = ![(i 1).val, 0, 0] := by
  have h : (i 1).val < 32 := (i 1).isLt
  unfold cc0_transform_7
  simp only [coord_nat (i 1).val (by omega)]
  rfl

theorem index_8 (i : grid0.Coords) : cc0_transform_8 i = ![(i 1).val, 0, 0] := by
  have h : (i 1).val < 32 := (i 1).isLt
  unfold cc0_transform_8
  simp only [coord_nat (i 1).val (by omega)]
  rfl

theorem index_9 (i : grid0.Coords) : cc0_transform_9 i = ![(i 0).val, 0] := by
  have h : (i 0).val < 12 := (i 0).isLt
  unfold cc0_transform_9
  simp only [coord_nat (i 0).val (by omega)]
  rfl

theorem blk_0 (r : Fin 1536) (d : Fin 1024) (hr : 1536 * (grid0.coords t 0).val + r.val < 18432) :
    (iblk m hO c 0 t : Vec Ideal S1536x1024 .bf16) (ix2 r d) = V m c main_v25 (ix2 ⟨1536 * (grid0.coords t 0).val + r.val, hr⟩ d) := by
  unfold iblk
  show View.read (Elt Ideal) (((cfgM m hO).win 0).blk t).view (V m c main_v25) (ix2 r d) = _
  generalize V m c main_v25 = T
  refine congrArg T (funext fun a => Fin.ext ?_)
  have h := index_0 (grid0.coords t)
  match a with
  | ⟨0, _⟩ =>
    refine (Pipeline.Window.rect_emb_val _ _ _ _).trans ?_
    show cc0_transform_0 (grid0.coords t) 0 * 1536 + r.val = 1536 * (grid0.coords t 0).val + r.val
    rw [h, mul_comm]; rfl
  | ⟨1, _⟩ =>
    refine (Pipeline.Window.rect_emb_val _ _ _ _).trans ?_
    show cc0_transform_0 (grid0.coords t) 1 * 1024 + d.val = d.val
    rw [h]; exact Nat.zero_add _

theorem blk_1 (r : Fin 1536) (d : Fin 32) (hr : 1536 * (grid0.coords t 0).val + r.val < 18432) :
    (iblk m hO c 1 t : Vec Ideal S1536x32 .f32) (ix2 r d) = V m c main_v26 (ix2 ⟨1536 * (grid0.coords t 0).val + r.val, hr⟩ d) := by
  unfold iblk
  show View.read (Elt Ideal) (((cfgM m hO).win 1).blk t).view (V m c main_v26) (ix2 r d) = _
  generalize V m c main_v26 = T
  refine congrArg T (funext fun a => Fin.ext ?_)
  have h := index_1 (grid0.coords t)
  match a with
  | ⟨0, _⟩ =>
    refine (Pipeline.Window.rect_emb_val _ _ _ _).trans ?_
    show cc0_transform_1 (grid0.coords t) 0 * 1536 + r.val = 1536 * (grid0.coords t 0).val + r.val
    rw [h, mul_comm]; rfl
  | ⟨1, _⟩ =>
    refine (Pipeline.Window.rect_emb_val _ _ _ _).trans ?_
    show cc0_transform_1 (grid0.coords t) 1 * 32 + d.val = d.val
    rw [h]; exact Nat.zero_add _

theorem blk_2 (r : Fin 1536) (d : Fin 32) (hr : 1536 * (grid0.coords t 0).val + r.val < 18432) :
    (iblk m hO c 2 t : Vec Ideal S32x1536 .f32) (ix2 d r) = V m c main_v33 (ix2 d ⟨1536 * (grid0.coords t 0).val + r.val, hr⟩) := by
  unfold iblk
  show View.read (Elt Ideal) (((cfgM m hO).win 2).blk t).view (V m c main_v33) (ix2 d r) = _
  generalize V m c main_v33 = T
  refine congrArg T (funext fun a => Fin.ext ?_)
  have h := index_2 (grid0.coords t)
  match a with
  | ⟨0, _⟩ =>
    refine (Pipeline.Window.rect_emb_val _ _ _ _).trans ?_
    show cc0_transform_2 (grid0.coords t) 0 * 32 + d.val = d.val
    rw [h]; exact Nat.zero_add _
  | ⟨1, _⟩ =>
    refine (Pipeline.Window.rect_emb_val _ _ _ _).trans ?_
    show cc0_transform_2 (grid0.coords t) 1 * 1536 + r.val = 1536 * (grid0.coords t 0).val + r.val
    rw [h, mul_comm]; rfl

theorem blk_3 (f d : Fin 1024) (he : (grid0.coords t 1).val < 32) :
    (iblk m hO c 3 t : Vec Ideal S1x1024x1024 .bf16) (ix3 0 f d) = V m c main_v18 (ix3 ⟨(grid0.coords t 1).val, he⟩ f ⟨d.val, by omega⟩) := by
  unfold iblk
  show View.read (Elt Ideal) (((cfgM m hO).win 3).blk t).view (V m c main_v18) (ix3 0 f d) = _
  generalize V m c main_v18 = T
  refine congrArg T (funext fun a => Fin.ext ?_)
  have h := index_3 (grid0.coords t)
  match a with
  | ⟨0, _⟩ =>
    refine (Pipeline.Window.rect_emb_val _ _ _ _).trans ?_
    show cc0_transform_3 (grid0.coords t) 0 * 1 + 0 = (grid0.coords t 1).val
    rw [h]; exact Nat.mul_one _
  | ⟨1, _⟩ =>
    refine (Pipeline.Window.rect_emb_val _ _ _ _).trans ?_
    show cc0_transform_3 (grid0.coords t) 1 * 1024 + f.val = f.val
    rw [h]; exact Nat.zero_add _
  | ⟨2, _⟩ =>
    refine (Pipeline.Window.rect_emb_val _ _ _ _).trans ?_
    show cc0_transform_3 (grid0.coords t) 2 * 1024 + d.val = d.val
    rw [h]; exact Nat.zero_add _

theorem blk_4 (f d : Fin 1024) (he : (grid0.coords t 1).val < 32) :
    (iblk m hO c 4 t : Vec Ideal S1x1024x1024 .bf16) (ix3 0 f d) = V m c main_v18 (ix3 ⟨(grid0.coords t 1).val, he⟩ f ⟨1024 + d.val, by omega⟩) := by
  unfold iblk
  show View.read (Elt Ideal) (((cfgM m hO).win 4).blk t).view (V m c main_v18) (ix3 0 f d) = _
  generalize V m c main_v18 = T
  refine congrArg T (funext fun a => Fin.ext ?_)
  have h := index_4 (grid0.coords t)
  match a with
  | ⟨0, _⟩ =>
    refine (Pipeline.Window.rect_emb_val _ _ _ _).trans ?_
    show cc0_transform_4 (grid0.coords t) 0 * 1 + 0 = (grid0.coords t 1).val
    rw [h]; exact Nat.mul_one _
  | ⟨1, _⟩ =>
    refine (Pipeline.Window.rect_emb_val _ _ _ _).trans ?_
    show cc0_transform_4 (grid0.coords t) 1 * 1024 + f.val = f.val
    rw [h]; exact Nat.zero_add _
  | ⟨2, _⟩ =>
    refine (Pipeline.Window.rect_emb_val _ _ _ _).trans ?_
    show cc0_transform_4 (grid0.coords t) 2 * 1024 + d.val = 1024 + d.val
    rw [h]; rfl

theorem blk_5 (d : Fin 1024) (he : (grid0.coords t 1).val < 32) :
    (iblk m hO c 5 t : Vec Ideal S1x1x1024 .f32) (ix3 0 0 d) = V m c main_v20 (ix3 ⟨(grid0.coords t 1).val, he⟩ 0 d) := by
  unfold iblk
  show View.read (Elt Ideal) (((cfgM m hO).win 5).blk t).view (V m c main_v20) (ix3 0 0 d) = _
  generalize V m c main_v20 = T
  refine congrArg T (funext fun a => Fin.ext ?_)
  have h := index_5 (grid0.coords t)
  match a with
  | ⟨0, _⟩ =>
    refine (Pipeline.Window.rect_emb_val _ _ _ _).trans ?_
    show cc0_transform_5 (grid0.coords t) 0 * 1 + 0 = (grid0.coords t 1).val
    rw [h]; exact Nat.mul_one _
  | ⟨1, _⟩ =>
    refine (Pipeline.Window.rect_emb_val _ _ _ _).trans ?_
    show cc0_transform_5 (grid0.coords t) 1 * 1 + 0 = 0
    rw [h]; rfl
  | ⟨2, _⟩ =>
    refine (Pipeline.Window.rect_emb_val _ _ _ _).trans ?_
    show cc0_transform_5 (grid0.coords t) 2 * 1024 + d.val = d.val
    rw [h]; exact Nat.zero_add _

theorem blk_6 (d : Fin 1024) (he : (grid0.coords t 1).val < 32) :
    (iblk m hO c 6 t : Vec Ideal S1x1x1024 .f32) (ix3 0 0 d) = V m c main_v22 (ix3 ⟨(grid0.coords t 1).val, he⟩ 0 d) := by
  unfold iblk
  show View.read (Elt Ideal) (((cfgM m hO).win 6).blk t).view (V m c main_v22) (ix3 0 0 d) = _
  generalize V m c main_v22 = T
  refine congrArg T (funext fun a => Fin.ext ?_)
  have h := index_6 (grid0.coords t)
  match a with
  | ⟨0, _⟩ =>
    refine (Pipeline.Window.rect_emb_val _ _ _ _).trans ?_
    show cc0_transform_6 (grid0.coords t) 0 * 1 + 0 = (grid0.coords t 1).val
    rw [h]; exact Nat.mul_one _
  | ⟨1, _⟩ =>
    refine (Pipeline.Window.rect_emb_val _ _ _ _).trans ?_
    show cc0_transform_6 (grid0.coords t) 1 * 1 + 0 = 0
    rw [h]; rfl
  | ⟨2, _⟩ =>
    refine (Pipeline.Window.rect_emb_val _ _ _ _).trans ?_
    show cc0_transform_6 (grid0.coords t) 2 * 1024 + d.val = d.val
    rw [h]; exact Nat.zero_add _

theorem blk_7 (f d : Fin 1024) (he : (grid0.coords t 1).val < 32) :
    (iblk m hO c 7 t : Vec Ideal S1x1024x1024 .bf16) (ix3 0 f d) = V m c main_v23 (ix3 ⟨(grid0.coords t 1).val, he⟩ f d) := by
  unfold iblk
  show View.read (Elt Ideal) (((cfgM m hO).win 7).blk t).view (V m c main_v23) (ix3 0 f d) = _
  generalize V m c main_v23 = T
  refine congrArg T (funext fun a => Fin.ext ?_)
  have h := index_7 (grid0.coords t)
  match a with
  | ⟨0, _⟩ =>
    refine (Pipeline.Window.rect_emb_val _ _ _ _).trans ?_
    show cc0_transform_7 (grid0.coords t) 0 * 1 + 0 = (grid0.coords t 1).val
    rw [h]; exact Nat.mul_one _
  | ⟨1, _⟩ =>
    refine (Pipeline.Window.rect_emb_val _ _ _ _).trans ?_
    show cc0_transform_7 (grid0.coords t) 1 * 1024 + f.val = f.val
    rw [h]; exact Nat.zero_add _
  | ⟨2, _⟩ =>
    refine (Pipeline.Window.rect_emb_val _ _ _ _).trans ?_
    show cc0_transform_7 (grid0.coords t) 2 * 1024 + d.val = d.val
    rw [h]; exact Nat.zero_add _

theorem blk_8 (d : Fin 1024) (he : (grid0.coords t 1).val < 32) :
    (iblk m hO c 8 t : Vec Ideal S1x1x1024 .f32) (ix3 0 0 d) = V m c main_v24 (ix3 ⟨(grid0.coords t 1).val, he⟩ 0 d) := by
  unfold iblk
  show View.read (Elt Ideal) (((cfgM m hO).win 8).blk t).view (V m c main_v24) (ix3 0 0 d) = _
  generalize V m c main_v24 = T
  refine congrArg T (funext fun a => Fin.ext ?_)
  have h := index_8 (grid0.coords t)
  match a with
  | ⟨0, _⟩ =>
    refine (Pipeline.Window.rect_emb_val _ _ _ _).trans ?_
    show cc0_transform_8 (grid0.coords t) 0 * 1 + 0 = (grid0.coords t 1).val
    rw [h]; exact Nat.mul_one _
  | ⟨1, _⟩ =>
    refine (Pipeline.Window.rect_emb_val _ _ _ _).trans ?_
    show cc0_transform_8 (grid0.coords t) 1 * 1 + 0 = 0
    rw [h]; rfl
  | ⟨2, _⟩ =>
    refine (Pipeline.Window.rect_emb_val _ _ _ _).trans ?_
    show cc0_transform_8 (grid0.coords t) 2 * 1024 + d.val = d.val
    rw [h]; exact Nat.zero_add _

end Cert.Moe

end
-- ==== Proof.Result.lean ====
module

public import proofs.«01_k».proof.Proof.Blocks
public import Idealize.ShloMosaic.Lib.Pipeline.Covers

@[expose] public section

set_option maxRecDepth 16384

noncomputable section

namespace Cert.Moe

open Cert.KernelIdeal Cert.KernelIdeal.Gen
open Idealize.ShloMosaic Idealize.ShloMosaic.TcCoe Idealize.ShloMosaic.Tactic

/-! # The result

The output array after the run, entry by entry: the sum over the experts, weighted by the positive gates. -/

variable (m : (ℓ : Loc nD τ sig) → Buf (Elt Ideal) ℓ) (c : Dev nD) (hO : Ok m)

/-- What expert `e` adds to row `R`, by the arrays that the launch reads. -/
def contrib (R : Fin 18432) (e : Fin 32) (d : Fin 1024) : EReal :=
  if (0 : EReal) < V m c main_v26 (ix2 R e) then
    expert (fun k f => V m c main_v18 (ix3 e k ⟨f.val, by omega⟩)) (fun k f => V m c main_v18 (ix3 e k ⟨1024 + f.val, by omega⟩)) (fun f => V m c main_v20 (ix3 e 0 f)) (fun f => V m c main_v22 (ix3 e 0 f))
      (fun f d => V m c main_v23 (ix3 e f d)) (fun d => V m c main_v24 (ix3 e 0 d)) (fun j => V m c main_v25 (ix2 R j)) d * (V m c main_v26 (ix2 R e) : EReal)
  else 0

theorem tile_lt (i : grid0.Coords) (r : Fin 1536) : 1536 * (i 0).val + r.val < 18432 := by
  have : (i 0).val < 12 := (i 0).isLt
  omega

theorem expert_lt (i : grid0.Coords) : (i 1).val < 32 := (i 1).isLt

/-- One point adds its expert's output to its tile. -/
theorem stepAt_apply (t : Fin (cfgM m hO).N) (acc : Vec Ideal S1536x1024 .f32) (r : Fin 1536) (d : Fin 1024) :
    stepAt m hO c t acc (ix2 r d) = acc (ix2 r d) + contrib m c ⟨1536 * (grid0.coords t 0).val + r.val, tile_lt _ r⟩ ⟨(grid0.coords t 1).val, expert_lt _⟩ d := by
  have hg : ∀ r : Fin 1536, (iblk m hO c 1 t : Vec Ideal S1536x32 .f32) (ix2 r ⟨(grid0.coords t 1).val, expert_lt _⟩) = V m c main_v26 (ix2 ⟨1536 * (grid0.coords t 0).val + r.val, tile_lt _ r⟩ ⟨(grid0.coords t 1).val, expert_lt _⟩) :=
    fun r => blk_1 m c hO t r _ _
  unfold stepAt
  refine (bodyOut_apply (grid0.coords t) ⟨(grid0.coords t 1).val, expert_lt _⟩ rfl (iblk m hO c 0 t) (iblk m hO c 1 t) (iblk m hO c 2 t)
    (fun r => (blk_2 m c hO t r _ (tile_lt _ r)).trans ((entry_gate_t m c _ _).trans (hg r).symm)) _ _ _ _ _ _ _
    ((countAt_eq m c _ (by have : (grid0.coords t 0).val < 12 := (grid0.coords t 0).isLt; exact this) (expert_lt _)).trans
      (congrArg (fun g => BitVec.ofNat 32 (total g)) (funext fun r => (hg r).symm))) acc r d).trans ?_
  refine congrArg (acc (ix2 r d) + ·) ?_
  unfold contrib expertOf
  simp only [hg, blk_0 m c hO t _ _ (tile_lt _ _), blk_3 m c hO t _ _ (expert_lt _), blk_4 m c hO t _ _ (expert_lt _), blk_5 m c hO t _ (expert_lt _), blk_6 m c hO t _ (expert_lt _), blk_7 m c hO t _ _ (expert_lt _), blk_8 m c hO t _ (expert_lt _)]

theorem coords_0 (t : Fin grid0.N) : (grid0.coords t 0).val = t.val / 32 := by
  have h : t.val < 384 := lt_of_lt_of_eq t.isLt (show grid0.N = 384 from N_0)
  rw [Pipeline.Grid.coords_val (S := 32) (B := 12) t 0 (by decide) (by decide)]
  omega

theorem coords_1 (t : Fin grid0.N) : (grid0.coords t 1).val = t.val % 32 := by
  rw [Pipeline.Grid.coords_val (S := 1) (B := 32) t 1 (by decide) (by decide), Nat.div_one]

/-- The last point of a tile leaves the sum over all experts. -/
theorem outsAt_apply (t : Fin (cfgM m hO).N) (ht : t.val % 32 = 31) (r : Fin 1536) (d : Fin 1024) :
    outsAt m hO c t.val t.isLt (ix2 r d) = ∑ e : Fin 32, contrib m c ⟨1536 * (grid0.coords t 0).val + r.val, tile_lt _ r⟩ e d := by
  have hz : (k0_pay3 (F := Ideal)) (ix2 r d) = 0 := by
    unfold k0_pay3; pointwise
  have h := Pipeline.eq_sum_fin_of_reset_step_apply_of_flush (ι := Unit) (fun n hn _ => outsAt m hO c n hn (ix2 r d)) 32 (fun _ => (k0_pay3 (F := Ideal)) (ix2 r d))
    (fun t _ => contrib m c ⟨1536 * (grid0.coords t 0).val + r.val, tile_lt _ r⟩ ⟨(grid0.coords t 1).val, expert_lt _⟩ d)
    (fun t h0 _ => (congrFun (outsAt_first m hO c t h0) (ix2 r d)).trans (stepAt_apply m c hO t _ r d))
    (fun t h0 _ => (congrFun (outsAt_later m hO c t h0) (ix2 r d)).trans (stepAt_apply m c hO t _ r d)) t ht ()
  refine h.trans ?_
  rw [hz, zero_add]
  refine Finset.sum_congr rfl fun s _ => ?_
  have hs := s.isLt
  have e0 : (grid0.coords (⟨32 * (t.val / 32) + s.val, Pipeline.run_point_lt_of_flush t ht s⟩ : Fin grid0.N) 0).val = (grid0.coords t 0).val := by
    rw [coords_0, coords_0]; show (32 * (t.val / 32) + s.val) / 32 = t.val / 32; omega
  have e1 : (grid0.coords (⟨32 * (t.val / 32) + s.val, Pipeline.run_point_lt_of_flush t ht s⟩ : Fin grid0.N) 1).val = s.val := by
    rw [coords_1]; show (32 * (t.val / 32) + s.val) % 32 = s.val; omega
  exact congrArg₂ (fun R e => contrib m c R e d) (Fin.ext (by show 1536 * _ + r.val = 1536 * _ + r.val; rw [e0])) (Fin.ext e1)

/-- The output array after the run. -/
def result : Vec Ideal S18432x1024 .f32 := fun i => ∑ e : Fin 32, contrib m c (i 0) e (i 1)

/-- The point of tile `b`'s first expert. -/
def tileAt (b : Fin 12) : grid0.Coords := fun a => match a with
  | ⟨0, _⟩ => b
  | ⟨1, _⟩ => (0 : Fin 32)

theorem covers : ((cfgM m hO).win 9).Covers :=
  ((cfgM m hO).win 9).covers_of_indexMap_surj rfl
    (fun a => match a with
      | ⟨0, _⟩ => (by decide : 0 < 1536)
      | ⟨1, _⟩ => (by decide : 0 < 1024)) fun β => by
    have p0 : 0 < 2 := by decide
    have p1 : 1 < 2 := by decide
    have h0 := (β ⟨0, p0⟩).isLt
    have h1 := (β ⟨1, p1⟩).isLt
    change (β ⟨0, p0⟩).val < (18432 + 1536 - 1) / 1536 at h0
    change (β ⟨1, p1⟩).val < (1024 + 1024 - 1) / 1024 at h1
    refine ⟨tileAt ⟨(β ⟨0, p0⟩).val, by omega⟩, fun a => ?_⟩
    show cc0_transform_9 (tileAt ⟨(β ⟨0, p0⟩).val, _⟩) a = (β a).val
    rw [index_9]
    match a with
    | ⟨0, _⟩ => rfl
    | ⟨1, _⟩ =>
      show 0 = (β ⟨1, p1⟩).val
      omega

theorem out_array : (dats m hO 0 c).arrAt 9 (cfgM m hO).N = result m c := by
  refine (dats m hO 0 c).arrAt_eq_of_covers 9 _ (covers m hO) fun t hf y => ?_
  rw [after_9]
  have ht : t.val % 32 = 31 := (flush0_9 (adm m hO) t).mp hf
  have h := index_9 (grid0.coords t)
  obtain ⟨r, d, rfl⟩ : ∃ (r : Fin 1536) (d : Fin 1024), y = (ix2 r d : S1536x1024.Idx) :=
    ⟨_, _, eq_ix2 (n0 := 1536) (n1 := 1024) y⟩
  refine (outsAt_apply m c hO t ht r d).trans ?_
  refine Finset.sum_congr rfl fun e _ => congrArg₂ (fun R d => contrib m c R e d) (Fin.ext ?_) (Fin.ext ?_)
  · refine Eq.symm ((Pipeline.Window.rect_emb_val _ _ _ _).trans ?_)
    show cc0_transform_9 (grid0.coords t) 0 * 1536 + r.val = 1536 * (grid0.coords t 0).val + r.val
    rw [h, mul_comm]; rfl
  · refine Eq.symm ((Pipeline.Window.rect_emb_val _ _ _ _).trans ?_)
    show cc0_transform_9 (grid0.coords t) 1 * 1024 + d.val = d.val
    rw [h]; exact Nat.zero_add _

/-! ## By the arguments -/

/-- What expert `e` adds to row `r`, by the arguments. -/
def part (x : Vec Ideal S17664x1024 .f32) (gate : Vec Ideal S17664x32 .f32) (w1 : Vec Ideal S32x1024x2048 .f32) (b1 : Vec Ideal S32x2048 .f32) (w2 : Vec Ideal S32x1024x1024 .f32) (b2 : Vec Ideal S32x1024 .f32)
    (r : Fin 17664) (e : Fin 32) (d : Fin 1024) : EReal :=
  expert (fun k f => w1 (ix3 e k ⟨2 * f.val, by omega⟩)) (fun k f => w1 (ix3 e k ⟨2 * f.val + 1, by omega⟩)) (fun f => b1 (ix2 e ⟨2 * f.val, by omega⟩)) (fun f => b1 (ix2 e ⟨2 * f.val + 1, by omega⟩))
    (fun f d => w2 (ix3 e f d)) (fun d => b2 (ix2 e d)) (fun j => x (ix2 r j)) d * gate (ix2 r e)

theorem source_gate (f : Fin 1024) : source ⟨f.val, by omega⟩ = ⟨2 * f.val, by omega⟩ := dif_pos f.isLt

theorem source_linear (f : Fin 1024) : source ⟨1024 + f.val, by omega⟩ = ⟨2 * f.val + 1, by omega⟩ := by
  refine (dif_neg (by show ¬ 1024 + f.val < 1024; omega)).trans (Fin.ext ?_)
  show 2 * (1024 + f.val - 1024) + 1 = 2 * f.val + 1
  omega

theorem contrib_inside (R : Fin 18432) (hR : R.val < 17664) (e : Fin 32) (d : Fin 1024) (h0 : 0 ≤ argGate m c (ix2 ⟨R.val, hR⟩ e)) :
    contrib m c R e d = part (argX m c) (argGate m c) (argW1 m c) (argB1 m c) (argW2 m c) (argB2 m c) ⟨R.val, hR⟩ e d := by
  have hg : V m c main_v26 (ix2 R e) = argGate m c (ix2 ⟨R.val, hR⟩ e) := (entry_gate m c R e).trans (dif_pos hR)
  have hx : ∀ j, V m c main_v25 (ix2 R j) = argX m c (ix2 ⟨R.val, hR⟩ j) := fun j => (entry_x m c R j).trans (dif_pos hR)
  unfold contrib
  rw [hg]
  by_cases hp : (0 : EReal) < argGate m c (ix2 ⟨R.val, hR⟩ e)
  · rw [if_pos hp]
    unfold part
    simp only [hx, entry_w1 m c, entry_b1g m c, entry_b1l m c, entry_w2 m c, entry_b2 m c, source_gate, source_linear]
  · rw [if_neg hp]
    have hz : argGate m c (ix2 ⟨R.val, hR⟩ e) = 0 := le_antisymm (not_lt.1 hp) h0
    unfold part
    rw [hz]
    exact (mul_zero _).symm

theorem contrib_outside (R : Fin 18432) (hR : ¬ R.val < 17664) (e : Fin 32) (d : Fin 1024) : contrib m c R e d = 0 := by
  have hg : V m c main_v26 (ix2 R e) = (0 : EReal) := (entry_gate m c R e).trans (dif_neg hR)
  unfold contrib
  rw [hg, if_neg (lt_irrefl _)]

/-- The mixture of the experts' outputs, with zero rows below. -/
def mixture (x : Vec Ideal S17664x1024 .f32) (gate : Vec Ideal S17664x32 .f32) (w1 : Vec Ideal S32x1024x2048 .f32) (b1 : Vec Ideal S32x2048 .f32) (w2 : Vec Ideal S32x1024x1024 .f32) (b2 : Vec Ideal S32x1024 .f32) :
    Vec Ideal S18432x1024 .f32 := fun i =>
  if h : (i 0).val < 17664 then ∑ e : Fin 32, part x gate w1 b1 w2 b2 ⟨(i 0).val, h⟩ e (i 1) else (0 : EReal)

theorem result_eq (h0 : ∀ i, 0 ≤ argGate m c i) : result m c = mixture (argX m c) (argGate m c) (argW1 m c) (argB1 m c) (argW2 m c) (argB2 m c) := by
  funext i
  unfold result mixture
  by_cases h : (i 0).val < 17664
  · rw [dif_pos h]
    exact Finset.sum_congr rfl fun e _ => contrib_inside m c (i 0) h e (i 1) (h0 _)
  · rw [dif_neg h]
    exact Finset.sum_eq_zero fun e _ => contrib_outside m c (i 0) h e (i 1)

end Cert.Moe

end
-- ==== Proof.Plain.lean ====
module

public import proofs.«01_k».proof.Proof.Gen.ReferenceIdeal.Run
public import proofs.«01_k».proof.Proof.Chunk

@[expose] public section

set_option maxRecDepth 16384

noncomputable section

namespace Cert.Plain

open Cert.ReferenceIdeal Cert.ReferenceIdeal.Gen
open Idealize.ShloMosaic Idealize.ShloMosaic.TcCoe Idealize.ShloMosaic.Tactic

/-! # The plain formula

What the reference program computes, entry by entry. -/

variable (x : Vec Ideal S17664x1024 .f32) (gate : Vec Ideal S17664x32 .f32) (w1 : Vec Ideal S32x1024x2048 .f32) (b1 : Vec Ideal S32x2048 .f32) (w2 : Vec Ideal S32x1024x1024 .f32) (b2 : Vec Ideal S32x1024 .f32)

/-- Every expert's first layer, -/
def hidden : FVec Ideal S32x17664x2048 .f32 :=
  (addf (transpose S32x17664x2048 [0, 2, 1] (Host.dotGeneral (F := Ideal) (φ₁ := .f32) (φ₂ := .f32) dot_S32x1024x2048_S17664x1024_S32x2048x17664_1_1_02_0_n_n none w1 x) transposes_S32x2048x17664_S32x17664x2048_0_2_1) (broadcastInDim S32x17664x2048 ![0, 1, 2] bcast_S32x1x2048_S32x17664x2048_0_1_2 (broadcastInDim S32x1x2048 ![0, 2] bcast_S32x2048_S32x1x2048_0_2 b1)))

/-- its gated unit, -/
def unit : FVec Ideal S32x17664x1024 .f32 :=
  (mulf (mulf (minimumf (Host.slice S32x17664x1024 ![0, 0, 0] ![1, 1, 2] (hidden x w1 b1) slicesBy_S32x17664x2048_S32x17664x1024_0s1_0s1_0s2) (broadcastInDim S32x17664x1024 ![] bcast_S_S32x17664x1024 (constant (F := Ideal) S_ .f32 0x40E00000#32))) (Host.divf (broadcastInDim S32x17664x1024 ![] bcast_S_S32x17664x1024 (constant (F := Ideal) S_ .f32 0x3F800000#32)) (addf (broadcastInDim S32x17664x1024 ![] bcast_S_S32x17664x1024 (constant (F := Ideal) S_ .f32 0x3F800000#32)) (Host.exp (Host.negf (mulf (broadcastInDim S32x17664x1024 ![] bcast_S_S32x17664x1024 (constant (F := Ideal) S_ .f32 0x3FD9DB23#32)) (minimumf (Host.slice S32x17664x1024 ![0, 0, 0] ![1, 1, 2] (hidden x w1 b1) slicesBy_S32x17664x2048_S32x17664x1024_0s1_0s1_0s2) (broadcastInDim S32x17664x1024 ![] bcast_S_S32x17664x1024 (constant (F := Ideal) S_ .f32 0x40E00000#32))))))))) (addf (minimumf (broadcastInDim S32x17664x1024 ![] bcast_S_S32x17664x1024 (id (constant (F := Ideal) S_ .f32 0x40E00000#32))) (maximumf (broadcastInDim S32x17664x1024 ![] bcast_S_S32x17664x1024 (id (constant (F := Ideal) S_ .f32 0xC0E00000#32))) (Host.slice S32x17664x1024 ![0, 0, 1] ![1, 1, 2] (hidden x w1 b1) slicesBy_S32x17664x2048_S32x17664x1024_0s1_0s1_1s2))) (broadcastInDim S32x17664x1024 ![] bcast_S_S32x17664x1024 (constant (F := Ideal) S_ .f32 0x3F800000#32))))

/-- and the mixture of the second layers. -/
def mixed : FVec Ideal S17664x1024 .f32 :=
  (Host.reduceAdd (mulf (broadcastInDim S32x17664x1024 ![0, 1, 2] bcast_S32x17664x1_S32x17664x1024_0_1_2 (broadcastInDim S32x17664x1 ![0, 1] bcast_S32x17664_S32x17664x1_0_1 (transpose S32x17664 [1, 0] gate transposes_S17664x32_S32x17664_1_0))) (addf (Host.dotGeneral (F := Ideal) (φ₁ := .f32) (φ₂ := .f32) dot_S32x17664x1024_S32x1024x1024_S32x17664x1024_2_1_1_2_0_0 none (unit x w1 b1) w2) (broadcastInDim S32x17664x1024 ![0, 1, 2] bcast_S32x1x1024_S32x17664x1024_0_1_2 (broadcastInDim S32x1x1024 ![0, 2] bcast_S32x1024_S32x1x1024_0_2 b2)))) (constant (F := Ideal) S_ .f32 0x00000000#32) reducesTo_S32x17664x1024_S17664x1024_d0 h_S_)

/-- The reference's result. -/
def plain : FVec Ideal S18432x1024 .f32 :=
  pad S18432x1024 ![0, 0] ![768, 0] ![0, 0] (mixed x gate w1 b1 w2 b2) (sitofp (F := Ideal) .f32 (constantI S_ 32 0#32)) pads_S17664x1024_S18432x1024_07680_000 h_S_

theorem hidden_apply (e : Fin 32) (r : Fin 17664) (f : Fin 2048) :
    hidden x w1 b1 (ix3 e r f) = (∑ k : Fin 1024, w1 (ix3 e k f) * x (ix2 r k)) + b1 (ix2 e f) := by
  unfold hidden
  pointwise

theorem unit_apply (e : Fin 32) (r : Fin 17664) (f : Fin 1024) :
    unit x w1 b1 (ix3 e r f) = Cert.Moe.gated (hidden x w1 b1 (ix3 e r ⟨2 * f.val, by omega⟩)) (hidden x w1 b1 (ix3 e r ⟨2 * f.val + 1, by omega⟩)) := by
  unfold unit
  generalize hidden x w1 b1 = h
  pointwise
  exact congrArg (fun q => Cert.Moe.gated (h (ix3 e r ⟨2 * f.val, by omega⟩)) (h (ix3 e r q))) (Fin.ext (Nat.add_comm 1 (2 * f.val)))

theorem mixed_apply (r : Fin 17664) (d : Fin 1024) :
    mixed x gate w1 b1 w2 b2 (ix2 r d) = ∑ e : Fin 32, gate (ix2 r e) * ((∑ f : Fin 1024, unit x w1 b1 (ix3 e r f) * w2 (ix3 e f d)) + b2 (ix2 e d)) := by
  unfold mixed
  generalize unit x w1 b1 = u
  pointwise

theorem plain_inside (i : Fin 18432) (hi : i.val < 17664) (d : Fin 1024) : plain x gate w1 b1 w2 b2 (ix2 i d) = mixed x gate w1 b1 w2 b2 (ix2 ⟨i.val, hi⟩ d) := by
  unfold plain
  exact pad_apply_of_inside _ _ _ _ _ _ _ (ix2 i d) (ix2 ⟨i.val, hi⟩ d) fun a => by
    match a with
    | ⟨0, _⟩ => show i.val = 0 + i.val * 1; omega
    | ⟨1, _⟩ => show d.val = 0 + d.val * 1; omega

theorem plain_outside (i : Fin 18432) (hi : ¬ i.val < 17664) (d : Fin 1024) : plain x gate w1 b1 w2 b2 (ix2 i d) = 0 := by
  unfold plain
  refine (pad_apply_of_not_inside _ _ _ _ _ _ _ (ix2 i d) 0 fun hh => hi ?_).trans (sitofp_zero (φ := .f32))
  have h3 : (i.val - 0) / 1 < 17664 := hh.2.2
  omega

end Cert.Plain

end
-- ==== Proof.Agree.lean ====
module

public import proofs.«01_k».proof.Defs
public import proofs.«01_k».proof.Proof.Result
public import proofs.«01_k».proof.Proof.Plain

@[expose] public section

set_option maxRecDepth 16384

noncomputable section

namespace Cert.Moe

open Idealize.ShloMosaic Idealize.ShloMosaic.TcCoe Idealize.ShloMosaic.Tactic Idealize.SL.Sem

/-! # Kernel and reference agree

Row `r` of the reference's array is the sum over the experts of the gate times the expert's output: the summand that
`part` names, with the factors of its products in the other order. -/

theorem summand_eq (x : Vec Ideal Cert.KernelIdeal.S17664x1024 .f32) (gate : Vec Ideal Cert.KernelIdeal.S17664x32 .f32) (w1 : Vec Ideal Cert.KernelIdeal.S32x1024x2048 .f32) (b1 : Vec Ideal Cert.KernelIdeal.S32x2048 .f32)
    (w2 : Vec Ideal Cert.KernelIdeal.S32x1024x1024 .f32) (b2 : Vec Ideal Cert.KernelIdeal.S32x1024 .f32) (r : Fin 17664) (e : Fin 32) (d : Fin 1024) :
    gate (ix2 r e) * ((∑ f : Fin 1024, Cert.Plain.unit x w1 b1 (ix3 e r f) * w2 (ix3 e f d)) + b2 (ix2 e d)) = part x gate w1 b1 w2 b2 r e d := by
  unfold part expert
  rw [mul_comm]
  refine congrArg (fun s => (s + b2 (ix2 e d)) * gate (ix2 r e)) (Finset.sum_congr rfl fun f _ => congrArg (· * w2 (ix3 e f d)) ?_)
  rw [Cert.Plain.unit_apply, Cert.Plain.hidden_apply, Cert.Plain.hidden_apply]
  simp only [mul_comm (w1 _)]

/-- The reference's array is the mixture. -/
theorem plain_eq (x : Vec Ideal Cert.KernelIdeal.S17664x1024 .f32) (gate : Vec Ideal Cert.KernelIdeal.S17664x32 .f32) (w1 : Vec Ideal Cert.KernelIdeal.S32x1024x2048 .f32) (b1 : Vec Ideal Cert.KernelIdeal.S32x2048 .f32)
    (w2 : Vec Ideal Cert.KernelIdeal.S32x1024x1024 .f32) (b2 : Vec Ideal Cert.KernelIdeal.S32x1024 .f32) : Cert.Plain.plain x gate w1 b1 w2 b2 = mixture x gate w1 b1 w2 b2 := by
  funext i
  obtain ⟨r, d, rfl⟩ : ∃ (r : Fin 18432) (d : Fin 1024), i = (ix2 r d : Cert.KernelIdeal.S18432x1024.Idx) :=
    ⟨_, _, eq_ix2 (n0 := 18432) (n1 := 1024) i⟩
  unfold mixture
  by_cases h : r.val < 17664
  · refine (Cert.Plain.plain_inside x gate w1 b1 w2 b2 r h d).trans (Eq.trans ?_ (dif_pos h).symm)
    refine (Cert.Plain.mixed_apply x gate w1 b1 w2 b2 ⟨r.val, h⟩ d).trans ?_
    exact Finset.sum_congr rfl fun e _ => summand_eq x gate w1 b1 w2 b2 ⟨r.val, h⟩ e d
  · refine (Cert.Plain.plain_outside x gate w1 b1 w2 b2 r h d).trans (Eq.trans ?_ (dif_neg h).symm)
    rfl

/-- The precondition says that no gate is negative. -/
theorem gates_nonneg [Cert.Pre_gate_nonneg.Facts] (m : (ℓ : Loc Cert.KernelIdeal.nD Cert.KernelIdeal.τ Cert.KernelIdeal.sig) → Buf (Elt Ideal) ℓ) (hm : Cert.Pre_KernelIdeal_gate_nonneg m)
    (c : Dev Cert.KernelIdeal.nD) (i : Cert.KernelIdeal.S17664x32.Idx) : (0 : EReal) ≤ argGate m c i := by
  have h := congrFun (hm c) i
  obtain ⟨r, e, rfl⟩ : ∃ (r : Fin 17664) (e : Fin 32), i = (ix2 r e : Cert.KernelIdeal.S17664x32.Idx) :=
    ⟨_, _, eq_ix2 (n0 := 17664) (n1 := 32) i⟩
  unfold Cert.Pre_gate_nonneg.fn at h
  change BitVec.ofBool (decide (Ideal.ofBits .f32 0x00000000#32 ≤ argGate m c (ix2 r e))) = 1#1 at h
  have hz : Ideal.ofBits .f32 0x00000000#32 = 0 := by simp only [pointwise]
  rw [hz] at h
  by_contra hn
  rw [decide_eq_false hn] at h
  exact absurd h (by decide)

/-- What the kernel leaves in its result. -/
theorem run_kernel (m : (ℓ : Loc Cert.KernelIdeal.nD Cert.KernelIdeal.τ Cert.KernelIdeal.sig) → Buf (Elt Ideal) ℓ) (ρ : Dev Cert.KernelIdeal.nD → PrngReg) (h0 : ∀ c i, (0 : EReal) ≤ argGate m c i) :
    θ_run Cert.KernelIdeal.defs (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v34) = mixture (argX m c) (argGate m c) (argW1 m c) (argB1 m c) (argW2 m c) (argB2 m c) :=
  (θ_run _ _ _).mono (fun r h c => ((h c).1 9).trans ((out_array m c (ok m)).trans (result_eq m c (h0 c)))) (run_main m ρ (ok m))

/-- What the reference leaves in its result. -/
theorem run_plain (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v31)
        = Cert.Plain.plain (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) :=
  (θ_run _ _ _).mono (fun r h c => (h c).1.trans rfl) (Cert.ReferenceIdeal.Value.run (F := Ideal) m ρ)

end Cert.Moe

end
-- ==== Proof.Norm.lean ====
module

public import proofs.«01_k».proof.Defs
public import proofs.«01_k».proof.Proof.Gen.NormIdeal.Value
public import proofs.«01_k».proof.Proof.Gen.NormPlainIdeal.Run
public import Idealize.ShloMosaic.Lib.Pipeline.Covers
public import Idealize.ShloMosaic.Lib.Pointwise
public import Idealize.ShloMosaic.Lib.Claim
public import Idealize.ShloMosaic.Lib.ValueIdx

@[expose] public section

set_option maxRecDepth 16384

noncomputable section

namespace Cert.LastNorm

open Idealize.ShloMosaic Idealize.ShloMosaic.TcCoe Idealize.ShloMosaic.Tactic Idealize.SL.Sem

/-! # The layer norm after the mixture

Each row of the result is the layer norm of `alpha` times the row of activations plus the mixture's row. -/

/-- The mean of a row. -/
def mean (h : Fin 1024 → EReal) : EReal := Ideal.div (∑ k : Fin 1024, h k) (Ideal.ofBits .f32 0x44800000#32)

/-- The layer norm of a row. -/
def normed (h g b : Fin 1024 → EReal) (d : Fin 1024) : EReal :=
  (h d - mean h) * Ideal.rsqrt (mean (fun k => (h k - mean h) * (h k - mean h)) + Ideal.ofBits .f32 0x3727C5AC#32) * g d + b d

section Kernel

open Cert.NormIdeal Cert.NormIdeal.Gen

theorem pay_apply (v0 v3 : Vec Ideal S768x1024 .f32) (v5 v7 : Vec Ideal S1x1024 .f32) (r : Fin 768) (d : Fin 1024) :
    k0_pay1 v0 v3 v5 v7 (ix2 r d) = normed (fun k => Ideal.ofBits .f32 0x3FB504F3#32 * v0 (ix2 r k) + v3 (ix2 r k)) (fun k => v5 (ix2 0 k)) (fun k => v7 (ix2 0 k)) d := by
  unfold k0_pay1
  simp only [pointwise, zero_add]
  rfl

variable (m : (ℓ : Loc nD τ sig) → Buf (Elt Ideal) ℓ) (c : Dev nD)

theorem coord_nat (n : ℕ) (h : n < 2 ^ 32) : (BitVec.ofNat 32 n).toNat = n := by
  rw [BitVec.toNat_ofNat, Nat.mod_eq_of_lt h]

theorem index_0 (i : grid0.Coords) : cc0_transform_0 i = ![(i 0).val, 0] := by
  have h : (i 0).val < 23 := (i 0).isLt
  unfold cc0_transform_0
  simp only [coord_nat (i 0).val (by omega)]
  rfl

theorem index_1 (i : grid0.Coords) : cc0_transform_1 i = ![(i 0).val, 0] := by
  have h : (i 0).val < 23 := (i 0).isLt
  unfold cc0_transform_1
  simp only [coord_nat (i 0).val (by omega)]
  rfl

theorem index_2 (i : grid0.Coords) : cc0_transform_2 i = ![0, 0] := rfl

theorem index_3 (i : grid0.Coords) : cc0_transform_3 i = ![0, 0] := rfl

theorem index_4 (i : grid0.Coords) : cc0_transform_4 i = ![(i 0).val, 0] := by
  have h : (i 0).val < 23 := (i 0).isLt
  unfold cc0_transform_4
  simp only [coord_nat (i 0).val (by omega)]
  rfl

theorem tile_lt (i : grid0.Coords) (r : Fin 768) : (i 0).val * 768 + r.val < 17664 := by
  have h : (i 0).val < 23 := (i 0).isLt
  omega

/-- The windows' blocks at an index, by the arguments. -/
theorem blk_0 (t : Fin cfg0.N) (r : Fin 768) (d : Fin 1024) :
    (iblk m c 0 t : Vec Ideal S768x1024 .f32) (ix2 r d) = m ((c.tc : Thread nD τ).loc main_arg0) (ix2 ⟨(grid0.coords t 0).val * 768 + r.val, tile_lt _ r⟩ d) := by
  unfold iblk
  show View.read (Elt Ideal) ((cfg0.win 0).blk t).view (V m c main_arg0) (ix2 r d) = _
  rw [V_main_arg0]
  generalize m ((c.tc : Thread nD τ).loc main_arg0) = T
  refine congrArg T (funext fun a => Fin.ext ?_)
  have h := index_0 (grid0.coords t)
  match a with
  | ⟨0, _⟩ =>
    refine (Pipeline.Window.rect_emb_val _ _ _ _).trans ?_
    show cc0_transform_0 (grid0.coords t) 0 * 768 + r.val = (grid0.coords t 0).val * 768 + r.val
    rw [h]; rfl
  | ⟨1, _⟩ =>
    refine (Pipeline.Window.rect_emb_val _ _ _ _).trans ?_
    show cc0_transform_0 (grid0.coords t) 1 * 1024 + d.val = d.val
    rw [h]; exact Nat.zero_add _

theorem blk_1 (t : Fin cfg0.N) (r : Fin 768) (d : Fin 1024) (hr : (grid0.coords t 0).val * 768 + r.val < 18432) :
    (iblk m c 1 t : Vec Ideal S768x1024 .f32) (ix2 r d) = m ((c.tc : Thread nD τ).loc main_arg1) (ix2 ⟨(grid0.coords t 0).val * 768 + r.val, hr⟩ d) := by
  unfold iblk
  show View.read (Elt Ideal) ((cfg0.win 1).blk t).view (V m c main_arg1) (ix2 r d) = _
  rw [V_main_arg1]
  generalize m ((c.tc : Thread nD τ).loc main_arg1) = T
  refine congrArg T (funext fun a => Fin.ext ?_)
  have h := index_1 (grid0.coords t)
  match a with
  | ⟨0, _⟩ =>
    refine (Pipeline.Window.rect_emb_val _ _ _ _).trans ?_
    show cc0_transform_1 (grid0.coords t) 0 * 768 + r.val = (grid0.coords t 0).val * 768 + r.val
    rw [h]; rfl
  | ⟨1, _⟩ =>
    refine (Pipeline.Window.rect_emb_val _ _ _ _).trans ?_
    show cc0_transform_1 (grid0.coords t) 1 * 1024 + d.val = d.val
    rw [h]; exact Nat.zero_add _

theorem entry_g (d : Fin 1024) : V m c main_v0 (ix2 0 d) = m ((c.tc : Thread nD τ).loc main_arg2) (ix1 d) := by
  simp only [V, hostOps0]
  entry_read
  pointwise

theorem entry_b (d : Fin 1024) : V m c main_v1 (ix2 0 d) = m ((c.tc : Thread nD τ).loc main_arg3) (ix1 d) := by
  simp only [V, hostOps0]
  entry_read
  pointwise

theorem blk_2 (t : Fin cfg0.N) (d : Fin 1024) : (iblk m c 2 t : Vec Ideal S1x1024 .f32) (ix2 0 d) = m ((c.tc : Thread nD τ).loc main_arg2) (ix1 d) := by
  refine Eq.trans ?_ (entry_g m c d)
  unfold iblk
  show View.read (Elt Ideal) ((cfg0.win 2).blk t).view (V m c main_v0) (ix2 0 d) = _
  generalize V m c main_v0 = T
  refine congrArg T (funext fun a => Fin.ext ?_)
  match a with
  | ⟨0, _⟩ => exact (Pipeline.Window.rect_emb_val _ _ _ _).trans rfl
  | ⟨1, _⟩ =>
    refine (Pipeline.Window.rect_emb_val _ _ _ _).trans ?_
    show 0 * 1024 + d.val = d.val
    omega

theorem blk_3 (t : Fin cfg0.N) (d : Fin 1024) : (iblk m c 3 t : Vec Ideal S1x1024 .f32) (ix2 0 d) = m ((c.tc : Thread nD τ).loc main_arg3) (ix1 d) := by
  refine Eq.trans ?_ (entry_b m c d)
  unfold iblk
  show View.read (Elt Ideal) ((cfg0.win 3).blk t).view (V m c main_v1) (ix2 0 d) = _
  generalize V m c main_v1 = T
  refine congrArg T (funext fun a => Fin.ext ?_)
  match a with
  | ⟨0, _⟩ => exact (Pipeline.Window.rect_emb_val _ _ _ _).trans rfl
  | ⟨1, _⟩ =>
    refine (Pipeline.Window.rect_emb_val _ _ _ _).trans ?_
    show 0 * 1024 + d.val = d.val
    omega

/-- The layer norm of every row. -/
def all (x : Vec Ideal S17664x1024 .f32) (y : Vec Ideal S18432x1024 .f32) (g b : Vec Ideal S1024 .f32) : Vec Ideal S17664x1024 .f32 := fun i =>
  normed (fun k => Ideal.ofBits .f32 0x3FB504F3#32 * x (ix2 (i 0) k) + y (ix2 ⟨(i 0).val, lt_of_lt_of_le (i 0).isLt (by decide : 17664 ≤ 18432)⟩ k)) (fun k => g (ix1 k)) (fun k => b (ix1 k)) (i 1)

/-- The array that the kernel is shown to leave. -/
def result : Vec Ideal S17664x1024 .f32 :=
  all (m ((c.tc : Thread nD τ).loc main_arg0)) (m ((c.tc : Thread nD τ).loc main_arg1)) (m ((c.tc : Thread nD τ).loc main_arg2)) (m ((c.tc : Thread nD τ).loc main_arg3))

/-- The grid point of a tile. -/
def tileAt (b : Fin 23) : grid0.Coords := fun a => match a with
  | ⟨0, _⟩ => b

theorem covers : (cfg0.win 4).Covers :=
  (cfg0.win 4).covers_of_indexMap_surj rfl
    (fun a => match a with
      | ⟨0, _⟩ => (by decide : 0 < 768)
      | ⟨1, _⟩ => (by decide : 0 < 1024)) fun β => by
    have p0 : 0 < 2 := by decide
    have p1 : 1 < 2 := by decide
    have h0 := (β ⟨0, p0⟩).isLt
    have h1 := (β ⟨1, p1⟩).isLt
    change (β ⟨0, p0⟩).val < (17664 + 768 - 1) / 768 at h0
    change (β ⟨1, p1⟩).val < (1024 + 1024 - 1) / 1024 at h1
    have h0' : (β ⟨0, p0⟩).val < 23 := by omega
    refine ⟨tileAt ⟨(β ⟨0, p0⟩).val, h0'⟩, fun a => ?_⟩
    show cc0_transform_4 (tileAt ⟨(β ⟨0, p0⟩).val, _⟩) a = (β a).val
    rw [index_4]
    match a with
    | ⟨0, _⟩ => rfl
    | ⟨1, _⟩ =>
      show 0 = (β ⟨1, p1⟩).val
      omega

/-- What a grid point writes, by the arguments. -/
theorem block_apply (t : Fin cfg0.N) (r : Fin 768) (d : Fin 1024) :
    out0_4 (iblk m c 0 t) (iblk m c 1 t) (iblk m c 2 t) (iblk m c 3 t) (ix2 r d) = result m c (ix2 ⟨(grid0.coords t 0).val * 768 + r.val, tile_lt _ r⟩ d) := by
  unfold out0_4
  rw [View.canon_cons_unit_lit _ _ _ (by decide), View.ld_unit_lit _ _ (by decide), View.ld_unit_lit _ _ (by decide), View.ld_unit_lit _ _ (by decide), View.ld_unit_lit _ _ (by decide)]
  refine (pay_apply _ _ _ _ r d).trans ?_
  simp only [blk_0 m c t, fun k => blk_1 m c t r k (lt_trans (tile_lt _ r) (by decide)), blk_2 m c t, blk_3 m c t]
  rfl

theorem out_array : (dats m 0 c).arrAt 4 cfg0.N = result m c := by
  refine (dats m 0 c).arrAt_eq_of_covers 4 _ covers fun t hf y => ?_
  rw [after0_4]
  obtain ⟨r, d, rfl⟩ : ∃ (r : Fin 768) (d : Fin 1024), y = (ix2 r d : S768x1024.Idx) :=
    ⟨_, _, eq_ix2 (n0 := 768) (n1 := 1024) y⟩
  have h := index_4 (grid0.coords t)
  have hb := block_apply m c t r d
  generalize out0_4 (iblk m c 0 t) (iblk m c 1 t) (iblk m c 2 t) (iblk m c 3 t) = O at hb ⊢
  generalize result m c = T at hb ⊢
  refine hb.trans ?_
  refine congrArg T (funext fun a => Fin.ext ?_)
  match a with
  | ⟨0, _⟩ =>
    refine Eq.symm ((Pipeline.Window.rect_emb_val _ _ _ _).trans ?_)
    show cc0_transform_4 (grid0.coords t) 0 * 768 + r.val = (grid0.coords t 0).val * 768 + r.val
    rw [h]; rfl
  | ⟨1, _⟩ =>
    refine Eq.symm ((Pipeline.Window.rect_emb_val _ _ _ _).trans ?_)
    show cc0_transform_4 (grid0.coords t) 1 * 1024 + d.val = d.val
    rw [h]; exact Nat.zero_add _

/-- What the kernel leaves in its result. -/
theorem run_kernel (ρ : Dev nD → PrngReg) : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (out_array m c), (h c).2⟩) (Cert.NormIdeal.Value.run_blocks m ρ)

end Kernel

section Reference

open Cert.NormPlainIdeal Cert.NormPlainIdeal.Gen

variable (m : (ℓ : Loc nD τ sig) → Buf (Elt Ideal) ℓ)

/-- What the reference leaves in its result. -/
theorem run_plain (ρ : Dev nD → PrngReg) : θ_run defs (onTc (τ := τ) (main (F := Ideal))) ⟨m, fun _ => 0, ρ⟩ fun r => ∀ c : Dev nD,
      r.2.mem ((c.tc : Thread nD τ).loc main_v27) = all (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (by
      generalize m ((c.tc : Thread nD τ).loc main_arg0) = x
      generalize m ((c.tc : Thread nD τ).loc main_arg1) = y
      generalize m ((c.tc : Thread nD τ).loc main_arg2) = g
      generalize m ((c.tc : Thread nD τ).loc main_arg3) = b
      funext i
      obtain ⟨r, d, rfl⟩ : ∃ (r : Fin 17664) (d : Fin 1024), i = (ix2 r d : S17664x1024.Idx) :=
        ⟨_, _, eq_ix2 (n0 := 17664) (n1 := 1024) i⟩
      pointwise
      rfl), (h c).2⟩) (Cert.NormPlainIdeal.Value.run (F := Ideal) m ρ)

end Reference

end Cert.LastNorm

end
-- ==== Proof.Gates.lean ====
module

public import proofs.«01_k».proof.Defs
public import proofs.«01_k».proof.Proof.Gen.GatesIdeal.Value
public import proofs.«01_k».proof.Proof.Gen.GatesPlainIdeal.Run
public import Idealize.ShloMosaic.Lib.Pipeline.Covers
public import Idealize.ShloMosaic.Lib.Pointwise
public import Idealize.ShloMosaic.Lib.Claim
public import Idealize.ShloMosaic.Lib.ValueIdx

@[expose] public section

set_option maxRecDepth 16384

noncomputable section

namespace Cert.BranchGates

open Idealize.ShloMosaic Idealize.ShloMosaic.TcCoe Idealize.ShloMosaic.Tactic Idealize.SL.Sem

/-! # The branch gates

The last 3072 columns of the input projection, through the logistic function. -/

/-- The gate of a row and a column: the weights' column stands 4940 columns further to the right. -/
def gateAt (x : Fin 17664 → Fin 1024 → EReal) (w : Fin 1024 → Fin 8012 → EReal) (b : Fin 8012 → EReal) (r : Fin 17664) (q : Fin 3072) : EReal :=
  Ideal.logistic ((∑ k : Fin 1024, x r k * w k ⟨4940 + q.val, by omega⟩) + b ⟨4940 + q.val, by omega⟩)

section Kernel

open Cert.GatesIdeal Cert.GatesIdeal.Gen

theorem pay_apply (v0 : Vec Ideal S768x1024 .bf16) (v2 : Vec Ideal S1024x512 .bf16) (v5 : Vec Ideal S1x512 .f32) (r : Fin 768) (d : Fin 512) :
    k0_pay1 v0 v2 v5 (ix2 r d) = Ideal.logistic ((∑ k : Fin 1024, v0 (ix2 r k) * v2 (ix2 k d)) + v5 (ix2 0 d)) := by
  unfold k0_pay1
  simp only [pointwise, zero_add]
  rfl

variable (m : (ℓ : Loc nD τ sig) → Buf (Elt Ideal) ℓ) (c : Dev nD)

theorem coord_nat (n : ℕ) (h : n < 2 ^ 32) : (BitVec.ofNat 32 n).toNat = n := by
  rw [BitVec.toNat_ofNat, Nat.mod_eq_of_lt h]

theorem index_0 (i : grid0.Coords) : cc0_transform_0 i = ![(i 0).val, 0] := by
  have h : (i 0).val < 23 := (i 0).isLt
  unfold cc0_transform_0
  simp only [coord_nat (i 0).val (by omega)]
  rfl

theorem index_1 (i : grid0.Coords) : cc0_transform_1 i = ![0, (i 1).val] := by
  have h : (i 1).val < 6 := (i 1).isLt
  unfold cc0_transform_1
  simp only [coord_nat (i 1).val (by omega)]
  rfl

theorem index_2 (i : grid0.Coords) : cc0_transform_2 i = ![0, (i 1).val] := by
  have h : (i 1).val < 6 := (i 1).isLt
  unfold cc0_transform_2
  simp only [coord_nat (i 1).val (by omega)]
  rfl

theorem index_3 (i : grid0.Coords) : cc0_transform_3 i = ![(i 0).val, (i 1).val] := by
  have h : (i 0).val < 23 := (i 0).isLt
  have h' : (i 1).val < 6 := (i 1).isLt
  unfold cc0_transform_3
  simp only [coord_nat (i 0).val (by omega), coord_nat (i 1).val (by omega)]

theorem tile_lt (i : grid0.Coords) (r : Fin 768) : (i 0).val * 768 + r.val < 17664 := by
  have h : (i 0).val < 23 := (i 0).isLt
  omega

theorem col_lt (i : grid0.Coords) (d : Fin 512) : (i 1).val * 512 + d.val < 3072 := by
  have h : (i 1).val < 6 := (i 1).isLt
  omega

/-- The prepared arrays at an index. -/
theorem entry_x (r : Fin 17664) (k : Fin 1024) : V m c main_v0 (ix2 r k) = m ((c.tc : Thread nD τ).loc main_arg0) (ix2 r k) := by
  simp only [V, hostOps0]
  entry_read
  pointwise

theorem entry_w (k : Fin 1024) (q : Fin 3072) : V m c main_v2 (ix2 k q) = m ((c.tc : Thread nD τ).loc main_arg1) (ix2 k ⟨4940 + q.val, by omega⟩) := by
  simp only [V, hostOps0]
  entry_read
  pointwise

theorem entry_b (q : Fin 3072) : V m c main_v4 (ix2 0 q) = m ((c.tc : Thread nD τ).loc main_arg2) (ix1 ⟨4940 + q.val, by omega⟩) := by
  simp only [V, hostOps0]
  entry_read
  pointwise

/-- The windows' blocks at an index, by the arguments. -/
theorem blk_0 (t : Fin cfg0.N) (r : Fin 768) (d : Fin 1024) :
    (iblk m c 0 t : Vec Ideal S768x1024 .bf16) (ix2 r d) = m ((c.tc : Thread nD τ).loc main_arg0) (ix2 ⟨(grid0.coords t 0).val * 768 + r.val, tile_lt _ r⟩ d) := by
  refine Eq.trans ?_ (entry_x m c _ d)
  unfold iblk
  show View.read (Elt Ideal) ((cfg0.win 0).blk t).view (V m c main_v0) (ix2 r d) = _
  generalize V m c main_v0 = T
  refine congrArg T (funext fun a => Fin.ext ?_)
  have h := index_0 (grid0.coords t)
  match a with
  | ⟨0, _⟩ =>
    refine (Pipeline.Window.rect_emb_val _ _ _ _).trans ?_
    show cc0_transform_0 (grid0.coords t) 0 * 768 + r.val = (grid0.coords t 0).val * 768 + r.val
    rw [h]; rfl
  | ⟨1, _⟩ =>
    refine (Pipeline.Window.rect_emb_val _ _ _ _).trans ?_
    show cc0_transform_0 (grid0.coords t) 1 * 1024 + d.val = d.val
    rw [h]; exact Nat.zero_add _

theorem blk_1 (t : Fin cfg0.N) (k : Fin 1024) (d : Fin 512) :
    (iblk m c 1 t : Vec Ideal S1024x512 .bf16) (ix2 k d) = m ((c.tc : Thread nD τ).loc main_arg1) (ix2 k ⟨4940 + ((grid0.coords t 1).val * 512 + d.val), Nat.add_lt_add_left (col_lt _ d) 4940⟩) := by
  refine Eq.trans ?_ (entry_w m c k ⟨(grid0.coords t 1).val * 512 + d.val, col_lt _ d⟩)
  unfold iblk
  show View.read (Elt Ideal) ((cfg0.win 1).blk t).view (V m c main_v2) (ix2 k d) = _
  generalize V m c main_v2 = T
  refine congrArg T (funext fun a => Fin.ext ?_)
  have h := index_1 (grid0.coords t)
  match a with
  | ⟨0, _⟩ =>
    refine (Pipeline.Window.rect_emb_val _ _ _ _).trans ?_
    show cc0_transform_1 (grid0.coords t) 0 * 1024 + k.val = k.val
    rw [h]; exact Nat.zero_add _
  | ⟨1, _⟩ =>
    refine (Pipeline.Window.rect_emb_val _ _ _ _).trans ?_
    show cc0_transform_1 (grid0.coords t) 1 * 512 + d.val = (grid0.coords t 1).val * 512 + d.val
    rw [h]; rfl

theorem blk_2 (t : Fin cfg0.N) (d : Fin 512) :
    (iblk m c 2 t : Vec Ideal S1x512 .f32) (ix2 0 d) = m ((c.tc : Thread nD τ).loc main_arg2) (ix1 ⟨4940 + ((grid0.coords t 1).val * 512 + d.val), Nat.add_lt_add_left (col_lt _ d) 4940⟩) := by
  refine Eq.trans ?_ (entry_b m c ⟨(grid0.coords t 1).val * 512 + d.val, col_lt _ d⟩)
  unfold iblk
  show View.read (Elt Ideal) ((cfg0.win 2).blk t).view (V m c main_v4) (ix2 0 d) = _
  generalize V m c main_v4 = T
  refine congrArg T (funext fun a => Fin.ext ?_)
  have h := index_2 (grid0.coords t)
  match a with
  | ⟨0, _⟩ =>
    refine (Pipeline.Window.rect_emb_val _ _ _ _).trans ?_
    show cc0_transform_2 (grid0.coords t) 0 * 1 + 0 = 0
    rw [h]; rfl
  | ⟨1, _⟩ =>
    refine (Pipeline.Window.rect_emb_val _ _ _ _).trans ?_
    show cc0_transform_2 (grid0.coords t) 1 * 512 + d.val = (grid0.coords t 1).val * 512 + d.val
    rw [h]; rfl

/-- All the gates. -/
def all (x : Vec Ideal S17664x1024 .f32) (w : Vec Ideal S1024x8012 .f32) (b : Vec Ideal S8012 .f32) : Vec Ideal S17664x3072 .f32 := fun i =>
  gateAt (fun r k => x (ix2 r k)) (fun k q => w (ix2 k q)) (fun q => b (ix1 q)) (i 0) (i 1)

/-- The array that the kernel is shown to leave. -/
def result : Vec Ideal S17664x3072 .f32 :=
  all (m ((c.tc : Thread nD τ).loc main_arg0)) (m ((c.tc : Thread nD τ).loc main_arg1)) (m ((c.tc : Thread nD τ).loc main_arg2))

/-- The grid point of a tile. -/
def tileAt (a : Fin 23) (b : Fin 6) : grid0.Coords := fun k => match k with
  | ⟨0, _⟩ => a
  | ⟨1, _⟩ => b

theorem covers : (cfg0.win 3).Covers :=
  (cfg0.win 3).covers_of_indexMap_surj rfl
    (fun a => match a with
      | ⟨0, _⟩ => (by decide : 0 < 768)
      | ⟨1, _⟩ => (by decide : 0 < 512)) fun β => by
    have p0 : 0 < 2 := by decide
    have p1 : 1 < 2 := by decide
    have h0 := (β ⟨0, p0⟩).isLt
    have h1 := (β ⟨1, p1⟩).isLt
    change (β ⟨0, p0⟩).val < (17664 + 768 - 1) / 768 at h0
    change (β ⟨1, p1⟩).val < (3072 + 512 - 1) / 512 at h1
    have h0' : (β ⟨0, p0⟩).val < 23 := by omega
    have h1' : (β ⟨1, p1⟩).val < 6 := by omega
    refine ⟨tileAt ⟨(β ⟨0, p0⟩).val, h0'⟩ ⟨(β ⟨1, p1⟩).val, h1'⟩, fun a => ?_⟩
    show cc0_transform_3 (tileAt ⟨(β ⟨0, p0⟩).val, _⟩ ⟨(β ⟨1, p1⟩).val, _⟩) a = (β a).val
    rw [index_3]
    match a with
    | ⟨0, _⟩ => rfl
    | ⟨1, _⟩ => rfl

/-- What a grid point writes, by the arguments. -/
theorem block_apply (t : Fin cfg0.N) (r : Fin 768) (d : Fin 512) :
    out0_3 (iblk m c 0 t) (iblk m c 1 t) (iblk m c 2 t) (ix2 r d)
      = result m c (ix2 ⟨(grid0.coords t 0).val * 768 + r.val, tile_lt _ r⟩ ⟨(grid0.coords t 1).val * 512 + d.val, col_lt _ d⟩) := by
  unfold out0_3
  rw [View.canon_cons_unit_lit _ _ _ (by decide), View.ld_unit_lit _ _ (by decide), View.ld_unit_lit _ _ (by decide), View.ld_unit_lit _ _ (by decide)]
  refine (pay_apply _ _ _ r d).trans ?_
  simp only [blk_0 m c t, blk_1 m c t, blk_2 m c t]
  rfl

theorem out_array : (dats m 0 c).arrAt 3 cfg0.N = result m c := by
  refine (dats m 0 c).arrAt_eq_of_covers 3 _ covers fun t hf y => ?_
  rw [after0_3]
  obtain ⟨r, d, rfl⟩ : ∃ (r : Fin 768) (d : Fin 512), y = (ix2 r d : S768x512.Idx) :=
    ⟨_, _, eq_ix2 (n0 := 768) (n1 := 512) y⟩
  have h := index_3 (grid0.coords t)
  have hb := block_apply m c t r d
  generalize out0_3 (iblk m c 0 t) (iblk m c 1 t) (iblk m c 2 t) = O at hb ⊢
  generalize result m c = T at hb ⊢
  refine hb.trans ?_
  refine congrArg T (funext fun a => Fin.ext ?_)
  match a with
  | ⟨0, _⟩ =>
    refine Eq.symm ((Pipeline.Window.rect_emb_val _ _ _ _).trans ?_)
    show cc0_transform_3 (grid0.coords t) 0 * 768 + r.val = (grid0.coords t 0).val * 768 + r.val
    rw [h]; rfl
  | ⟨1, _⟩ =>
    refine Eq.symm ((Pipeline.Window.rect_emb_val _ _ _ _).trans ?_)
    show cc0_transform_3 (grid0.coords t) 1 * 512 + d.val = (grid0.coords t 1).val * 512 + d.val
    rw [h]; rfl

/-- What the kernel leaves in its result. -/
theorem run_kernel (ρ : Dev nD → PrngReg) : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (out_array m c), (h c).2⟩) (Cert.GatesIdeal.Value.run_blocks m ρ)

end Kernel

section Reference

open Cert.GatesPlainIdeal Cert.GatesPlainIdeal.Gen

variable (m : (ℓ : Loc nD τ sig) → Buf (Elt Ideal) ℓ)

/-- What the reference leaves in its result. -/
theorem run_plain (ρ : Dev nD → PrngReg) : θ_run defs (onTc (τ := τ) (main (F := Ideal))) ⟨m, fun _ => 0, ρ⟩ fun r => ∀ c : Dev nD,
      r.2.mem ((c.tc : Thread nD τ).loc main_v10) = all (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (by
      generalize m ((c.tc : Thread nD τ).loc main_arg0) = x
      generalize m ((c.tc : Thread nD τ).loc main_arg1) = w
      generalize m ((c.tc : Thread nD τ).loc main_arg2) = b
      funext i
      obtain ⟨r, q, rfl⟩ : ∃ (r : Fin 17664) (q : Fin 3072), i = (ix2 r q : S17664x3072.Idx) :=
        ⟨_, _, eq_ix2 (n0 := 17664) (n1 := 3072) i⟩
      pointwise
      rfl), (h c).2⟩) (Cert.GatesPlainIdeal.Value.run (F := Ideal) m ρ)

end Reference

end Cert.BranchGates

end
-- ==== Proof.ProjRun.lean ====
module

public import proofs.«01_k».proof.Proof.Gen.ProjIdeal.Launch
public import proofs.«01_k».proof.Proof.Gen.ProjIdeal.Skeleton
public import Idealize.ShloMosaic.Lib.Pipeline.FrameBody
public import Idealize.ShloMosaic.Lib.Tactic
public import Idealize.ShloMosaic.Lib.WholeRead
public import Idealize.ShloMosaic.Lib.VecWindow
public import Idealize.ShloMosaic.Lib.Claim
public import Idealize.ShloMosaic.Lib.ValueIdx

@[expose] public section

set_option maxRecDepth 16384

noncomputable section

namespace Cert.Columns

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The launch of the projection

The arrays that the host prepares, the body of one grid point, and the run of the whole program. A
table of ten flags says for each column tile whether its heads are rotated. -/

variable (m : (ℓ : Loc nD τ sig) → Buf (Elt F) ℓ) (ρ : Dev nD → PrngReg)

/-- Core `c`'s buffers when the launch begins: after the host operations. -/
abbrev V (c : Dev nD) (b : Ref sig .tc) : Buf (Elt F) ((c : Thread nD τ).loc b) :=
  StableHlo.after (List.flatten [hostOps0]) (fun b => m (c, b)) b

set_option maxHeartbeats 1600000 in
theorem hostOps0_fresh : (hostOps0 : List (HloOp τ sig (Elt F))).Forall fun op => op.fresh = ∅ := by
  simp only [List.Forall]; repeat' constructor

set_option maxHeartbeats 1600000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0] (by simp only [List.Forall]; exact hostOps0_sub)
    (by simp only [List.Forall]; exact hostOps0_fresh) main_chain

set_option maxHeartbeats 3200000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

set_option maxHeartbeats 3200000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

set_option maxHeartbeats 3200000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

set_option maxHeartbeats 3200000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- The table's contents. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
theorem ok : Ok m := by first | trivial | exact True.intro
abbrev adm (hO : Ok m) : (pcfg0 (F := F)).Adm := ⟨tbl m, hO⟩
abbrev cfgM (hO : Ok m) : Pipeline.Cfg sig Λ₀ := cfg0 (adm m hO)
abbrev tbM : Memref sig .tc .smem S10 .i32 := Memref.whole main_c
abbrev htbM : tbM.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The flags -/

/-- The columns' tiles whose heads are rotated. -/
def rotated (i : grid0.Coords) : Prop := (i 1).val ∈ [0, 1, 6, 7, 9]
instance (i : grid0.Coords) : Decidable (rotated i) := by unfold rotated; infer_instance

/-- The flag word as the body reads it before its first branch, -/
abbrev word1 (c : Dev nD) (i : grid0.Coords) (xt : TbBuf (F := F) c tbM) : Elt F .i32 :=
  tbM.view.readAt (Elt F) (Rect.unit (s := S10) (k0_off1 i) S1.size (k0_off1_inb i)).toLoadRect xt (Shape.Idx.first (numel1_S1.symm ▸ Nat.one_pos))
/-- and before its second. -/
abbrev word2 (c : Dev nD) (i : grid0.Coords) (xt : TbBuf (F := F) c tbM) : Elt F .i32 :=
  tbM.view.readAt (Elt F) (Rect.unit (s := S10) (k0_off2 i) S1.size (k0_off2_inb i)).toLoadRect xt (Shape.Idx.first (numel1_S1.symm ▸ Nat.one_pos))

theorem tbl_eq : tbl m 0 = (fun i => lit0 (S10.rowMajor i)) := by
  show V m 0 main_c = _
  simp only [V, hostOps0, List.flatten_cons, List.flatten_nil, List.append_nil, List.cons_append, List.nil_append]
  entry_read
  rfl

theorem coord_lt (i : grid0.Coords) : (i 1).val < 10 := (i 1).isLt

theorem k0_off1_val (i : grid0.Coords) : k0_off1 i 0 = (i 1).val := by
  have hi := coord_lt i
  simp only [k0_off1, Scalar.indexCast, Matrix.cons_val_zero]
  rw [BitVec.toNat_ofNat]
  exact Nat.mod_eq_of_lt (by omega)

theorem word1_eq (c : Dev nD) (i : grid0.Coords) : word1 (F := F) c i (tbl m 0) = lit0 ⟨(i 1).val, coord_lt i⟩ := by
  have e : ∀ y : S10.Idx, (tbl (F := F) m 0 : S10.Idx → BitVec 32) y = lit0 (S10.rowMajor y) := fun y => congrFun (tbl_eq m) y
  refine (e _).trans (congrArg lit0 (Fin.ext ?_))
  have hi := coord_lt i
  refine (Shape.rowMajor_val_one (d := S10.size) _).trans ?_
  show (k0_off1 i 0 + 0 : ℕ) = (i 1).val
  rw [k0_off1_val]; rfl

theorem word2_eq (c : Dev nD) (i : grid0.Coords) : word2 (F := F) c i (tbl m 0) = lit0 ⟨(i 1).val, coord_lt i⟩ := word1_eq m c i

theorem lit_plain : ∀ n : Fin 10, n.val ∉ [0, 1, 6, 7, 9] → k0_cond1 (lit0 n) = 1#1 ∧ ¬k0_cond2 (lit0 n) = 1#1 := by decide
theorem lit_rotated : ∀ n : Fin 10, n.val ∈ [0, 1, 6, 7, 9] → ¬k0_cond1 (lit0 n) = 1#1 ∧ k0_cond2 (lit0 n) = 1#1 := by decide

theorem flags_plain (c : Dev nD) (i : grid0.Coords) (h : ¬rotated i) : k0_cond1 (word1 (F := F) c i (tbl m 0)) = 1#1 ∧ ¬k0_cond2 (word2 (F := F) c i (tbl m 0)) = 1#1 := by
  rw [word1_eq, word2_eq]
  exact lit_plain _ h

theorem flags_rotated (c : Dev nD) (i : grid0.Coords) (h : rotated i) : ¬k0_cond1 (word1 (F := F) c i (tbl m 0)) = 1#1 ∧ k0_cond2 (word2 (F := F) c i (tbl m 0)) = 1#1 := by
  rw [word1_eq, word2_eq]
  exact lit_rotated _ h

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The arguments after a run that ends as the proof data say. -/
theorem frame_of (hO : Ok m) (dats : (p : Fin 1) → (c : Dev nD) → Dat τ (Elt F) Unit ℕ (UR sig nD τ) ℕ ((Pipeline.pin pcfgs fun _ => adm m hO) p) c)
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

abbrev ms0 (hO : Ok m) (t : Fin (cfgM m hO).N) : Memref sig .tc .vmem S768x1024 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1024x512 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x512 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S768x128 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S768x128 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S768x128 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S768x512 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S768x512 .bf16 := spec0_7.stage ((cfgM m hO).slots t 7)
abbrev hs7 (hO : Ok m) (t : Fin (cfgM m hO).N) : (ms7 m hO t).IsWhole := hstage0_7 (((cfgM m hO).slots t 7).cast nbuf0_7)

/-- The body at point `t`, on what the pipeline calls it with. -/
abbrev bodyAt (hO : Ok m) (t : Fin (cfgM m hO).N) : Prog (TpuEff nD τ sig (Elt F) Λ₀ .tc) PUnit :=
  cc0_proj_main (grid0.coords t) tbM htbM (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t)

theorem PhiA_eq (c : Dev nD) : (Pipeline.ΦA spec0 c : sProp 𝕄) = iprop(BI.emp ∗ (∃ r, prngReg c r)) := by
  unfold Pipeline.ΦA; rw [scopedRest0_eq]; try rfl

/-! ## The body of one grid point -/

set_option maxHeartbeats 1600000 in
/-- The body of a column tile without heads to rotate. -/
theorem run_plain (c : Dev nD) (i : grid0.Coords) (arg3 : Memref sig .tc .vmem S768x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .vmem S768x128 .f32) (harg8 : arg8.IsWhole) (arg9 : Memref sig .tc .vmem S768x512 .f32) (harg9 : arg9.IsWhole) (arg10 : Memref sig .tc .vmem S768x512 .bf16) (harg10 : arg10.IsWhole)
    (xt : TbBuf (F := F) c tbM) (h1 : k0_cond1 (word1 c i xt) = 1#1) (h2 : ¬k0_cond2 (word2 c i xt) = 1#1)
    (x3 : Vec F S768x1024 .bf16) (x4 : Vec F S1024x512 .bf16) (x5 : Vec F S1x512 .f32) (x6 x7 x8 : Vec F S768x128 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ tbPt c tbM xt
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay1 x3 x4 x5) ∗ owns (c : Thread nD τ) arg10 fullShare (k0_pay2 x3 x4 x5) ∗ tbPt c tbM xt) -∗ K ⟨⟩))
      ⊢ wp frame (wpE (defs₀ (F := F)) Variants.none c none) E (cc0_proj_main i tbM htbM arg3 harg3 arg4 harg4 arg5 harg5 arg6 harg6 arg7 harg7 arg8 harg8 arg9 harg9 arg10 harg10) K := by
  simp only [cc0_proj_main_eq_skeleton]; unfold cc0_proj_main_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, HT, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8
  have e3 : View.readAt (Elt F) arg3.view (Rect.unit ![0, 0] S768x1024.size inb_S768x1024_S768x1024_0_0).toLoadRect (harg3.unread x3) = x3 := by
    rw [View.readAt_full, harg3.read_unread]
  have e4 : View.readAt (Elt F) arg4.view (Rect.unit ![0, 0] S1024x512.size inb_S1024x512_S1024x512_0_0).toLoadRect (harg4.unread x4) = x4 := by
    rw [View.readAt_full, harg4.read_unread]
  have e5 : View.readAt (Elt F) arg5.view (Rect.unit ![0, 0] S1x512.size inb_S1x512_S1x512_0_0).toLoadRect (harg5.unread x5) = x5 := by
    rw [View.readAt_full, harg5.read_unread]
  have e6 : View.readAt (Elt F) arg6.view (Rect.unit ![0, 0] S768x128.size inb_S768x128_S768x128_0_0).toLoadRect (harg6.unread x6) = x6 := by
    rw [View.readAt_full, harg6.read_unread]
  have e7 : View.readAt (Elt F) arg7.view (Rect.unit ![0, 0] S768x128.size inb_S768x128_S768x128_0_0).toLoadRect (harg7.unread x7) = x7 := by
    rw [View.readAt_full, harg7.read_unread]
  have e8 : View.readAt (Elt F) arg8.view (Rect.unit ![0, 0] S768x128.size inb_S768x128_S768x128_0_0).toLoadRect (harg8.unread x8) = x8 := by
    rw [View.readAt_full, harg8.read_unread]
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    refine (View.read_writes_full (Val := Elt F) (e := .f32) arg9.view _ inb_S768x512_S768x512_0_0 _ []).trans ?_
    rfl
  isplitl [H10]
  · iexists _; isplitr; swap; · iexact H10
    ipureintro
    refine (View.read_writes_full (Val := Elt F) (e := .bf16) arg10.view _ inb_S768x512_S768x512_0_0 _ []).trans ?_
    rfl
  iexact HT

set_option maxHeartbeats 1600000 in
/-- The body of a column tile with heads to rotate. -/
theorem run_rotated (c : Dev nD) (i : grid0.Coords) (arg3 : Memref sig .tc .vmem S768x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S768x128 .f32) (harg6 : arg6.IsWhole) (arg7 : Memref sig .tc .vmem S768x128 .f32) (harg7 : arg7.IsWhole) (arg8 : Memref sig .tc .vmem S768x128 .f32) (harg8 : arg8.IsWhole) (arg9 : Memref sig .tc .vmem S768x512 .f32) (harg9 : arg9.IsWhole) (arg10 : Memref sig .tc .vmem S768x512 .bf16) (harg10 : arg10.IsWhole)
    (xt : TbBuf (F := F) c tbM) (h1 : ¬k0_cond1 (word1 c i xt) = 1#1) (h2 : k0_cond2 (word2 c i xt) = 1#1)
    (x3 : Vec F S768x1024 .bf16) (x4 : Vec F S1024x512 .bf16) (x5 : Vec F S1x512 .f32) (x6 x7 x8 : Vec F S768x128 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ tbPt c tbM xt
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay3 (k0_pay1 x3 x4 x5) x6 x7 x8) ∗ owns (c : Thread nD τ) arg10 fullShare (k0_pay4 (k0_pay1 x3 x4 x5) x6 x7 x8) ∗ tbPt c tbM xt) -∗ K ⟨⟩))
      ⊢ wp frame (wpE (defs₀ (F := F)) Variants.none c none) E (cc0_proj_main i tbM htbM arg3 harg3 arg4 harg4 arg5 harg5 arg6 harg6 arg7 harg7 arg8 harg8 arg9 harg9 arg10 harg10) K := by
  simp only [cc0_proj_main_eq_skeleton]; unfold cc0_proj_main_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, HT, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8
  have e3 : View.readAt (Elt F) arg3.view (Rect.unit ![0, 0] S768x1024.size inb_S768x1024_S768x1024_0_0).toLoadRect (harg3.unread x3) = x3 := by
    rw [View.readAt_full, harg3.read_unread]
  have e4 : View.readAt (Elt F) arg4.view (Rect.unit ![0, 0] S1024x512.size inb_S1024x512_S1024x512_0_0).toLoadRect (harg4.unread x4) = x4 := by
    rw [View.readAt_full, harg4.read_unread]
  have e5 : View.readAt (Elt F) arg5.view (Rect.unit ![0, 0] S1x512.size inb_S1x512_S1x512_0_0).toLoadRect (harg5.unread x5) = x5 := by
    rw [View.readAt_full, harg5.read_unread]
  have e6 : View.readAt (Elt F) arg6.view (Rect.unit ![0, 0] S768x128.size inb_S768x128_S768x128_0_0).toLoadRect (harg6.unread x6) = x6 := by
    rw [View.readAt_full, harg6.read_unread]
  have e7 : View.readAt (Elt F) arg7.view (Rect.unit ![0, 0] S768x128.size inb_S768x128_S768x128_0_0).toLoadRect (harg7.unread x7) = x7 := by
    rw [View.readAt_full, harg7.read_unread]
  have e8 : View.readAt (Elt F) arg8.view (Rect.unit ![0, 0] S768x128.size inb_S768x128_S768x128_0_0).toLoadRect (harg8.unread x8) = x8 := by
    rw [View.readAt_full, harg8.read_unread]
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    refine (View.read_writes_full (Val := Elt F) (e := .f32) arg9.view _ inb_S768x512_S768x512_0_0 _ []).trans ?_
    rfl
  isplitl [H10]
  · iexists _; isplitr; swap; · iexact H10
    ipureintro
    refine (View.read_writes_full (Val := Elt F) (e := .bf16) arg10.view _ inb_S768x512_S768x512_0_0 _ []).trans ?_
    rfl
  iexact HT

end Cert.Columns

end
-- ==== Proof.ProjLaunch.lean ====
module

public import proofs.«01_k».proof.Proof.ProjRun

@[expose] public section

set_option maxRecDepth 16384

noncomputable section

namespace Cert.Columns

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the projection -/

variable (m : (ℓ : Loc nD τ sig) → Buf (Elt F) ℓ) (ρ : Dev nD → PrngReg)

/-- The first output's block after point `t`, -/
def out32 (hO : Ok m) (c : Dev nD) (t : Fin (cfgM m hO).N) : Vec F S768x512 .f32 :=
  if rotated (grid0.coords t) then k0_pay3 (k0_pay1 (iblk m hO c 0 t) (iblk m hO c 1 t) (iblk m hO c 2 t)) (iblk m hO c 3 t) (iblk m hO c 4 t) (iblk m hO c 5 t)
  else k0_pay1 (iblk m hO c 0 t) (iblk m hO c 1 t) (iblk m hO c 2 t)

/-- and the second's. -/
def out16 (hO : Ok m) (c : Dev nD) (t : Fin (cfgM m hO).N) : Vec F S768x512 .bf16 :=
  if rotated (grid0.coords t) then k0_pay4 (k0_pay1 (iblk m hO c 0 t) (iblk m hO c 1 t) (iblk m hO c 2 t)) (iblk m hO c 3 t) (iblk m hO c 4 t) (iblk m hO c 5 t)
  else k0_pay2 (iblk m hO c 0 t) (iblk m hO c 1 t) (iblk m hO c 2 t)

/-- The proof data of the pipeline: each input's buffer keeps its block, the outputs' hold `out32` and `out16`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => out32 m hO c t
    | ⟨7, _⟩ => out16 m hO c t
  Φ _ := iprop(Pipeline.ΦA spec0 c ∗ Pipeline.ΦT pre0 (tbl m) c)
  q _ := fullShare
  owed _ := 0

theorem dats_A (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = out32 m hO c t := by dsimp only [dats]; try rfl
theorem after_7 (hO : Ok m) (c : Dev nD) (t : Fin (cfgM m hO).N) : (dats m hO 0 c).after 7 t = out16 m hO c t := by dsimp only [dats]; try rfl

theorem before_0 (hO : Ok m) (c : Dev nD) (t : Fin (cfgM m hO).N) (d) : (dats m hO 0 c).before 0 t d = iblk m hO c 0 t :=
  before_0_of m hO (dats m hO 0 c) (dats_A m hO c 0) (after_0 m hO c) t d
theorem before_1 (hO : Ok m) (c : Dev nD) (t : Fin (cfgM m hO).N) (d) : (dats m hO 0 c).before 1 t d = iblk m hO c 1 t :=
  before_1_of m hO (dats m hO 0 c) (dats_A m hO c 1) (after_1 m hO c) t d
theorem before_2 (hO : Ok m) (c : Dev nD) (t : Fin (cfgM m hO).N) (d) : (dats m hO 0 c).before 2 t d = iblk m hO c 2 t :=
  before_2_of m hO (dats m hO 0 c) (dats_A m hO c 2) (after_2 m hO c) t d
theorem before_3 (hO : Ok m) (c : Dev nD) (t : Fin (cfgM m hO).N) (d) : (dats m hO 0 c).before 3 t d = iblk m hO c 3 t :=
  before_3_of m hO (dats m hO 0 c) (dats_A m hO c 3) (after_3 m hO c) t d
theorem before_4 (hO : Ok m) (c : Dev nD) (t : Fin (cfgM m hO).N) (d) : (dats m hO 0 c).before 4 t d = iblk m hO c 4 t :=
  before_4_of m hO (dats m hO 0 c) (dats_A m hO c 4) (after_4 m hO c) t d
theorem before_5 (hO : Ok m) (c : Dev nD) (t : Fin (cfgM m hO).N) (d) : (dats m hO 0 c).before 5 t d = iblk m hO c 5 t :=
  before_5_of m hO (dats m hO 0 c) (dats_A m hO c 5) (after_5 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d)) ∗ (∃ d, owns (c : Thread nD τ) (ms1 m hO t) fullShare ((dats m hO 0 c).before 1 t d)) ∗ (∃ d, owns (c : Thread nD τ) (ms2 m hO t) fullShare ((dats m hO 0 c).before 2 t d)) ∗ (∃ d, owns (c : Thread nD τ) (ms3 m hO t) fullShare ((dats m hO 0 c).before 3 t d)) ∗ (∃ d, owns (c : Thread nD τ) (ms4 m hO t) fullShare ((dats m hO 0 c).before 4 t d)) ∗ (∃ d, owns (c : Thread nD τ) (ms5 m hO t) fullShare ((dats m hO 0 c).before 5 t d)) ∗ (∃ d, owns (c : Thread nD τ) (ms6 m hO t) fullShare ((dats m hO 0 c).before 6 t d)) ∗ (∃ d, owns (c : Thread nD τ) (ms7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t) ∗ owns (c : Thread nD τ) (ms1 m hO t) fullShare ((dats m hO 0 c).after 1 t) ∗ owns (c : Thread nD τ) (ms2 m hO t) fullShare ((dats m hO 0 c).after 2 t) ∗ owns (c : Thread nD τ) (ms3 m hO t) fullShare ((dats m hO 0 c).after 3 t) ∗ owns (c : Thread nD τ) (ms4 m hO t) fullShare ((dats m hO 0 c).after 4 t) ∗ owns (c : Thread nD τ) (ms5 m hO t) fullShare ((dats m hO 0 c).after 5 t) ∗ owns (c : Thread nD τ) (ms6 m hO t) fullShare ((dats m hO 0 c).after 6 t) ∗ owns (c : Thread nD τ) (ms7 m hO t) fullShare ((dats m hO 0 c).after 7 t))

set_option maxHeartbeats 2400000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5]
  rw [show (dats m hO 0 c).Φ t.castSucc = iprop(Pipeline.ΦA spec0 c ∗ Pipeline.ΦT pre0 (tbl m) c) from by dsimp only [dats],
    show (dats m hO 0 c).Φ t.succ = iprop(Pipeline.ΦA spec0 c ∗ Pipeline.ΦT pre0 (tbl m) c) from by dsimp only [dats],
    show (dats m hO 0 c).owesAt () t.succ = (dats m hO 0 c).owesAt () t.castSucc from rfl,
    after_0, after_1, after_2, after_3, after_4, after_5, after_6, after_7, PhiT_eq]
  unfold out32 out16
  by_cases h0 : rotated (grid0.coords t)
  · rw [if_pos h0, if_pos h0]
    iintro ⟨⟨HA, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_rotated (F := F) c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (tbl m 0) (flags_rotated m c (grid0.coords t) h0).1 (flags_rotated m c (grid0.coords t) h0).2 (iblk m hO c 0 t) (iblk m hO c 1 t) (iblk m hO c 2 t) (iblk m hO c 3 t) (iblk m hO c 4 t) (iblk m hO c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HT]; · iexact HT
    iintro ⟨H0, H1, H2, H3, H4, H5, H6, H7, HT⟩
    isplitl [HA HT]
    · isplitl [HA]
      · iexact HA
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [if_neg h0, if_neg h0]
    iintro ⟨⟨HA, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_plain (F := F) c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (tbl m 0) (flags_plain m c (grid0.coords t) h0).1 (flags_plain m c (grid0.coords t) h0).2 (iblk m hO c 0 t) (iblk m hO c 1 t) (iblk m hO c 2 t) (iblk m hO c 3 t) (iblk m hO c 4 t) (iblk m hO c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HT]; · iexact HT
    iintro ⟨H0, H1, H2, H3, H4, H5, H6, H7, HT⟩
    isplitl [HA HT]
    · isplitl [HA]
      · iexact HA
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The table's word at a point's column tile. -/
theorem atD_eq (i : grid0.Coords) : (tbl (F := F) m).atD 0 (k0_off1 i) = word1 (F := F) 0 i (tbl m 0) := by
  have hb : ∀ a : Fin 1, k0_off1 i a < S10.size a := fun a => by
    have hi := coord_lt i
    have h0 := k0_off1_val i
    match a with
    | ⟨0, _⟩ => show k0_off1 i 0 < 10; omega
  refine (dif_pos hb).trans ?_
  refine congrArg (tbl (F := F) m 0) (funext fun a => Fin.ext ?_)
  match a with
  | ⟨0, _⟩ => rfl

/-- No output window is idle at any point. -/
theorem never_idle (hO : Ok m) (i : grid0.Coords) : (!(k0_cond1 ((tbl (F := F) m).atD 0 (k0_off1 i)) == 1#1) && !(k0_cond2 ((tbl (F := F) m).atD 0 (k0_off2 i)) == 1#1)) = false := by
  rw [show k0_off2 i = k0_off1 i from rfl, atD_eq]
  by_cases h : rotated i
  · rw [show k0_cond2 (word1 (F := F) 0 i (tbl m 0)) = 1#1 from (flags_rotated m 0 i h).2]
    simp
  · rw [show k0_cond1 (word1 (F := F) 0 i (tbl m 0)) = 1#1 from (flags_plain m 0 i h).1]
    simp

theorem idle_6 (hO : Ok m) (t : Fin (cfgM m hO).N) : (cfgM m hO).idle 6 ((cfgM m hO).grid.coords t) = false := never_idle m hO _
theorem idle_7 (hO : Ok m) (t : Fin (cfgM m hO).N) : (cfgM m hO).idle 7 ((cfgM m hO).grid.coords t) = false := never_idle m hO _

theorem idle_0 (hO : Ok m) (t : Fin (cfgM m hO).N) : (cfgM m hO).idle 0 ((cfgM m hO).grid.coords t) = false := rfl
theorem idle_1 (hO : Ok m) (t : Fin (cfgM m hO).N) : (cfgM m hO).idle 1 ((cfgM m hO).grid.coords t) = false := rfl
theorem idle_2 (hO : Ok m) (t : Fin (cfgM m hO).N) : (cfgM m hO).idle 2 ((cfgM m hO).grid.coords t) = false := rfl
theorem idle_3 (hO : Ok m) (t : Fin (cfgM m hO).N) : (cfgM m hO).idle 3 ((cfgM m hO).grid.coords t) = false := rfl
theorem idle_4 (hO : Ok m) (t : Fin (cfgM m hO).N) : (cfgM m hO).idle 4 ((cfgM m hO).grid.coords t) = false := rfl
theorem idle_5 (hO : Ok m) (t : Fin (cfgM m hO).N) : (cfgM m hO).idle 5 ((cfgM m hO).grid.coords t) = false := rfl

/-- What the obligation asks back, written out. -/
theorem give_back (hO : Ok m) (c : Dev nD) (t : Fin (cfgM m hO).N) :
    bodyPost (F := F) m hO c t ⊢ iprop((dats m hO 0 c).Φ t.succ ∗ (dats m hO 0 c).owesAt () t.succ
      ∗ bigSep Finset.univ fun w : Fin (cfgM m hO).W => owns (c : Thread nD τ) (((cfgM m hO).win w).stage ((cfgM m hO).slots t w)) fullShare ((dats m hO 0 c).after w t)) := by
  rw [bigSep_W0]
  exact .rfl

theorem idle_any (hO : Ok m) (t : Fin (cfgM m hO).N) : ∀ w : Fin (cfgM m hO).W, (cfgM m hO).idle w ((cfgM m hO).grid.coords t) = false := fun w =>
  match w with
  | ⟨0, _⟩ => idle_0 m hO t
  | ⟨1, _⟩ => idle_1 m hO t
  | ⟨2, _⟩ => idle_2 m hO t
  | ⟨3, _⟩ => idle_3 m hO t
  | ⟨4, _⟩ => idle_4 m hO t
  | ⟨5, _⟩ => idle_5 m hO t
  | ⟨6, _⟩ => idle_6 m hO t
  | ⟨7, _⟩ => idle_7 m hO t

theorem take (hO : Ok m) (c : Dev nD) (t : Fin (cfgM m hO).N) :
    iprop((dats m hO 0 c).Φ t.castSucc ∗ (dats m hO 0 c).owesAt () t.castSucc
      ∗ bigSep Finset.univ fun w : Fin (cfgM m hO).W => iprop(∃ d, owns (c : Thread nD τ) (((cfgM m hO).win w).stage ((cfgM m hO).slots t w)) fullShare ((dats m hO 0 c).before w t d)))
      ⊢ bodyPre (F := F) m hO c t := by
  rw [bigSep_W0]
  exact .rfl

set_option maxHeartbeats 1600000 in
theorem body_obligation (hO : Ok m) (c : Dev nD) : BodyObligation (dats (F := F) m hO 0 c) (defs₀ (F := F)) Variants.none () Set.univ := fun t => by
  have e : ∀ w : Fin 8, idle0 (tbl m) w ((pcfg0.gridAt (tbl m)).coords t) = false := idle_any m hO t
  simp only [e]
  rw [defs_row m hO]
  refine triple_restated (sound_body m hO c t) rfl (take m hO c t) fun _ => (give_back m hO c t).trans ?_
  exact .rfl

set_option backward.isDefEq.respectTransparency.types false in
/-- The run of the whole program: the pipeline's arrays end at what the proof data say, and every counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c w => (dats m hO 0 c).share_full (fun _ => rfl) w)
    (howed := fun _ _ => rfl) (V := V m) (hmain := hmain m Variants.none) (hA := dats_A m hO) (hpf := V_pre m)
    (hin := fun c => BI.Entails.refl _)
    (hout := fun c => by
      rw [show (dats m hO 0 c).Φ (Fin.last _) = iprop(Pipeline.ΦA spec0 c ∗ Pipeline.ΦT pre0 (tbl m) c) from by dsimp only [dats]]
      iintro ⟨H, -⟩; iexact H)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (ok m) (dats m (ok m)) (run_main m ρ (ok m)))
    ((θ_run defs _ _).mono (fun _ h => h.2) (run_main_quiescent m ρ (ok m)))

end Cert.Columns

end
-- ==== Proof.ProjSame.lean ====
/- The kernel read at machine floats and the kernel read at extended reals are printed from one text: their
   programs are equal, so the run written for one serves the frame of the other. -/
module

public import proofs.«01_k».proof.Defs
public import proofs.«01_k».proof.Proof.Gen.Proj
public import proofs.«01_k».proof.Proof.Gen.ProjIdeal
public import proofs.«01_k».proof.Proof.ProjLaunch

@[expose] public section

noncomputable section

namespace Cert.Columns

open Idealize.ShloMosaic Idealize.SL.Sem

variable {F : FTy → Type} [FloatOps F]

set_option maxHeartbeats 3000000 in
theorem main_same : Cert.Proj.main (F := F) = Cert.ProjIdeal.main (F := F) := by
  funext c
  simp only [Cert.Proj.main, Cert.ProjIdeal.main, Cert.Proj.main_part0, Cert.ProjIdeal.main_part0, Cert.Proj.main_part1, Cert.ProjIdeal.main_part1]
  rfl

set_option maxHeartbeats 1000000 in
theorem body_same : Cert.Proj.defs₀ (F := F) = Cert.ProjIdeal.defs₀ (F := F) := by
  unfold Cert.Proj.defs₀ Cert.ProjIdeal.defs₀
  refine congrArg (Defs.onTc (nD := Cert.ProjIdeal.nD) (τ := Cert.ProjIdeal.τ) (sig := Cert.ProjIdeal.sig) (Λ := Cert.ProjIdeal.Λ₀)) ?_
  funext l a
  match l, a with
  | ⟨0, _⟩, (t, s) => rfl

set_option maxHeartbeats 1000000 in
theorem defs_same : Cert.Proj.defs (F := F) = Cert.ProjIdeal.defs (F := F) := by
  unfold Cert.Proj.defs Cert.ProjIdeal.defs
  exact congrArg (Pipeline.defs Cert.ProjIdeal.pcfgs) body_same

open Cert.ProjIdeal in
theorem frame_of_same (m : (ℓ : Loc nD τ sig) → Buf (Elt F) ℓ) (ρ : Dev nD → PrngReg)
    (d : Defs nD τ sig (Elt F) (Pipeline.Sig Λ₀ (Fin 1) fun p => (pcfgs (F := F) p).Adm)) (hd : d = defs (F := F))
    (p : Dev nD → Prog (TpuEff nD τ sig (Elt F) (Pipeline.Sig Λ₀ (Fin 1) fun p => (pcfgs (F := F) p).Adm) .tc) PUnit) (hp : p = main (F := F)) :
    θ_run d (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  subst hd
  subst hp
  exact frame_any m ρ

set_option maxHeartbeats 1000000 in
theorem frame_kernel : Cert.quiescent_Proj (hProj := Cert.Proj.Gen.facts) :=
  fun m ρ _ => frame_of_same (F := Bits) m ρ Cert.Proj.defs defs_same Cert.Proj.main main_same

end Cert.Columns

end
-- ==== Proof.ProjColumns.lean ====
module

public import Idealize.ShloMosaic.Lib.Pipeline.Value
public import Idealize.ShloMosaic.Lib.Pipeline.Covers
public import Idealize.ShloMosaic.Lib.Pointwise
public import Idealize.ShloMosaic.Lib.ValueIdx

@[expose] public section

set_option maxRecDepth 16384

noncomputable section

namespace Cert.Columns

open Idealize.ShloMosaic Idealize.ShloMosaic.TcCoe

/-! # The columns of the projection

The projection's 5120 columns are 4940 of the 8012 columns of the weights in another order, some of them twice, and
zeros between them. -/

/-- The source of a column: none, where the column is zero. -/
def src (q : Fin 5120) : Option (Fin 8012) :=
  if h : q.val < 3072 then some ⟨q.val, by omega⟩
  else if h : q.val < 4928 then some ⟨q.val + 8, by omega⟩
  else if h : q.val < 4992 then some ⟨q.val - 56, by omega⟩
  else if h : q.val < 5008 then none
  else if h : q.val < 5016 then some ⟨q.val - 1936, by omega⟩
  else if h : q.val < 5020 then some ⟨q.val - 80, by omega⟩
  else none

/-- A family over the weights' columns, read at the source of a column. -/
def pick (g : Fin 8012 → EReal) (q : Fin 5120) : EReal := (src q).elim 0 g

theorem pick_some (g : Fin 8012 → EReal) (q : Fin 5120) (c : Fin 8012) (h : src q = some c) : pick g q = g c := by
  unfold pick; rw [h]; rfl

theorem pick_none (g : Fin 8012 → EReal) (q : Fin 5120) (h : src q = none) : pick g q = 0 := by
  unfold pick; rw [h]; rfl

/-- The source of a column by the range the column lies in. -/
theorem src_first (q : Fin 5120) (h : q.val < 3072) : src q = some ⟨q.val, by omega⟩ := by
  unfold src; rw [dif_pos h]

theorem src_second (q : Fin 5120) (h : 3072 ≤ q.val) (h' : q.val < 4928) : src q = some ⟨q.val + 8, by omega⟩ := by
  unfold src; rw [dif_neg (by omega), dif_pos h']

theorem src_third (q : Fin 5120) (h : 4928 ≤ q.val) (h' : q.val < 4992) : src q = some ⟨q.val - 56, by omega⟩ := by
  unfold src; rw [dif_neg (by omega), dif_neg (by omega), dif_pos h']

theorem src_gap (q : Fin 5120) (h : 4992 ≤ q.val) (h' : q.val < 5008) : src q = none := by
  unfold src; rw [dif_neg (by omega), dif_neg (by omega), dif_neg (by omega), dif_pos h']

theorem src_fourth (q : Fin 5120) (h : 5008 ≤ q.val) (h' : q.val < 5016) : src q = some ⟨q.val - 1936, by omega⟩ := by
  unfold src; rw [dif_neg (by omega), dif_neg (by omega), dif_neg (by omega), dif_neg (by omega), dif_pos h']

theorem src_fifth (q : Fin 5120) (h : 5016 ≤ q.val) (h' : q.val < 5020) : src q = some ⟨q.val - 80, by omega⟩ := by
  unfold src; rw [dif_neg (by omega), dif_neg (by omega), dif_neg (by omega), dif_neg (by omega), dif_neg (by omega), dif_pos h']

theorem src_end (q : Fin 5120) (h : 5020 ≤ q.val) : src q = none := by
  unfold src; rw [dif_neg (by omega), dif_neg (by omega), dif_neg (by omega), dif_neg (by omega), dif_neg (by omega), dif_neg (by omega)]

/-- Matrices set side by side, read at a column of the one numbered `k`. -/
theorem beside {α : Type} {n N w : ℕ} (xs : List ((s : Shape) × (s.Idx → α))) (h : Shape.Concatenates (xs.map (·.1)) ⟨2, ![n, N]⟩ 1)
    (r : Fin n) (q : Fin N) (k : ℕ) (hk : k < xs.length) (x : (⟨2, ![n, w]⟩ : Shape).Idx → α) (hx : xs[k] = ⟨⟨2, ![n, w]⟩, x⟩) (pre : ℕ)
    (hpre : (((xs.take k).map (·.1)).map fun s => if h : s.rank = (⟨2, ![n, N]⟩ : Shape).rank then s.size ((1 : Fin (⟨2, ![n, N]⟩ : Shape).rank).cast h.symm) else 0).sum = pre)
    (i : Fin w) (hi : pre + i.val = q.val) : concatenate ⟨2, ![n, N]⟩ 1 xs h (ix2 r q) = x (ix2 r i) :=
  concatenate_apply_piece (t := ⟨2, ![n, N]⟩) 1 xs h (ix2 r q) k hk _ x hx rfl pre hpre (ix2 r i)
    (fun b hb => match b with
      | ⟨0, _⟩ => rfl
      | ⟨1, _⟩ => absurd rfl hb) hi

set_option maxHeartbeats 6400000 in
/-- The thirteen parts side by side, each cut from one family over the weights' columns: the columns of the family in
    the new order. -/
theorem thirteen {n : ℕ} (G : Fin n → Fin 8012 → EReal)
    (p0 : (⟨2, ![n, 512]⟩ : Shape).Idx → EReal)
    (p1 : (⟨2, ![n, 512]⟩ : Shape).Idx → EReal)
    (p2 : (⟨2, ![n, 512]⟩ : Shape).Idx → EReal)
    (p3 : (⟨2, ![n, 512]⟩ : Shape).Idx → EReal)
    (p4 : (⟨2, ![n, 512]⟩ : Shape).Idx → EReal)
    (p5 : (⟨2, ![n, 512]⟩ : Shape).Idx → EReal)
    (p6 : (⟨2, ![n, 512]⟩ : Shape).Idx → EReal)
    (p7 : (⟨2, ![n, 512]⟩ : Shape).Idx → EReal)
    (p8 : (⟨2, ![n, 512]⟩ : Shape).Idx → EReal)
    (p9 : (⟨2, ![n, 256]⟩ : Shape).Idx → EReal)
    (p10 : (⟨2, ![n, 64]⟩ : Shape).Idx → EReal)
    (p11 : (⟨2, ![n, 64]⟩ : Shape).Idx → EReal)
    (p12 : (⟨2, ![n, 128]⟩ : Shape).Idx → EReal)
    (h0 : ∀ (r : Fin n) (i : Fin 512), p0 (ix2 r i) = G r ⟨0 + i.val, by omega⟩)
    (h1 : ∀ (r : Fin n) (i : Fin 512), p1 (ix2 r i) = G r ⟨512 + i.val, by omega⟩)
    (h2 : ∀ (r : Fin n) (i : Fin 512), p2 (ix2 r i) = G r ⟨1024 + i.val, by omega⟩)
    (h3 : ∀ (r : Fin n) (i : Fin 512), p3 (ix2 r i) = G r ⟨1536 + i.val, by omega⟩)
    (h4 : ∀ (r : Fin n) (i : Fin 512), p4 (ix2 r i) = G r ⟨2048 + i.val, by omega⟩)
    (h5 : ∀ (r : Fin n) (i : Fin 512), p5 (ix2 r i) = G r ⟨2560 + i.val, by omega⟩)
    (h6 : ∀ (r : Fin n) (i : Fin 512), p6 (ix2 r i) = G r ⟨3080 + i.val, by omega⟩)
    (h7 : ∀ (r : Fin n) (i : Fin 512), p7 (ix2 r i) = G r ⟨3592 + i.val, by omega⟩)
    (h8 : ∀ (r : Fin n) (i : Fin 512), p8 (ix2 r i) = G r ⟨4104 + i.val, by omega⟩)
    (h9 : ∀ (r : Fin n) (i : Fin 256), p9 (ix2 r i) = G r ⟨4616 + i.val, by omega⟩)
    (h10 : ∀ (r : Fin n) (i : Fin 64), p10 (ix2 r i) = G r ⟨4872 + i.val, by omega⟩)
    (h11 : ∀ (r : Fin n) (i : Fin 64), p11 (ix2 r i) = G r ⟨4872 + i.val, by omega⟩)
    (h12 : ∀ (r : Fin n) (i : Fin 128), p12 (ix2 r i) = pick (G r) ⟨4992 + i.val, by omega⟩)
    (h : Shape.Concatenates (([⟨⟨2, ![n, 512]⟩, p0⟩, ⟨⟨2, ![n, 512]⟩, p1⟩, ⟨⟨2, ![n, 512]⟩, p2⟩, ⟨⟨2, ![n, 512]⟩, p3⟩, ⟨⟨2, ![n, 512]⟩, p4⟩, ⟨⟨2, ![n, 512]⟩, p5⟩, ⟨⟨2, ![n, 512]⟩, p6⟩, ⟨⟨2, ![n, 512]⟩, p7⟩, ⟨⟨2, ![n, 512]⟩, p8⟩, ⟨⟨2, ![n, 256]⟩, p9⟩, ⟨⟨2, ![n, 64]⟩, p10⟩, ⟨⟨2, ![n, 64]⟩, p11⟩, ⟨⟨2, ![n, 128]⟩, p12⟩] : List ((s : Shape) × (s.Idx → EReal))).map (·.1)) ⟨2, ![n, 5120]⟩ 1) (r : Fin n) (q : Fin 5120) :
    concatenate ⟨2, ![n, 5120]⟩ 1 [⟨⟨2, ![n, 512]⟩, p0⟩, ⟨⟨2, ![n, 512]⟩, p1⟩, ⟨⟨2, ![n, 512]⟩, p2⟩, ⟨⟨2, ![n, 512]⟩, p3⟩, ⟨⟨2, ![n, 512]⟩, p4⟩, ⟨⟨2, ![n, 512]⟩, p5⟩, ⟨⟨2, ![n, 512]⟩, p6⟩, ⟨⟨2, ![n, 512]⟩, p7⟩, ⟨⟨2, ![n, 512]⟩, p8⟩, ⟨⟨2, ![n, 256]⟩, p9⟩, ⟨⟨2, ![n, 64]⟩, p10⟩, ⟨⟨2, ![n, 64]⟩, p11⟩, ⟨⟨2, ![n, 128]⟩, p12⟩] h (ix2 r q) = pick (G r) q := by
  by_cases c0 : q.val < 512
  · refine (beside _ h r q 0 (by simp) p0 rfl 0 rfl ⟨q.val - 0, by omega⟩ (by show 0 + (q.val - 0) = q.val; omega)).trans ?_
    rw [h0, pick_some _ _ _ (src_first q (by omega))]
    exact congrArg (G r) (Fin.ext (by show 0 + (q.val - 0) = _; dsimp only; omega))
  by_cases c1 : q.val < 1024
  · refine (beside _ h r q 1 (by simp) p1 rfl 512 rfl ⟨q.val - 512, by omega⟩ (by show 512 + (q.val - 512) = q.val; omega)).trans ?_
    rw [h1, pick_some _ _ _ (src_first q (by omega))]
    exact congrArg (G r) (Fin.ext (by show 512 + (q.val - 512) = _; dsimp only; omega))
  by_cases c2 : q.val < 1536
  · refine (beside _ h r q 2 (by simp) p2 rfl 1024 rfl ⟨q.val - 1024, by omega⟩ (by show 1024 + (q.val - 1024) = q.val; omega)).trans ?_
    rw [h2, pick_some _ _ _ (src_first q (by omega))]
    exact congrArg (G r) (Fin.ext (by show 1024 + (q.val - 1024) = _; dsimp only; omega))
  by_cases c3 : q.val < 2048
  · refine (beside _ h r q 3 (by simp) p3 rfl 1536 rfl ⟨q.val - 1536, by omega⟩ (by show 1536 + (q.val - 1536) = q.val; omega)).trans ?_
    rw [h3, pick_some _ _ _ (src_first q (by omega))]
    exact congrArg (G r) (Fin.ext (by show 1536 + (q.val - 1536) = _; dsimp only; omega))
  by_cases c4 : q.val < 2560
  · refine (beside _ h r q 4 (by simp) p4 rfl 2048 rfl ⟨q.val - 2048, by omega⟩ (by show 2048 + (q.val - 2048) = q.val; omega)).trans ?_
    rw [h4, pick_some _ _ _ (src_first q (by omega))]
    exact congrArg (G r) (Fin.ext (by show 2048 + (q.val - 2048) = _; dsimp only; omega))
  by_cases c5 : q.val < 3072
  · refine (beside _ h r q 5 (by simp) p5 rfl 2560 rfl ⟨q.val - 2560, by omega⟩ (by show 2560 + (q.val - 2560) = q.val; omega)).trans ?_
    rw [h5, pick_some _ _ _ (src_first q (by omega))]
    exact congrArg (G r) (Fin.ext (by show 2560 + (q.val - 2560) = _; dsimp only; omega))
  by_cases c6 : q.val < 3584
  · refine (beside _ h r q 6 (by simp) p6 rfl 3072 rfl ⟨q.val - 3072, by omega⟩ (by show 3072 + (q.val - 3072) = q.val; omega)).trans ?_
    rw [h6, pick_some _ _ _ (src_second q (by omega) (by omega))]
    exact congrArg (G r) (Fin.ext (by show 3080 + (q.val - 3072) = _; dsimp only; omega))
  by_cases c7 : q.val < 4096
  · refine (beside _ h r q 7 (by simp) p7 rfl 3584 rfl ⟨q.val - 3584, by omega⟩ (by show 3584 + (q.val - 3584) = q.val; omega)).trans ?_
    rw [h7, pick_some _ _ _ (src_second q (by omega) (by omega))]
    exact congrArg (G r) (Fin.ext (by show 3592 + (q.val - 3584) = _; dsimp only; omega))
  by_cases c8 : q.val < 4608
  · refine (beside _ h r q 8 (by simp) p8 rfl 4096 rfl ⟨q.val - 4096, by omega⟩ (by show 4096 + (q.val - 4096) = q.val; omega)).trans ?_
    rw [h8, pick_some _ _ _ (src_second q (by omega) (by omega))]
    exact congrArg (G r) (Fin.ext (by show 4104 + (q.val - 4096) = _; dsimp only; omega))
  by_cases c9 : q.val < 4864
  · refine (beside _ h r q 9 (by simp) p9 rfl 4608 rfl ⟨q.val - 4608, by omega⟩ (by show 4608 + (q.val - 4608) = q.val; omega)).trans ?_
    rw [h9, pick_some _ _ _ (src_second q (by omega) (by omega))]
    exact congrArg (G r) (Fin.ext (by show 4616 + (q.val - 4608) = _; dsimp only; omega))
  by_cases c10 : q.val < 4928
  · refine (beside _ h r q 10 (by simp) p10 rfl 4864 rfl ⟨q.val - 4864, by omega⟩ (by show 4864 + (q.val - 4864) = q.val; omega)).trans ?_
    rw [h10, pick_some _ _ _ (src_second q (by omega) (by omega))]
    exact congrArg (G r) (Fin.ext (by show 4872 + (q.val - 4864) = _; dsimp only; omega))
  by_cases c11 : q.val < 4992
  · refine (beside _ h r q 11 (by simp) p11 rfl 4928 rfl ⟨q.val - 4928, by omega⟩ (by show 4928 + (q.val - 4928) = q.val; omega)).trans ?_
    rw [h11, pick_some _ _ _ (src_third q (by omega) (by omega))]
    exact congrArg (G r) (Fin.ext (by show 4872 + (q.val - 4928) = _; dsimp only; omega))
  · refine (beside _ h r q 12 (by simp) p12 rfl 4992 rfl ⟨q.val - 4992, by omega⟩ (by show 4992 + (q.val - 4992) = q.val; omega)).trans ?_
    rw [h12]
    exact congrArg (pick (G r)) (Fin.ext (by show 4992 + (q.val - 4992) = q.val; omega))

/-- The last part: zeros, eight columns, four columns, zeros. -/
theorem last_part {n : ℕ} (G : Fin n → Fin 8012 → EReal)
    (z0 : (⟨2, ![n, 16]⟩ : Shape).Idx → EReal) (u : (⟨2, ![n, 8]⟩ : Shape).Idx → EReal) (v : (⟨2, ![n, 4]⟩ : Shape).Idx → EReal) (z1 : (⟨2, ![n, 100]⟩ : Shape).Idx → EReal)
    (hz0 : ∀ (r : Fin n) (i : Fin 16), z0 (ix2 r i) = 0) (hu : ∀ (r : Fin n) (i : Fin 8), u (ix2 r i) = G r ⟨3072 + i.val, by omega⟩)
    (hv : ∀ (r : Fin n) (i : Fin 4), v (ix2 r i) = G r ⟨4936 + i.val, by omega⟩) (hz1 : ∀ (r : Fin n) (i : Fin 100), z1 (ix2 r i) = 0)
    (h : Shape.Concatenates (([⟨⟨2, ![n, 16]⟩, z0⟩, ⟨⟨2, ![n, 8]⟩, u⟩, ⟨⟨2, ![n, 4]⟩, v⟩, ⟨⟨2, ![n, 100]⟩, z1⟩] : List ((s : Shape) × (s.Idx → EReal))).map (·.1)) ⟨2, ![n, 128]⟩ 1) (r : Fin n) (i : Fin 128) :
    concatenate ⟨2, ![n, 128]⟩ 1 [⟨⟨2, ![n, 16]⟩, z0⟩, ⟨⟨2, ![n, 8]⟩, u⟩, ⟨⟨2, ![n, 4]⟩, v⟩, ⟨⟨2, ![n, 100]⟩, z1⟩] h (ix2 r i) = pick (G r) ⟨4992 + i.val, by omega⟩ := by
  by_cases c0 : i.val < 16
  · refine (beside _ h r i 0 (by simp) z0 rfl 0 rfl ⟨i.val, c0⟩ (by show 0 + i.val = i.val; omega)).trans ?_
    rw [hz0, pick_none _ _ (src_gap _ (by show 4992 ≤ 4992 + i.val; omega) (by show 4992 + i.val < 5008; omega))]
  by_cases c1 : i.val < 24
  · refine (beside _ h r i 1 (by simp) u rfl 16 rfl ⟨i.val - 16, by omega⟩ (by show 16 + (i.val - 16) = i.val; omega)).trans ?_
    rw [hu, pick_some _ _ _ (src_fourth _ (by show 5008 ≤ 4992 + i.val; omega) (by show 4992 + i.val < 5016; omega))]
    exact congrArg (G r) (Fin.ext (by show 3072 + (i.val - 16) = 4992 + i.val - 1936; omega))
  by_cases c2 : i.val < 28
  · refine (beside _ h r i 2 (by simp) v rfl 24 rfl ⟨i.val - 24, by omega⟩ (by show 24 + (i.val - 24) = i.val; omega)).trans ?_
    rw [hv, pick_some _ _ _ (src_fifth _ (by show 5016 ≤ 4992 + i.val; omega) (by show 4992 + i.val < 5020; omega))]
    exact congrArg (G r) (Fin.ext (by show 4936 + (i.val - 24) = 4992 + i.val - 80; omega))
  · refine (beside _ h r i 3 (by simp) z1 rfl 28 rfl ⟨i.val - 28, by omega⟩ (by show 28 + (i.val - 28) = i.val; omega)).trans ?_
    rw [hz1, pick_none _ _ (src_end _ (by show 5020 ≤ 4992 + i.val; omega))]

/-- The angle of a position and a lane. -/
def angle (p : BitVec 32) (j : Fin 8) : EReal :=
  FloatOps.sitofp (F := Ideal) FTy.f32 p * Ideal.pow (Ideal.ofBits FTy.f32 1223959552#32)
    (Ideal.div (-(FloatOps.sitofp (F := Ideal) FTy.f32 (BitVec.ofNat 32 j.val))) (Ideal.ofBits FTy.f32 1090519040#32))

/-- A table of two heads, each of eight lanes, eight lanes and 48 lanes. -/
theorem doubled {n : ℕ} (a b : (⟨2, ![n, 8]⟩ : Shape).Idx → EReal) (d : (⟨2, ![n, 48]⟩ : Shape).Idx → EReal)
    (h : Shape.Concatenates (([⟨⟨2, ![n, 8]⟩, a⟩, ⟨⟨2, ![n, 8]⟩, b⟩, ⟨⟨2, ![n, 48]⟩, d⟩] : List ((s : Shape) × (s.Idx → EReal))).map (·.1)) ⟨2, ![n, 64]⟩ 1)
    (T T' : (⟨2, ![n, 64]⟩ : Shape).Idx → EReal) (hT : T = concatenate ⟨2, ![n, 64]⟩ 1 [⟨⟨2, ![n, 8]⟩, a⟩, ⟨⟨2, ![n, 8]⟩, b⟩, ⟨⟨2, ![n, 48]⟩, d⟩] h) (hT' : T' = T)
    (h' : Shape.Concatenates (([⟨⟨2, ![n, 64]⟩, T⟩, ⟨⟨2, ![n, 64]⟩, T'⟩] : List ((s : Shape) × (s.Idx → EReal))).map (·.1)) ⟨2, ![n, 128]⟩ 1) (r : Fin n) (l : Fin 128) :
    concatenate ⟨2, ![n, 128]⟩ 1 [⟨⟨2, ![n, 64]⟩, T⟩, ⟨⟨2, ![n, 64]⟩, T'⟩] h' (ix2 r l)
      = if h : l.val % 64 < 8 then a (ix2 r ⟨l.val % 64, h⟩) else if h : l.val % 64 < 16 then b (ix2 r ⟨l.val % 64 - 8, by omega⟩) else d (ix2 r ⟨l.val % 64 - 16, by omega⟩) := by
  have e : concatenate ⟨2, ![n, 128]⟩ 1 [⟨⟨2, ![n, 64]⟩, T⟩, ⟨⟨2, ![n, 64]⟩, T'⟩] h' (ix2 r l) = T (ix2 r ⟨l.val % 64, by omega⟩) := by
    subst hT'
    by_cases hl : l.val < 64
    · exact beside _ h' r l 0 (by simp) T' rfl 0 rfl ⟨l.val % 64, by omega⟩ (by show 0 + l.val % 64 = l.val; omega)
    · exact beside _ h' r l 1 (by simp) T' rfl 64 rfl ⟨l.val % 64, by omega⟩ (by show 64 + l.val % 64 = l.val; omega)
  rw [e, hT]
  by_cases h0 : l.val % 64 < 8
  · rw [dif_pos h0]
    exact beside _ h r _ 0 (by simp) a rfl 0 rfl ⟨l.val % 64, h0⟩ (by show 0 + l.val % 64 = l.val % 64; omega)
  rw [dif_neg h0]
  by_cases h1 : l.val % 64 < 16
  · rw [dif_pos h1]
    exact beside _ h r _ 1 (by simp) b rfl 8 rfl ⟨l.val % 64 - 8, by omega⟩ (by show 8 + (l.val % 64 - 8) = l.val % 64; omega)
  · rw [dif_neg h1]
    exact beside _ h r _ 2 (by simp) d rfl 16 rfl ⟨l.val % 64 - 16, by omega⟩ (by show 16 + (l.val % 64 - 16) = l.val % 64; omega)

/-- A matrix of `64 * H` columns as `H` heads of 64 lanes. -/
theorem split_read {n H N : ℕ} (hN : N = 64 * H) (x : (⟨2, ![n, N]⟩ : Shape).Idx → EReal) (h : (⟨2, ![n, N]⟩ : Shape).ShapeCasts ⟨3, ![n, H, 64]⟩)
    (r : Fin n) (a : Fin H) (l : Fin 64) (q : Fin N) (hq : q.val = 64 * a.val + l.val) : shapeCast ⟨3, ![n, H, 64]⟩ x h (ix3 r a l) = x (ix2 r q) :=
  shapeCast_apply x h (ix3 r a l) (ix2 r q) (by
    rw [Shape.rowMajor_val_three, Shape.rowMajor_val_two]
    show r.val * N + q.val = (r.val * H + a.val) * 64 + l.val
    subst hN
    rw [hq, Nat.add_mul, Nat.mul_assoc, Nat.mul_comm H 64]; omega)

theorem join_read {n H N : ℕ} (hN : N = 64 * H) (x : (⟨3, ![n, H, 64]⟩ : Shape).Idx → EReal) (h : (⟨3, ![n, H, 64]⟩ : Shape).ShapeCasts ⟨2, ![n, N]⟩)
    (r : Fin n) (a : Fin H) (l : Fin 64) (q : Fin N) (hq : q.val = 64 * a.val + l.val) : shapeCast ⟨2, ![n, N]⟩ x h (ix2 r q) = x (ix3 r a l) :=
  shapeCast_apply x h (ix2 r q) (ix3 r a l) (by
    rw [Shape.rowMajor_val_three, Shape.rowMajor_val_two]
    show (r.val * H + a.val) * 64 + l.val = r.val * N + q.val
    subst hN
    rw [hq, Nat.add_mul, Nat.mul_assoc, Nat.mul_comm H 64]; omega)

/-- Heads set together from eight lanes, eight lanes and 48 lanes. -/
theorem lanes {n H : ℕ} (a b : (⟨3, ![n, H, 8]⟩ : Shape).Idx → EReal) (d : (⟨3, ![n, H, 48]⟩ : Shape).Idx → EReal)
    (h : Shape.Concatenates (([⟨⟨3, ![n, H, 8]⟩, a⟩, ⟨⟨3, ![n, H, 8]⟩, b⟩, ⟨⟨3, ![n, H, 48]⟩, d⟩] : List ((s : Shape) × (s.Idx → EReal))).map (·.1)) ⟨3, ![n, H, 64]⟩ 2) (r : Fin n) (k : Fin H) (l : Fin 64) :
    concatenate ⟨3, ![n, H, 64]⟩ 2 [⟨⟨3, ![n, H, 8]⟩, a⟩, ⟨⟨3, ![n, H, 8]⟩, b⟩, ⟨⟨3, ![n, H, 48]⟩, d⟩] h (ix3 r k l)
      = if h : l.val < 8 then a (ix3 r k ⟨l.val, h⟩) else if h : l.val < 16 then b (ix3 r k ⟨l.val - 8, by omega⟩) else d (ix3 r k ⟨l.val - 16, by omega⟩) := by
  by_cases h0 : l.val < 8
  · rw [dif_pos h0]
    exact concatenate_apply_piece (t := ⟨3, ![n, H, 64]⟩) 2 _ h (ix3 r k l) 0 (by simp) _ a rfl rfl 0 rfl (ix3 r k ⟨l.val, h0⟩)
      (fun z hz => match z with
        | ⟨0, _⟩ => rfl
        | ⟨1, _⟩ => rfl
        | ⟨2, _⟩ => absurd rfl hz) (by show 0 + l.val = l.val; omega)
  rw [dif_neg h0]
  by_cases h1 : l.val < 16
  · rw [dif_pos h1]
    exact concatenate_apply_piece (t := ⟨3, ![n, H, 64]⟩) 2 _ h (ix3 r k l) 1 (by simp) _ b rfl rfl 8 rfl (ix3 r k ⟨l.val - 8, by omega⟩)
      (fun z hz => match z with
        | ⟨0, _⟩ => rfl
        | ⟨1, _⟩ => rfl
        | ⟨2, _⟩ => absurd rfl hz) (by show 8 + (l.val - 8) = l.val; omega)
  · rw [dif_neg h1]
    exact concatenate_apply_piece (t := ⟨3, ![n, H, 64]⟩) 2 _ h (ix3 r k l) 2 (by simp) _ d rfl rfl 16 rfl (ix3 r k ⟨l.val - 16, by omega⟩)
      (fun z hz => match z with
        | ⟨0, _⟩ => rfl
        | ⟨1, _⟩ => rfl
        | ⟨2, _⟩ => absurd rfl hz) (by show 16 + (l.val - 16) = l.val; omega)

end Cert.Columns

end
-- ==== Proof.ProjHost.lean ====
module

public import proofs.«01_k».proof.Proof.ProjLaunch
public import proofs.«01_k».proof.Proof.ProjColumns
public import Idealize.ShloMosaic.Lib.StableHlo.RunRead
public import Idealize.ShloMosaic.Lib.Claim
public import Idealize.ShloMosaic.Lib.Pipeline.ValueKit
public import Idealize.ShloMosaic.Lib.Pipeline.Covers
public import Idealize.ShloMosaic.Lib.Pointwise
public import Idealize.ShloMosaic.Lib.ValueIdx

@[expose] public section

set_option maxRecDepth 16384

noncomputable section

namespace Cert.Columns

open Idealize.ShloMosaic Idealize.ShloMosaic.TcCoe Idealize.ShloMosaic.Tactic

/-! # What the host prepares

The arrays that the launch reads, one operation at a time, by the arguments. -/

open Cert.ProjIdeal Cert.ProjIdeal.Gen

variable (m : (ℓ : Loc nD τ sig) → Buf (Elt Ideal) ℓ) (c : Dev nD)

/-- The arguments. -/
abbrev argX : Vec Ideal S17664x1024 .f32 := m ((c.tc : Thread nD τ).loc main_arg0)
abbrev argPos : Vec Ideal S17664 .i32 := m ((c.tc : Thread nD τ).loc main_arg1)
abbrev argW : Vec Ideal S1024x8012 .f32 := m ((c.tc : Thread nD τ).loc main_arg2)
abbrev argB : Vec Ideal S8012 .f32 := m ((c.tc : Thread nD τ).loc main_arg3)

/-- The references that the host operations write, in order. -/
def written : List (Ref sig .tc) := [main_c, main_cst, main_v0, main_v1, main_v2, main_cst_0, main_v3, main_v4, main_v5, main_v6, main_v7, main_v8, main_v9, main_v10, main_v11, main_v12, main_v13, main_v14, main_v15, main_v16, main_v17, main_v18, main_v19, main_cst_1, main_v20, main_v21, main_v22, main_cst_2, main_v23, main_v24, main_v25, main_v26, main_v27, main_v28, main_v29, main_v30, main_v31, main_v32, main_v33, main_v34, main_v35, main_v36, main_v37, main_v38, main_v39, main_v40, main_v41, main_v42, main_cst_3, main_v43, main_v44, main_cst_4, main_v45, main_v46, main_v47, main_v48, main_v49, main_v50, main_v51, main_v52, main_v53, main_v54, main_cst_5, main_v55, main_cst_6, main_v56, main_cst_7, main_v57, main_v58, main_v59, main_v60, main_v61, main_v62, main_v63, main_v64, main_v65]

theorem written_eq : (hostOps0 : List (HloOp τ sig (Elt Ideal))).map HloOp.writes = written.map fun r => {Proc.devRef (τ := τ) .tc r} := rfl

/-- The contents when the program begins. -/
abbrev V₀ : Valuation τ sig (Elt Ideal) := fun b => m (c, b)

theorem V_after (r : Ref sig .tc) : V m c r = StableHlo.after hostOps0 (V₀ m c) (Proc.devRef .tc r) := by
  simp only [V, List.flatten_cons, List.flatten_nil, List.append_nil]

/-- A reference that no later operation writes has its last contents already. -/
theorem upto_eq (i : ℕ) (r : Ref sig .tc) (hr : r ∉ written.drop i) : StableHlo.upto hostOps0 (V₀ m c) i (Proc.devRef .tc r) = V m c r := by
  rw [V_after]
  have e : StableHlo.after hostOps0 (V₀ m c) = StableHlo.after (hostOps0.drop i) (StableHlo.after (hostOps0.take i) (V₀ m c)) := by
    rw [← StableHlo.after_append, List.take_append_drop]
  rw [e, StableHlo.after_unwritten (ops := hostOps0.drop i) (written.drop i) (by rw [List.map_drop, written_eq, ← List.map_drop]) hr]
  rfl

theorem V_last (i : ℕ) (op : HloOp τ sig (Elt Ideal)) (rest : List (HloOp τ sig (Elt Ideal))) (h : hostOps0.drop i = op :: rest) (r : Ref sig .tc) (hr : r ∉ written.drop (i + 1)) :
    V m c r = op.result (StableHlo.upto hostOps0 (V₀ m c) i) (Proc.devRef .tc r) := by
  rw [V_after]
  refine StableHlo.after_last_write (written.drop (i + 1)) h ?_ hr _
  have e : rest = hostOps0.drop (i + 1) := by rw [← List.drop_drop, h]; rfl
  rw [e, List.map_drop, written_eq, ← List.map_drop]

theorem V_nullary (i : ℕ) (y : Ref sig .tc) (v : y.ty.Contents (Elt Ideal)) (hy) (rest : List (HloOp τ sig (Elt Ideal)))
    (h : hostOps0.drop i = StableHlo.nullary y v hy :: rest) (hr : y ∉ written.drop (i + 1)) : V m c y = v :=
  (V_last m c i _ rest h y hr).trans (StableHlo.nullary_result' v hy _)

theorem V_unary (i : ℕ) (x y : Ref sig .tc) (f : x.ty.Contents (Elt Ideal) → y.ty.Contents (Elt Ideal)) (hx hy) (rest : List (HloOp τ sig (Elt Ideal)))
    (h : hostOps0.drop i = StableHlo.unary x y f hx hy :: rest) (hr : y ∉ written.drop (i + 1)) (hx' : x ∉ written.drop i) : V m c y = f (V m c x) :=
  (V_last m c i _ rest h y hr).trans ((StableHlo.unary_result' f hx hy _).trans (congrArg f (upto_eq m c i x hx')))

theorem V_binary (i : ℕ) (a b y : Ref sig .tc) (f : a.ty.Contents (Elt Ideal) → b.ty.Contents (Elt Ideal) → y.ty.Contents (Elt Ideal)) (ha hb hy) (rest : List (HloOp τ sig (Elt Ideal)))
    (h : hostOps0.drop i = StableHlo.binary a b y f ha hb hy :: rest) (hr : y ∉ written.drop (i + 1)) (ha' : a ∉ written.drop i) (hb' : b ∉ written.drop i) :
    V m c y = f (V m c a) (V m c b) :=
  (V_last m c i _ rest h y hr).trans ((StableHlo.binary_result' f ha hb hy _).trans (congr (congrArg f (upto_eq m c i a ha')) (upto_eq m c i b hb')))

theorem V_nary (i : ℕ) {n : ℕ} (xs : Fin n → Ref sig .tc) (y : Ref sig .tc) (f : ((k : Fin n) → (xs k).ty.Contents (Elt Ideal)) → y.ty.Contents (Elt Ideal)) (hxs hy) (rest : List (HloOp τ sig (Elt Ideal)))
    (h : hostOps0.drop i = StableHlo.nary xs y f hxs hy :: rest) (hr : y ∉ written.drop (i + 1)) (hx' : ∀ k, xs k ∉ written.drop i) :
    V m c y = f (fun k => V m c (xs k)) :=
  (V_last m c i _ rest h y hr).trans ((StableHlo.nary_result' xs f hxs hy _).trans (congrArg f (funext fun k => upto_eq m c i (xs k) (hx' k))))

theorem eq_v17 : V m c main_v17 = concatenate S1024x5120 1 [⟨S1024x512, V m c main_v5⟩, ⟨S1024x512, V m c main_v6⟩, ⟨S1024x512, V m c main_v7⟩, ⟨S1024x512, V m c main_v8⟩, ⟨S1024x512, V m c main_v9⟩, ⟨S1024x512, V m c main_v10⟩, ⟨S1024x512, V m c main_v11⟩, ⟨S1024x512, V m c main_v12⟩, ⟨S1024x512, V m c main_v13⟩, ⟨S1024x256, V m c main_v14⟩, ⟨S1024x64, V m c main_v15⟩, ⟨S1024x64, V m c main_v16⟩, ⟨S1024x128, V m c main_v4⟩] concatenates_S1024x512_S1024x512_S1024x512_S1024x512_S1024x512_S1024x512_S1024x512_S1024x512_S1024x512_S1024x256_S1024x64_S1024x64_S1024x128_S1024x5120_d1 :=
  V_nary m c 20 ![main_v5, main_v6, main_v7, main_v8, main_v9, main_v10, main_v11, main_v12, main_v13, main_v14, main_v15, main_v16, main_v4] main_v17 _ _ _ _ rfl (by decide) (by decide)

theorem eq_v4 : V m c main_v4 = concatenate S1024x128 1 [⟨S1024x16, V m c main_v0⟩, ⟨S1024x8, V m c main_v1⟩, ⟨S1024x4, V m c main_v2⟩, ⟨S1024x100, V m c main_v3⟩] concatenates_S1024x16_S1024x8_S1024x4_S1024x100_S1024x128_d1 :=
  V_nary m c 7 ![main_v0, main_v1, main_v2, main_v3] main_v4 _ _ _ _ rfl (by decide) (by decide)

theorem eq_v37 : V m c main_v37 = concatenate S1x5120 1 [⟨S1x512, V m c main_v25⟩, ⟨S1x512, V m c main_v26⟩, ⟨S1x512, V m c main_v27⟩, ⟨S1x512, V m c main_v28⟩, ⟨S1x512, V m c main_v29⟩, ⟨S1x512, V m c main_v30⟩, ⟨S1x512, V m c main_v31⟩, ⟨S1x512, V m c main_v32⟩, ⟨S1x512, V m c main_v33⟩, ⟨S1x256, V m c main_v34⟩, ⟨S1x64, V m c main_v35⟩, ⟨S1x64, V m c main_v36⟩, ⟨S1x128, V m c main_v24⟩] concatenates_S1x512_S1x512_S1x512_S1x512_S1x512_S1x512_S1x512_S1x512_S1x512_S1x256_S1x64_S1x64_S1x128_S1x5120_d1 :=
  V_nary m c 42 ![main_v25, main_v26, main_v27, main_v28, main_v29, main_v30, main_v31, main_v32, main_v33, main_v34, main_v35, main_v36, main_v24] main_v37 _ _ _ _ rfl (by decide) (by decide)

theorem eq_v24 : V m c main_v24 = concatenate S1x128 1 [⟨S1x16, V m c main_v20⟩, ⟨S1x8, V m c main_v21⟩, ⟨S1x4, V m c main_v22⟩, ⟨S1x100, V m c main_v23⟩] concatenates_S1x16_S1x8_S1x4_S1x100_S1x128_d1 :=
  V_nary m c 29 ![main_v20, main_v21, main_v22, main_v23] main_v24 _ _ _ _ rfl (by decide) (by decide)

theorem eq_v58 : V m c main_v58 = concatenate S17664x64 1 [⟨S17664x8, V m c main_v53⟩, ⟨S17664x8, V m c main_v53⟩, ⟨S17664x48, V m c main_v55⟩] concatenates_S17664x8_S17664x8_S17664x48_S17664x64_d1 :=
  V_nary m c 68 ![main_v53, main_v53, main_v55] main_v58 _ _ _ _ rfl (by decide) (by decide)

theorem eq_v60 : V m c main_v60 = concatenate S17664x64 1 [⟨S17664x8, V m c main_v59⟩, ⟨S17664x8, V m c main_v57⟩, ⟨S17664x48, V m c main_v56⟩] concatenates_S17664x8_S17664x8_S17664x48_S17664x64_d1 :=
  V_nary m c 70 ![main_v59, main_v57, main_v56] main_v60 _ _ _ _ rfl (by decide) (by decide)

theorem eq_v61 : V m c main_v61 = concatenate S17664x64 1 [⟨S17664x8, V m c main_v57⟩, ⟨S17664x8, V m c main_v54⟩, ⟨S17664x48, V m c main_v56⟩] concatenates_S17664x8_S17664x8_S17664x48_S17664x64_d1 :=
  V_nary m c 71 ![main_v57, main_v54, main_v56] main_v61 _ _ _ _ rfl (by decide) (by decide)

theorem eq_v62 : V m c main_v62 = concatenate S17664x128 1 [⟨S17664x64, V m c main_v58⟩, ⟨S17664x64, V m c main_v58⟩] concatenates_S17664x64_S17664x64_S17664x128_d1 :=
  V_binary m c 72 main_v58 main_v58 main_v62 _ _ _ _ _ rfl (by decide) (by decide) (by decide)

theorem eq_v63 : V m c main_v63 = concatenate S17664x128 1 [⟨S17664x64, V m c main_v60⟩, ⟨S17664x64, V m c main_v60⟩] concatenates_S17664x64_S17664x64_S17664x128_d1 :=
  V_binary m c 73 main_v60 main_v60 main_v63 _ _ _ _ _ rfl (by decide) (by decide) (by decide)

theorem eq_v64 : V m c main_v64 = concatenate S17664x128 1 [⟨S17664x64, V m c main_v61⟩, ⟨S17664x64, V m c main_v61⟩] concatenates_S17664x64_S17664x64_S17664x128_d1 :=
  V_binary m c 74 main_v61 main_v61 main_v64 _ _ _ _ _ rfl (by decide) (by decide) (by decide)

theorem read_v5 (r : Fin 1024) (i : Fin 512) : V m c main_v5 (ix2 r i) = argW m c (ix2 r ⟨0 + i.val, by omega⟩) := by
  rw [V_unary m c 8 main_arg2 main_v5 _ _ _ _ rfl (by decide) (by decide), V_main_arg2]
  pointwise

theorem read_v6 (r : Fin 1024) (i : Fin 512) : V m c main_v6 (ix2 r i) = argW m c (ix2 r ⟨512 + i.val, by omega⟩) := by
  rw [V_unary m c 9 main_arg2 main_v6 _ _ _ _ rfl (by decide) (by decide), V_main_arg2]
  pointwise

theorem read_v7 (r : Fin 1024) (i : Fin 512) : V m c main_v7 (ix2 r i) = argW m c (ix2 r ⟨1024 + i.val, by omega⟩) := by
  rw [V_unary m c 10 main_arg2 main_v7 _ _ _ _ rfl (by decide) (by decide), V_main_arg2]
  pointwise

theorem read_v8 (r : Fin 1024) (i : Fin 512) : V m c main_v8 (ix2 r i) = argW m c (ix2 r ⟨1536 + i.val, by omega⟩) := by
  rw [V_unary m c 11 main_arg2 main_v8 _ _ _ _ rfl (by decide) (by decide), V_main_arg2]
  pointwise

theorem read_v9 (r : Fin 1024) (i : Fin 512) : V m c main_v9 (ix2 r i) = argW m c (ix2 r ⟨2048 + i.val, by omega⟩) := by
  rw [V_unary m c 12 main_arg2 main_v9 _ _ _ _ rfl (by decide) (by decide), V_main_arg2]
  pointwise

theorem read_v10 (r : Fin 1024) (i : Fin 512) : V m c main_v10 (ix2 r i) = argW m c (ix2 r ⟨2560 + i.val, by omega⟩) := by
  rw [V_unary m c 13 main_arg2 main_v10 _ _ _ _ rfl (by decide) (by decide), V_main_arg2]
  pointwise

theorem read_v11 (r : Fin 1024) (i : Fin 512) : V m c main_v11 (ix2 r i) = argW m c (ix2 r ⟨3080 + i.val, by omega⟩) := by
  rw [V_unary m c 14 main_arg2 main_v11 _ _ _ _ rfl (by decide) (by decide), V_main_arg2]
  pointwise

theorem read_v12 (r : Fin 1024) (i : Fin 512) : V m c main_v12 (ix2 r i) = argW m c (ix2 r ⟨3592 + i.val, by omega⟩) := by
  rw [V_unary m c 15 main_arg2 main_v12 _ _ _ _ rfl (by decide) (by decide), V_main_arg2]
  pointwise

theorem read_v13 (r : Fin 1024) (i : Fin 512) : V m c main_v13 (ix2 r i) = argW m c (ix2 r ⟨4104 + i.val, by omega⟩) := by
  rw [V_unary m c 16 main_arg2 main_v13 _ _ _ _ rfl (by decide) (by decide), V_main_arg2]
  pointwise

theorem read_v14 (r : Fin 1024) (i : Fin 256) : V m c main_v14 (ix2 r i) = argW m c (ix2 r ⟨4616 + i.val, by omega⟩) := by
  rw [V_unary m c 17 main_arg2 main_v14 _ _ _ _ rfl (by decide) (by decide), V_main_arg2]
  pointwise

theorem read_v15 (r : Fin 1024) (i : Fin 64) : V m c main_v15 (ix2 r i) = argW m c (ix2 r ⟨4872 + i.val, by omega⟩) := by
  rw [V_unary m c 18 main_arg2 main_v15 _ _ _ _ rfl (by decide) (by decide), V_main_arg2]
  pointwise

theorem read_v16 (r : Fin 1024) (i : Fin 64) : V m c main_v16 (ix2 r i) = argW m c (ix2 r ⟨4872 + i.val, by omega⟩) := by
  rw [V_unary m c 19 main_arg2 main_v16 _ _ _ _ rfl (by decide) (by decide), V_main_arg2]
  pointwise

theorem read_v1 (r : Fin 1024) (i : Fin 8) : V m c main_v1 (ix2 r i) = argW m c (ix2 r ⟨3072 + i.val, by omega⟩) := by
  rw [V_unary m c 3 main_arg2 main_v1 _ _ _ _ rfl (by decide) (by decide), V_main_arg2]
  pointwise

theorem read_v2 (r : Fin 1024) (i : Fin 4) : V m c main_v2 (ix2 r i) = argW m c (ix2 r ⟨4936 + i.val, by omega⟩) := by
  rw [V_unary m c 4 main_arg2 main_v2 _ _ _ _ rfl (by decide) (by decide), V_main_arg2]
  pointwise

theorem read_v0 (r : Fin 1024) (i : Fin 16) : V m c main_v0 (ix2 r i) = (0 : EReal) := by
  rw [V_unary m c 2 main_cst main_v0 _ _ _ _ rfl (by decide) (by decide), V_nullary m c 1 main_cst _ _ _ rfl (by decide)]
  pointwise

theorem read_v3 (r : Fin 1024) (i : Fin 100) : V m c main_v3 (ix2 r i) = (0 : EReal) := by
  rw [V_unary m c 6 main_cst_0 main_v3 _ _ _ _ rfl (by decide) (by decide), V_nullary m c 5 main_cst_0 _ _ _ rfl (by decide)]
  pointwise

theorem read_v19 (r : Fin 1) (i : Fin 8012) : V m c main_v19 (ix2 r i) = argB m c (ix1 i) := by
  rw [V_unary m c 22 main_arg3 main_v19 _ _ _ _ rfl (by decide) (by decide), V_main_arg3]
  pointwise

theorem read_v25 (r : Fin 1) (i : Fin 512) : V m c main_v25 (ix2 r i) = argB m c (ix1 ⟨0 + i.val, by omega⟩) := by
  obtain rfl : r = 0 := Subsingleton.elim _ _
  refine Eq.trans ?_ (read_v19 m c 0 ⟨0 + i.val, by omega⟩)
  rw [V_unary m c 30 main_v19 main_v25 _ _ _ _ rfl (by decide) (by decide)]
  generalize V m c main_v19 = T
  pointwise

theorem read_v26 (r : Fin 1) (i : Fin 512) : V m c main_v26 (ix2 r i) = argB m c (ix1 ⟨512 + i.val, by omega⟩) := by
  obtain rfl : r = 0 := Subsingleton.elim _ _
  refine Eq.trans ?_ (read_v19 m c 0 ⟨512 + i.val, by omega⟩)
  rw [V_unary m c 31 main_v19 main_v26 _ _ _ _ rfl (by decide) (by decide)]
  generalize V m c main_v19 = T
  pointwise

theorem read_v27 (r : Fin 1) (i : Fin 512) : V m c main_v27 (ix2 r i) = argB m c (ix1 ⟨1024 + i.val, by omega⟩) := by
  obtain rfl : r = 0 := Subsingleton.elim _ _
  refine Eq.trans ?_ (read_v19 m c 0 ⟨1024 + i.val, by omega⟩)
  rw [V_unary m c 32 main_v19 main_v27 _ _ _ _ rfl (by decide) (by decide)]
  generalize V m c main_v19 = T
  pointwise

theorem read_v28 (r : Fin 1) (i : Fin 512) : V m c main_v28 (ix2 r i) = argB m c (ix1 ⟨1536 + i.val, by omega⟩) := by
  obtain rfl : r = 0 := Subsingleton.elim _ _
  refine Eq.trans ?_ (read_v19 m c 0 ⟨1536 + i.val, by omega⟩)
  rw [V_unary m c 33 main_v19 main_v28 _ _ _ _ rfl (by decide) (by decide)]
  generalize V m c main_v19 = T
  pointwise

theorem read_v29 (r : Fin 1) (i : Fin 512) : V m c main_v29 (ix2 r i) = argB m c (ix1 ⟨2048 + i.val, by omega⟩) := by
  obtain rfl : r = 0 := Subsingleton.elim _ _
  refine Eq.trans ?_ (read_v19 m c 0 ⟨2048 + i.val, by omega⟩)
  rw [V_unary m c 34 main_v19 main_v29 _ _ _ _ rfl (by decide) (by decide)]
  generalize V m c main_v19 = T
  pointwise

theorem read_v30 (r : Fin 1) (i : Fin 512) : V m c main_v30 (ix2 r i) = argB m c (ix1 ⟨2560 + i.val, by omega⟩) := by
  obtain rfl : r = 0 := Subsingleton.elim _ _
  refine Eq.trans ?_ (read_v19 m c 0 ⟨2560 + i.val, by omega⟩)
  rw [V_unary m c 35 main_v19 main_v30 _ _ _ _ rfl (by decide) (by decide)]
  generalize V m c main_v19 = T
  pointwise

theorem read_v31 (r : Fin 1) (i : Fin 512) : V m c main_v31 (ix2 r i) = argB m c (ix1 ⟨3080 + i.val, by omega⟩) := by
  obtain rfl : r = 0 := Subsingleton.elim _ _
  refine Eq.trans ?_ (read_v19 m c 0 ⟨3080 + i.val, by omega⟩)
  rw [V_unary m c 36 main_v19 main_v31 _ _ _ _ rfl (by decide) (by decide)]
  generalize V m c main_v19 = T
  pointwise

theorem read_v32 (r : Fin 1) (i : Fin 512) : V m c main_v32 (ix2 r i) = argB m c (ix1 ⟨3592 + i.val, by omega⟩) := by
  obtain rfl : r = 0 := Subsingleton.elim _ _
  refine Eq.trans ?_ (read_v19 m c 0 ⟨3592 + i.val, by omega⟩)
  rw [V_unary m c 37 main_v19 main_v32 _ _ _ _ rfl (by decide) (by decide)]
  generalize V m c main_v19 = T
  pointwise

theorem read_v33 (r : Fin 1) (i : Fin 512) : V m c main_v33 (ix2 r i) = argB m c (ix1 ⟨4104 + i.val, by omega⟩) := by
  obtain rfl : r = 0 := Subsingleton.elim _ _
  refine Eq.trans ?_ (read_v19 m c 0 ⟨4104 + i.val, by omega⟩)
  rw [V_unary m c 38 main_v19 main_v33 _ _ _ _ rfl (by decide) (by decide)]
  generalize V m c main_v19 = T
  pointwise

theorem read_v34 (r : Fin 1) (i : Fin 256) : V m c main_v34 (ix2 r i) = argB m c (ix1 ⟨4616 + i.val, by omega⟩) := by
  obtain rfl : r = 0 := Subsingleton.elim _ _
  refine Eq.trans ?_ (read_v19 m c 0 ⟨4616 + i.val, by omega⟩)
  rw [V_unary m c 39 main_v19 main_v34 _ _ _ _ rfl (by decide) (by decide)]
  generalize V m c main_v19 = T
  pointwise

theorem read_v35 (r : Fin 1) (i : Fin 64) : V m c main_v35 (ix2 r i) = argB m c (ix1 ⟨4872 + i.val, by omega⟩) := by
  obtain rfl : r = 0 := Subsingleton.elim _ _
  refine Eq.trans ?_ (read_v19 m c 0 ⟨4872 + i.val, by omega⟩)
  rw [V_unary m c 40 main_v19 main_v35 _ _ _ _ rfl (by decide) (by decide)]
  generalize V m c main_v19 = T
  pointwise

theorem read_v36 (r : Fin 1) (i : Fin 64) : V m c main_v36 (ix2 r i) = argB m c (ix1 ⟨4872 + i.val, by omega⟩) := by
  obtain rfl : r = 0 := Subsingleton.elim _ _
  refine Eq.trans ?_ (read_v19 m c 0 ⟨4872 + i.val, by omega⟩)
  rw [V_unary m c 41 main_v19 main_v36 _ _ _ _ rfl (by decide) (by decide)]
  generalize V m c main_v19 = T
  pointwise

theorem read_v21 (r : Fin 1) (i : Fin 8) : V m c main_v21 (ix2 r i) = argB m c (ix1 ⟨3072 + i.val, by omega⟩) := by
  obtain rfl : r = 0 := Subsingleton.elim _ _
  refine Eq.trans ?_ (read_v19 m c 0 ⟨3072 + i.val, by omega⟩)
  rw [V_unary m c 25 main_v19 main_v21 _ _ _ _ rfl (by decide) (by decide)]
  generalize V m c main_v19 = T
  pointwise

theorem read_v22 (r : Fin 1) (i : Fin 4) : V m c main_v22 (ix2 r i) = argB m c (ix1 ⟨4936 + i.val, by omega⟩) := by
  obtain rfl : r = 0 := Subsingleton.elim _ _
  refine Eq.trans ?_ (read_v19 m c 0 ⟨4936 + i.val, by omega⟩)
  rw [V_unary m c 26 main_v19 main_v22 _ _ _ _ rfl (by decide) (by decide)]
  generalize V m c main_v19 = T
  pointwise

theorem read_v20 (r : Fin 1) (i : Fin 16) : V m c main_v20 (ix2 r i) = (0 : EReal) := by
  rw [V_unary m c 24 main_cst_1 main_v20 _ _ _ _ rfl (by decide) (by decide), V_nullary m c 23 main_cst_1 _ _ _ rfl (by decide)]
  pointwise

theorem read_v23 (r : Fin 1) (i : Fin 100) : V m c main_v23 (ix2 r i) = (0 : EReal) := by
  rw [V_unary m c 28 main_cst_2 main_v23 _ _ _ _ rfl (by decide) (by decide), V_nullary m c 27 main_cst_2 _ _ _ rfl (by decide)]
  pointwise

theorem read_v55 (r : Fin 17664) (i : Fin 48) : V m c main_v55 (ix2 r i) = (1 : EReal) := by
  rw [V_unary m c 63 main_cst_5 main_v55 _ _ _ _ rfl (by decide) (by decide), V_nullary m c 62 main_cst_5 _ _ _ rfl (by decide)]
  pointwise

theorem read_v56 (r : Fin 17664) (i : Fin 48) : V m c main_v56 (ix2 r i) = (0 : EReal) := by
  rw [V_unary m c 65 main_cst_6 main_v56 _ _ _ _ rfl (by decide) (by decide), V_nullary m c 64 main_cst_6 _ _ _ rfl (by decide)]
  pointwise

theorem read_v57 (r : Fin 17664) (i : Fin 8) : V m c main_v57 (ix2 r i) = (0 : EReal) := by
  rw [V_unary m c 67 main_cst_7 main_v57 _ _ _ _ rfl (by decide) (by decide), V_nullary m c 66 main_cst_7 _ _ _ rfl (by decide)]
  pointwise

theorem read_v52 (r : Fin 17664) (j : Fin 8) : V m c main_v52 (ix2 r j) = angle (argPos m c (ix1 r)) j := by
  rw [V_binary m c 59 main_v50 main_v51 main_v52 _ _ _ _ _ rfl (by decide) (by decide) (by decide), V_unary m c 57 main_v48 main_v50 _ _ _ _ rfl (by decide) (by decide), V_unary m c 58 main_v49 main_v51 _ _ _ _ rfl (by decide) (by decide), V_unary m c 55 main_v47 main_v48 _ _ _ _ rfl (by decide) (by decide), V_unary m c 56 main_v46 main_v49 _ _ _ _ rfl (by decide) (by decide), V_unary m c 54 main_arg1 main_v47 _ _ _ _ rfl (by decide) (by decide), V_binary m c 53 main_v45 main_v44 main_v46 _ _ _ _ _ rfl (by decide) (by decide) (by decide), V_unary m c 52 main_cst_4 main_v45 _ _ _ _ rfl (by decide) (by decide), V_binary m c 50 main_v42 main_v43 main_v44 _ _ _ _ _ rfl (by decide) (by decide) (by decide), V_unary m c 47 main_v41 main_v42 _ _ _ _ rfl (by decide) (by decide), V_unary m c 49 main_cst_3 main_v43 _ _ _ _ rfl (by decide) (by decide), V_nullary m c 46 main_v41 _ _ _ rfl (by decide), V_nullary m c 51 main_cst_4 _ _ _ rfl (by decide), V_nullary m c 48 main_cst_3 _ _ _ rfl (by decide), V_main_arg1]
  pointwise
  rfl

theorem read_v53 (r : Fin 17664) (j : Fin 8) : V m c main_v53 (ix2 r j) = Ideal.cos (angle (argPos m c (ix1 r)) j) := by
  rw [← read_v52, V_unary m c 60 main_v52 main_v53 _ _ _ _ rfl (by decide) (by decide)]
  rfl

theorem read_v54 (r : Fin 17664) (j : Fin 8) : V m c main_v54 (ix2 r j) = Ideal.sin (angle (argPos m c (ix1 r)) j) := by
  rw [← read_v52, V_unary m c 61 main_v52 main_v54 _ _ _ _ rfl (by decide) (by decide)]
  rfl

theorem read_v59 (r : Fin 17664) (j : Fin 8) : V m c main_v59 (ix2 r j) = -Ideal.sin (angle (argPos m c (ix1 r)) j) := by
  rw [← read_v54, V_unary m c 69 main_v54 main_v59 _ _ _ _ rfl (by decide) (by decide)]
  rfl

/-- The windows' arrays at an index. -/
theorem entry_x (r : Fin 17664) (k : Fin 1024) : V m c main_v65 (ix2 r k) = argX m c (ix2 r k) := by
  rw [V_unary m c 75 main_arg0 main_v65 _ _ _ _ rfl (by decide) (by decide), V_main_arg0]
  pointwise

theorem entry_w (k : Fin 1024) (q : Fin 5120) : V m c main_v39 (ix2 k q) = pick (fun j => argW m c (ix2 k j)) q := by
  rw [V_unary m c 44 main_v17 main_v39 _ _ _ _ rfl (by decide) (by decide)]
  refine Eq.trans (b := V m c main_v17 (ix2 k q)) (by generalize V m c main_v17 = T; pointwise) ?_
  rw [eq_v17]
  refine thirteen (fun k j => argW m c (ix2 k j)) _ _ _ _ _ _ _ _ _ _ _ _ _ (read_v5 m c) (read_v6 m c) (read_v7 m c) (read_v8 m c) (read_v9 m c) (read_v10 m c) (read_v11 m c) (read_v12 m c) (read_v13 m c) (read_v14 m c) (read_v15 m c) (read_v16 m c) (fun r i => ?_) _ k q
  rw [eq_v4]
  exact last_part (fun k j => argW m c (ix2 k j)) _ _ _ _ (read_v0 m c) (read_v1 m c) (read_v2 m c) (read_v3 m c) _ r i

theorem entry_b (r : Fin 1) (q : Fin 5120) : V m c main_v37 (ix2 r q) = pick (fun j => argB m c (ix1 j)) q := by
  rw [eq_v37]
  refine thirteen (fun _ j => argB m c (ix1 j)) _ _ _ _ _ _ _ _ _ _ _ _ _ (read_v25 m c) (read_v26 m c) (read_v27 m c) (read_v28 m c) (read_v29 m c) (read_v30 m c) (read_v31 m c) (read_v32 m c) (read_v33 m c) (read_v34 m c) (read_v35 m c) (read_v36 m c) (fun r i => ?_) _ r q
  rw [eq_v24]
  exact last_part (fun _ j => argB m c (ix1 j)) _ _ _ _ (read_v20 m c) (read_v21 m c) (read_v22 m c) (read_v23 m c) _ r i

theorem entry_cos (r : Fin 17664) (l : Fin 128) : V m c main_v62 (ix2 r l)
    = if h : l.val % 64 < 8 then Ideal.cos (angle (argPos m c (ix1 r)) ⟨l.val % 64, h⟩) else if h : l.val % 64 < 16 then Ideal.cos (angle (argPos m c (ix1 r)) ⟨l.val % 64 - 8, by omega⟩) else (1 : EReal) := by
  rw [eq_v62]
  refine (doubled _ _ _ _ _ _ (eq_v58 m c) rfl _ r l).trans ?_
  by_cases h0 : l.val % 64 < 8
  · rw [dif_pos h0, dif_pos h0]; exact read_v53 m c _ _
  rw [dif_neg h0, dif_neg h0]
  by_cases h1 : l.val % 64 < 16
  · rw [dif_pos h1, dif_pos h1]; exact read_v53 m c _ _
  · rw [dif_neg h1, dif_neg h1]; exact read_v55 m c _ _

theorem entry_sa (r : Fin 17664) (l : Fin 128) : V m c main_v63 (ix2 r l)
    = if h : l.val % 64 < 8 then -Ideal.sin (angle (argPos m c (ix1 r)) ⟨l.val % 64, h⟩) else if h : l.val % 64 < 16 then (0 : EReal) else (0 : EReal) := by
  rw [eq_v63]
  refine (doubled _ _ _ _ _ _ (eq_v60 m c) rfl _ r l).trans ?_
  by_cases h0 : l.val % 64 < 8
  · rw [dif_pos h0, dif_pos h0]; exact read_v59 m c _ _
  rw [dif_neg h0, dif_neg h0]
  by_cases h1 : l.val % 64 < 16
  · rw [dif_pos h1, dif_pos h1]; exact read_v57 m c _ _
  · rw [dif_neg h1, dif_neg h1]; exact read_v56 m c _ _

theorem entry_sb (r : Fin 17664) (l : Fin 128) : V m c main_v64 (ix2 r l)
    = if h : l.val % 64 < 8 then (0 : EReal) else if h : l.val % 64 < 16 then Ideal.sin (angle (argPos m c (ix1 r)) ⟨l.val % 64 - 8, by omega⟩) else (0 : EReal) := by
  rw [eq_v64]
  refine (doubled _ _ _ _ _ _ (eq_v61 m c) rfl _ r l).trans ?_
  by_cases h0 : l.val % 64 < 8
  · rw [dif_pos h0, dif_pos h0]; exact read_v57 m c _ _
  rw [dif_neg h0, dif_neg h0]
  by_cases h1 : l.val % 64 < 16
  · rw [dif_pos h1, dif_pos h1]; exact read_v54 m c _ _
  · rw [dif_neg h1, dif_neg h1]; exact read_v56 m c _ _

end Cert.Columns

end
-- ==== Proof.ProjTurn.lean ====
module

public import proofs.«01_k».proof.Proof.ProjColumns

@[expose] public section

set_option maxRecDepth 16384

noncomputable section

namespace Cert.Columns

open Idealize.ShloMosaic Idealize.ShloMosaic.TcCoe

/-! # The projection and its rotation

A row of the projection, its columns in the new order, and the rotation of the first sixteen lanes of a head. -/

/-- A row times the weights, plus the bias. -/
def line (x : Fin 1024 → EReal) (w : Fin 1024 → Fin 8012 → EReal) (b : Fin 8012 → EReal) (j : Fin 8012) : EReal := (∑ k : Fin 1024, x k * w k j) + b j

theorem pick_line (x : Fin 1024 → EReal) (w : Fin 1024 → Fin 8012 → EReal) (b : Fin 8012 → EReal) (q : Fin 5120) :
    (∑ k : Fin 1024, x k * pick (w k) q) + pick b q = pick (line x w b) q := by
  unfold pick
  cases src q with
  | none =>
    show (∑ k : Fin 1024, x k * (0 : EReal)) + 0 = 0
    rw [add_zero]
    exact Finset.sum_eq_zero fun k _ => mul_zero _
  | some j => rfl

/-- A family over the weights' columns, continued by zeros. -/
def wide (g : Fin 8012 → EReal) (j : ℕ) : EReal := if h : j < 8012 then g ⟨j, h⟩ else 0

theorem wide_at (g : Fin 8012 → EReal) (j : ℕ) (h : j < 8012) : wide g j = g ⟨j, h⟩ := dif_pos h

/-- Its columns in the new order, continued by zeros. -/
def col (g : Fin 8012 → EReal) (q : ℕ) : EReal := if h : q < 5120 then pick g ⟨q, h⟩ else 0

theorem col_at (g : Fin 8012 → EReal) (q : ℕ) (h : q < 5120) : col g q = pick g ⟨q, h⟩ := dif_pos h

theorem col_first (g : Fin 8012 → EReal) (q : ℕ) (h : q < 3072) : col g q = wide g q := by
  rw [col_at g q (by omega), pick_some _ _ _ (src_first ⟨q, by omega⟩ h)]
  exact (wide_at g q (by omega)).symm

theorem col_second (g : Fin 8012 → EReal) (q : ℕ) (h : 3072 ≤ q) (h' : q < 4928) : col g q = wide g (q + 8) := by
  rw [col_at g q (by omega), pick_some _ _ _ (src_second ⟨q, by omega⟩ h h')]
  exact (wide_at g (q + 8) (by omega)).symm

theorem col_third (g : Fin 8012 → EReal) (q : ℕ) (h : 4928 ≤ q) (h' : q < 4992) : col g q = wide g (q - 56) := by
  rw [col_at g q (by omega), pick_some _ _ _ (src_third ⟨q, by omega⟩ h h')]
  exact (wide_at g (q - 56) (by omega)).symm

theorem col_gap (g : Fin 8012 → EReal) (q : ℕ) (h : 4992 ≤ q) (h' : q < 5008) : col g q = 0 := by
  rw [col_at g q (by omega), pick_none _ _ (src_gap ⟨q, by omega⟩ h h')]

theorem col_fourth (g : Fin 8012 → EReal) (q : ℕ) (h : 5008 ≤ q) (h' : q < 5016) : col g q = wide g (q - 1936) := by
  rw [col_at g q (by omega), pick_some _ _ _ (src_fourth ⟨q, by omega⟩ h h')]
  exact (wide_at g (q - 1936) (by omega)).symm

theorem col_fifth (g : Fin 8012 → EReal) (q : ℕ) (h : 5016 ≤ q) (h' : q < 5020) : col g q = wide g (q - 80) := by
  rw [col_at g q (by omega), pick_some _ _ _ (src_fifth ⟨q, by omega⟩ h h')]
  exact (wide_at g (q - 80) (by omega)).symm

theorem col_end (g : Fin 8012 → EReal) (q : ℕ) (h : 5020 ≤ q) : col g q = 0 := by
  by_cases h' : q < 5120
  · rw [col_at g q h', pick_none _ _ (src_end ⟨q, h'⟩ h)]
  · exact dif_neg h'

/-- The rotation at a column: lanes 0 to 7 of a head turn with lanes 8 to 15, the rest stay. -/
def turn (p : BitVec 32) (f : ℕ → EReal) (q : ℕ) : EReal :=
  if h : q % 64 < 8 then f q * Ideal.cos (angle p ⟨q % 64, h⟩) - f (q + 8) * Ideal.sin (angle p ⟨q % 64, h⟩)
  else if h : q % 64 < 16 then f q * Ideal.cos (angle p ⟨q % 64 - 8, by omega⟩) + f (q - 8) * Ideal.sin (angle p ⟨q % 64 - 8, by omega⟩)
  else f q

theorem turn_congr (p : BitVec 32) (f f' : ℕ → EReal) (q q' : ℕ) (hm : q % 64 = q' % 64) (h : f q = f' q') (hu : q % 64 < 8 → f (q + 8) = f' (q' + 8))
    (hd : 8 ≤ q % 64 → q % 64 < 16 → f (q - 8) = f' (q' - 8)) : turn p f q = turn p f' q' := by
  unfold turn
  by_cases h0 : q % 64 < 8
  · rw [dif_pos h0, dif_pos (show q' % 64 < 8 by omega), h, hu h0]
    simp only [hm]
  rw [dif_neg h0, dif_neg (show ¬q' % 64 < 8 by omega)]
  by_cases h1 : q % 64 < 16
  · rw [dif_pos h1, dif_pos (show q' % 64 < 16 by omega), h, hd (by omega) h1]
    simp only [hm]
  · rw [dif_neg h1, dif_neg (show ¬q' % 64 < 16 by omega), h]

/-- Where the lanes that turn are zero, nothing moves. -/
theorem turn_zero (p : BitVec 32) (f : ℕ → EReal) (q : ℕ) (h : q % 64 < 16 → f q = 0) (hu : q % 64 < 8 → f (q + 8) = 0)
    (hd : 8 ≤ q % 64 → q % 64 < 16 → f (q - 8) = 0) : turn p f q = f q := by
  unfold turn
  by_cases h0 : q % 64 < 8
  · rw [dif_pos h0, h (by omega), hu h0, zero_mul, zero_mul, sub_zero]
  rw [dif_neg h0]
  by_cases h1 : q % 64 < 16
  · rw [dif_pos h1, h h1, hd (by omega) h1, zero_mul, zero_mul, add_zero]
  · rw [dif_neg h1]

/-- The rotation as a sum of three products. -/
theorem turn_sum (p : BitVec 32) (f : ℕ → EReal) (q l : ℕ) (hl : l % 64 = q % 64) (u v : EReal) (hu : q % 64 < 8 → u = f (q + 8)) (hv : 8 ≤ q % 64 → q % 64 < 16 → v = f (q - 8)) :
    f q * (if h : l % 64 < 8 then Ideal.cos (angle p ⟨l % 64, h⟩) else if h : l % 64 < 16 then Ideal.cos (angle p ⟨l % 64 - 8, by omega⟩) else (1 : EReal))
      + u * (if h : l % 64 < 8 then -Ideal.sin (angle p ⟨l % 64, h⟩) else if h : l % 64 < 16 then (0 : EReal) else (0 : EReal))
      + v * (if h : l % 64 < 8 then (0 : EReal) else if h : l % 64 < 16 then Ideal.sin (angle p ⟨l % 64 - 8, by omega⟩) else (0 : EReal))
      = turn p f q := by
  unfold turn
  simp only [hl]
  by_cases h0 : q % 64 < 8
  · simp only [dif_pos h0]
    rw [hu h0, mul_zero, add_zero, mul_neg]
    exact (sub_eq_add_neg _ _).symm
  simp only [dif_neg h0]
  by_cases h1 : q % 64 < 16
  · simp only [dif_pos h1]
    rw [hv (by omega) h1, mul_zero, add_zero]
  · simp only [dif_neg h1]
    rw [mul_zero, mul_zero, add_zero, add_zero, mul_one]

/-- What a column of the result holds: five of the ten tiles of 512 columns are rotated. -/
def outAt (p : BitVec 32) (f : ℕ → EReal) (q : ℕ) : EReal := if q / 512 ∈ [0, 1, 6, 7, 9] then turn p f q else f q

theorem outAt_in (p : BitVec 32) (f : ℕ → EReal) (q : ℕ) (h : q / 512 ∈ [0, 1, 6, 7, 9]) : outAt p f q = turn p f q := if_pos h
theorem outAt_off (p : BitVec 32) (f : ℕ → EReal) (q : ℕ) (h : q / 512 ∉ [0, 1, 6, 7, 9]) : outAt p f q = f q := if_neg h

/-- The whole result, by the arguments. -/
def whole (x : Fin 17664 → Fin 1024 → EReal) (p : Fin 17664 → BitVec 32) (w : Fin 1024 → Fin 8012 → EReal) (b : Fin 8012 → EReal) (r : Fin 17664) (q : Fin 5120) : EReal :=
  outAt (p r) (col (line (x r) w b)) q.val

/-- Heads whose first sixteen lanes are turned, joined again to columns. -/
theorem heads_read {n H N : ℕ} (hN : N = 64 * H) (A B : (⟨3, ![n, H, 8]⟩ : Shape).Idx → EReal) (D : (⟨3, ![n, H, 48]⟩ : Shape).Idx → EReal)
    (h : Shape.Concatenates (([⟨⟨3, ![n, H, 8]⟩, A⟩, ⟨⟨3, ![n, H, 8]⟩, B⟩, ⟨⟨3, ![n, H, 48]⟩, D⟩] : List ((s : Shape) × (s.Idx → EReal))).map (·.1)) ⟨3, ![n, H, 64]⟩ 2)
    (h' : (⟨3, ![n, H, 64]⟩ : Shape).ShapeCasts ⟨2, ![n, N]⟩) (p : BitVec 32) (f : ℕ → EReal) (r : Fin n)
    (hA : ∀ (a : Fin H) (l : Fin 8), A (ix3 r a l) = f (64 * a.val + l.val) * Ideal.cos (angle p l) - f (64 * a.val + l.val + 8) * Ideal.sin (angle p l))
    (hB : ∀ (a : Fin H) (l : Fin 8), B (ix3 r a l) = f (64 * a.val + l.val + 8) * Ideal.cos (angle p l) + f (64 * a.val + l.val) * Ideal.sin (angle p l))
    (hD : ∀ (a : Fin H) (l : Fin 48), D (ix3 r a l) = f (64 * a.val + (16 + l.val))) (i : Fin N) :
    shapeCast ⟨2, ![n, N]⟩ (concatenate ⟨3, ![n, H, 64]⟩ 2 [⟨⟨3, ![n, H, 8]⟩, A⟩, ⟨⟨3, ![n, H, 8]⟩, B⟩, ⟨⟨3, ![n, H, 48]⟩, D⟩] h) h' (ix2 r i) = turn p f i.val := by
  subst hN
  have hi := i.isLt
  rw [join_read rfl _ h' r ⟨i.val / 64, by omega⟩ ⟨i.val % 64, by omega⟩ i (by show i.val = 64 * (i.val / 64) + i.val % 64; omega), lanes]
  unfold turn
  by_cases h0 : i.val % 64 < 8
  · rw [dif_pos h0, dif_pos h0, hA]
    have e : 64 * (i.val / 64) + i.val % 64 = i.val := by omega
    simp only [e]
  rw [dif_neg h0, dif_neg h0]
  by_cases h1 : i.val % 64 < 16
  · rw [dif_pos h1, dif_pos h1, hB]
    have e : i.val - 8 + 8 = i.val := by omega
    have e' : 64 * (i.val / 64) + (i.val % 64 - 8) = i.val - 8 := by omega
    simp only [e', e]
  · rw [dif_neg h1, dif_neg h1, hD]
    have e : 64 * (i.val / 64) + (16 + (i.val % 64 - 16)) = i.val := by omega
    simp only [e]

end Cert.Columns

end
-- ==== Proof.ProjValues.lean ====
module

public import proofs.«01_k».proof.Proof.ProjHost
public import proofs.«01_k».proof.Proof.ProjTurn
public import Idealize.ShloMosaic.Lib.KernelVsHost

@[expose] public section

set_option maxRecDepth 16384

noncomputable section

namespace Cert.Columns

open Idealize.ShloMosaic Idealize.ShloMosaic.TcCoe Idealize.ShloMosaic.Tactic Idealize.SL.Sem

/-! # What the projection leaves

The two results of the launch at an index, by the arguments. -/

open Cert.ProjIdeal Cert.ProjIdeal.Gen

theorem pay1_apply (v0 : Vec Ideal S768x1024 .bf16) (v2 : Vec Ideal S1024x512 .bf16) (v5 : Vec Ideal S1x512 .f32) (r : Fin 768) (d : Fin 512) :
    k0_pay1 v0 v2 v5 (ix2 r d) = (∑ k : Fin 1024, v0 (ix2 r k) * v2 (ix2 k d)) + v5 (ix2 0 d) := by
  unfold k0_pay1
  simp only [pointwise, zero_add]
  rfl

/-- One of the four parts of a rotated tile: a slice, and the slice with its lanes moved by 8 either way. -/
theorem part_read (o : ℕ) (v8 : FVec Ideal S768x512 .f32) (c sa sb : Vec Ideal S768x128 .f32) (hs : S768x512.Slices ![0, o] S768x128) (r : Fin 768) (l : Fin 128) (ho : o + 128 ≤ 512) :
    addf (addf (mulf (extractStridedSlice S768x128 ![0, o] v8 hs) (shapeCast S768x128 c shapeCasts_S768x128_S768x128))
        (mulf (dynamicRotate 1 120#32 none (extractStridedSlice S768x128 ![0, o] v8 hs) rotates_S768x128_d1) (shapeCast S768x128 sa shapeCasts_S768x128_S768x128)))
      (mulf (dynamicRotate 1 8#32 none (extractStridedSlice S768x128 ![0, o] v8 hs) rotates_S768x128_d1) (shapeCast S768x128 sb shapeCasts_S768x128_S768x128)) (ix2 r l)
      = v8 (ix2 r ⟨o + l.val, by omega⟩) * c (ix2 r l) + v8 (ix2 r ⟨o + (l.val + 8) % 128, by omega⟩) * sa (ix2 r l) + v8 (ix2 r ⟨o + (l.val + 120) % 128, by omega⟩) * sb (ix2 r l) := by
  have hsl : ∀ k : Fin 128, extractStridedSlice S768x128 ![0, o] v8 hs (ix2 r k) = v8 (ix2 r ⟨o + k.val, by omega⟩) := fun k => by
    pointwise
  have h1 : dynamicRotate 1 120#32 none (extractStridedSlice S768x128 ![0, o] v8 hs) rotates_S768x128_d1 (ix2 r l) = v8 (ix2 r ⟨o + (l.val + 8) % 128, by omega⟩) := by
    refine (dynamicRotate_apply 1 120#32 _ rotates_S768x128_d1 (ix2 r l) (ix2 r ⟨(l.val + 8) % 128, by omega⟩) fun b => ?_).trans (hsl _)
    match b with
    | ⟨0, _⟩ => rfl
    | ⟨1, _⟩ =>
      show (l.val + 8) % 128 = (l.val + 128 - 120 % 128) % 128
      omega
  have h2 : dynamicRotate 1 8#32 none (extractStridedSlice S768x128 ![0, o] v8 hs) rotates_S768x128_d1 (ix2 r l) = v8 (ix2 r ⟨o + (l.val + 120) % 128, by omega⟩) := by
    refine (dynamicRotate_apply 1 8#32 _ rotates_S768x128_d1 (ix2 r l) (ix2 r ⟨(l.val + 120) % 128, by omega⟩) fun b => ?_).trans (hsl _)
    match b with
    | ⟨0, _⟩ => rfl
    | ⟨1, _⟩ =>
      show (l.val + 120) % 128 = (l.val + 128 - 8 % 128) % 128
      omega
  have hc : ∀ T : Vec Ideal S768x128 .f32, shapeCast S768x128 T shapeCasts_S768x128_S768x128 = T := fun T => by
    funext i
    pointwise
  rw [hc, hc, hc]
  show extractStridedSlice S768x128 ![0, o] v8 hs (ix2 r l) * c (ix2 r l)
      + dynamicRotate 1 120#32 none (extractStridedSlice S768x128 ![0, o] v8 hs) rotates_S768x128_d1 (ix2 r l) * sa (ix2 r l)
      + dynamicRotate 1 8#32 none (extractStridedSlice S768x128 ![0, o] v8 hs) rotates_S768x128_d1 (ix2 r l) * sb (ix2 r l) = _
  rw [h1, h2, hsl]

theorem pay3_apply (v8 : FVec Ideal S768x512 .f32) (c sa sb : Vec Ideal S768x128 .f32) (r : Fin 768) (d : Fin 512) :
    k0_pay3 v8 c sa sb (ix2 r d)
      = v8 (ix2 r d) * c (ix2 r ⟨d.val % 128, by omega⟩) + v8 (ix2 r ⟨128 * (d.val / 128) + (d.val % 128 + 8) % 128, by omega⟩) * sa (ix2 r ⟨d.val % 128, by omega⟩)
        + v8 (ix2 r ⟨128 * (d.val / 128) + (d.val % 128 + 120) % 128, by omega⟩) * sb (ix2 r ⟨d.val % 128, by omega⟩) := by
  have key : ∀ (o : ℕ) (ho : o + 128 ≤ 512) (l : Fin 128) (hl : l.val = d.val % 128) (hd : o = 128 * (d.val / 128)),
      v8 (ix2 r ⟨o + l.val, by omega⟩) * c (ix2 r l) + v8 (ix2 r ⟨o + (l.val + 8) % 128, by omega⟩) * sa (ix2 r l) + v8 (ix2 r ⟨o + (l.val + 120) % 128, by omega⟩) * sb (ix2 r l)
      = v8 (ix2 r d) * c (ix2 r ⟨d.val % 128, by omega⟩) + v8 (ix2 r ⟨128 * (d.val / 128) + (d.val % 128 + 8) % 128, by omega⟩) * sa (ix2 r ⟨d.val % 128, by omega⟩)
        + v8 (ix2 r ⟨128 * (d.val / 128) + (d.val % 128 + 120) % 128, by omega⟩) * sb (ix2 r ⟨d.val % 128, by omega⟩) := by
    intro o ho l hl hd
    subst hd
    obtain ⟨l, hl'⟩ := l
    dsimp only at hl
    subst hl
    have e : (⟨128 * (d.val / 128) + d.val % 128, by omega⟩ : Fin 512) = d := Fin.ext (by show 128 * (d.val / 128) + d.val % 128 = d.val; omega)
    exact congrArg (fun z : Fin 512 => v8 (ix2 r z) * c (ix2 r ⟨d.val % 128, by omega⟩) + v8 (ix2 r ⟨128 * (d.val / 128) + (d.val % 128 + 8) % 128, by omega⟩) * sa (ix2 r ⟨d.val % 128, by omega⟩)
        + v8 (ix2 r ⟨128 * (d.val / 128) + (d.val % 128 + 120) % 128, by omega⟩) * sb (ix2 r ⟨d.val % 128, by omega⟩)) e
  unfold k0_pay3
  dsimp only
  by_cases c0 : d.val < 128
  · refine (beside _ _ r d 0 (by simp) _ rfl 0 rfl ⟨d.val - 0, by omega⟩ (by show 0 + (d.val - 0) = d.val; omega)).trans ?_
    exact (part_read 0 v8 c sa sb _ r _ (by omega)).trans (key 0 (by omega) _ (by show d.val - 0 = _; omega) (by omega))
  by_cases c1 : d.val < 256
  · refine (beside _ _ r d 1 (by simp) _ rfl 128 rfl ⟨d.val - 128, by omega⟩ (by show 128 + (d.val - 128) = d.val; omega)).trans ?_
    exact (part_read 128 v8 c sa sb _ r _ (by omega)).trans (key 128 (by omega) _ (by show d.val - 128 = _; omega) (by omega))
  by_cases c2 : d.val < 384
  · refine (beside _ _ r d 2 (by simp) _ rfl 256 rfl ⟨d.val - 256, by omega⟩ (by show 256 + (d.val - 256) = d.val; omega)).trans ?_
    exact (part_read 256 v8 c sa sb _ r _ (by omega)).trans (key 256 (by omega) _ (by show d.val - 256 = _; omega) (by omega))
  · refine (beside _ _ r d 3 (by simp) _ rfl 384 rfl ⟨d.val - 384, by omega⟩ (by show 384 + (d.val - 384) = d.val; omega)).trans ?_
    exact (part_read 384 v8 c sa sb _ r _ (by omega)).trans (key 384 (by omega) _ (by show d.val - 384 = _; omega) (by omega))

variable (m : (ℓ : Loc nD τ sig) → Buf (Elt Ideal) ℓ) (c : Dev nD) (hO : Ok m) (t : Fin (cfgM m hO).N)

theorem coord_nat (n : ℕ) (h : n < 2 ^ 32) : (BitVec.ofNat 32 n).toNat = n := by
  rw [BitVec.toNat_ofNat, Nat.mod_eq_of_lt h]

theorem index_0 (i : grid0.Coords) : cc0_transform_0 i = ![(i 0).val, 0] := by
  have h : (i 0).val < 23 := (i 0).isLt
  unfold cc0_transform_0
  simp only [coord_nat (i 0).val (by omega)]
  rfl

theorem index_1 (i : grid0.Coords) : cc0_transform_1 i = ![0, (i 1).val] := by
  have h' : (i 1).val < 10 := (i 1).isLt
  unfold cc0_transform_1
  simp only [coord_nat (i 1).val (by omega)]
  rfl

theorem index_2 (i : grid0.Coords) : cc0_transform_2 i = ![0, (i 1).val] := by
  have h' : (i 1).val < 10 := (i 1).isLt
  unfold cc0_transform_2
  simp only [coord_nat (i 1).val (by omega)]
  rfl

theorem index_3 (i : grid0.Coords) : cc0_transform_3 i = ![(i 0).val, 0] := by
  have h : (i 0).val < 23 := (i 0).isLt
  unfold cc0_transform_3
  simp only [coord_nat (i 0).val (by omega)]
  rfl

theorem index_4 (i : grid0.Coords) : cc0_transform_4 i = ![(i 0).val, 0] := by
  have h : (i 0).val < 23 := (i 0).isLt
  unfold cc0_transform_4
  simp only [coord_nat (i 0).val (by omega)]
  rfl

theorem index_5 (i : grid0.Coords) : cc0_transform_5 i = ![(i 0).val, 0] := by
  have h : (i 0).val < 23 := (i 0).isLt
  unfold cc0_transform_5
  simp only [coord_nat (i 0).val (by omega)]
  rfl

theorem index_6 (i : grid0.Coords) : cc0_transform_6 i = ![(i 0).val, (i 1).val] := by
  have h : (i 0).val < 23 := (i 0).isLt
  have h' : (i 1).val < 10 := (i 1).isLt
  unfold cc0_transform_6
  simp only [coord_nat (i 0).val (by omega), coord_nat (i 1).val (by omega)]

theorem index_7 (i : grid0.Coords) : cc0_transform_7 i = ![(i 0).val, (i 1).val] := by
  have h : (i 0).val < 23 := (i 0).isLt
  have h' : (i 1).val < 10 := (i 1).isLt
  unfold cc0_transform_7
  simp only [coord_nat (i 0).val (by omega), coord_nat (i 1).val (by omega)]

theorem tile_lt (i : grid0.Coords) (r : Fin 768) : (i 0).val * 768 + r.val < 17664 := by
  have h : (i 0).val < 23 := (i 0).isLt
  omega

theorem col_lt (i : grid0.Coords) (d : Fin 512) : (i 1).val * 512 + d.val < 5120 := by
  have h : (i 1).val < 10 := (i 1).isLt
  omega

/-- The windows' blocks at an index, by the arrays they are cut from. -/
theorem blk_0 (r : Fin 768) (d : Fin 1024) :
    (iblk m hO c 0 t : Vec Ideal S768x1024 .bf16) (ix2 r d) = V m c main_v65 (ix2 ⟨(grid0.coords t 0).val * 768 + r.val, tile_lt _ r⟩ d) := by
  unfold iblk
  show View.read (Elt Ideal) (((cfgM m hO).win 0).blk t).view (V m c main_v65) (ix2 r d) = _
  generalize V m c main_v65 = T
  refine congrArg T (funext fun a => Fin.ext ?_)
  have h := index_0 (grid0.coords t)
  match a with
  | ⟨0, _⟩ =>
    refine (Pipeline.Window.rect_emb_val _ _ _ _).trans ?_
    show cc0_transform_0 (grid0.coords t) 0 * 768 + r.val = (grid0.coords t 0).val * 768 + r.val
    rw [h]; rfl
  | ⟨1, _⟩ =>
    refine (Pipeline.Window.rect_emb_val _ _ _ _).trans ?_
    show cc0_transform_0 (grid0.coords t) 1 * 1024 + d.val = d.val
    rw [h]; exact Nat.zero_add _

theorem blk_1 (r : Fin 1024) (d : Fin 512) :
    (iblk m hO c 1 t : Vec Ideal S1024x512 .bf16) (ix2 r d) = V m c main_v39 (ix2 r ⟨(grid0.coords t 1).val * 512 + d.val, col_lt _ d⟩) := by
  unfold iblk
  show View.read (Elt Ideal) (((cfgM m hO).win 1).blk t).view (V m c main_v39) (ix2 r d) = _
  generalize V m c main_v39 = T
  refine congrArg T (funext fun a => Fin.ext ?_)
  have h := index_1 (grid0.coords t)
  match a with
  | ⟨0, _⟩ =>
    refine (Pipeline.Window.rect_emb_val _ _ _ _).trans ?_
    show cc0_transform_1 (grid0.coords t) 0 * 1024 + r.val = r.val
    rw [h]; exact Nat.zero_add _
  | ⟨1, _⟩ =>
    refine (Pipeline.Window.rect_emb_val _ _ _ _).trans ?_
    show cc0_transform_1 (grid0.coords t) 1 * 512 + d.val = (grid0.coords t 1).val * 512 + d.val
    rw [h]; rfl

theorem blk_2 (d : Fin 512) :
    (iblk m hO c 2 t : Vec Ideal S1x512 .f32) (ix2 0 d) = V m c main_v37 (ix2 0 ⟨(grid0.coords t 1).val * 512 + d.val, col_lt _ d⟩) := by
  unfold iblk
  show View.read (Elt Ideal) (((cfgM m hO).win 2).blk t).view (V m c main_v37) (ix2 0 d) = _
  generalize V m c main_v37 = T
  refine congrArg T (funext fun a => Fin.ext ?_)
  have h := index_2 (grid0.coords t)
  match a with
  | ⟨0, _⟩ =>
    refine (Pipeline.Window.rect_emb_val _ _ _ _).trans ?_
    show cc0_transform_2 (grid0.coords t) 0 * 1 + 0 = 0
    rw [h]; rfl
  | ⟨1, _⟩ =>
    refine (Pipeline.Window.rect_emb_val _ _ _ _).trans ?_
    show cc0_transform_2 (grid0.coords t) 1 * 512 + d.val = (grid0.coords t 1).val * 512 + d.val
    rw [h]; rfl

theorem blk_3 (r : Fin 768) (d : Fin 128) :
    (iblk m hO c 3 t : Vec Ideal S768x128 .f32) (ix2 r d) = V m c main_v62 (ix2 ⟨(grid0.coords t 0).val * 768 + r.val, tile_lt _ r⟩ d) := by
  unfold iblk
  show View.read (Elt Ideal) (((cfgM m hO).win 3).blk t).view (V m c main_v62) (ix2 r d) = _
  generalize V m c main_v62 = T
  refine congrArg T (funext fun a => Fin.ext ?_)
  have h := index_3 (grid0.coords t)
  match a with
  | ⟨0, _⟩ =>
    refine (Pipeline.Window.rect_emb_val _ _ _ _).trans ?_
    show cc0_transform_3 (grid0.coords t) 0 * 768 + r.val = (grid0.coords t 0).val * 768 + r.val
    rw [h]; rfl
  | ⟨1, _⟩ =>
    refine (Pipeline.Window.rect_emb_val _ _ _ _).trans ?_
    show cc0_transform_3 (grid0.coords t) 1 * 128 + d.val = d.val
    rw [h]; exact Nat.zero_add _

theorem blk_4 (r : Fin 768) (d : Fin 128) :
    (iblk m hO c 4 t : Vec Ideal S768x128 .f32) (ix2 r d) = V m c main_v63 (ix2 ⟨(grid0.coords t 0).val * 768 + r.val, tile_lt _ r⟩ d) := by
  unfold iblk
  show View.read (Elt Ideal) (((cfgM m hO).win 4).blk t).view (V m c main_v63) (ix2 r d) = _
  generalize V m c main_v63 = T
  refine congrArg T (funext fun a => Fin.ext ?_)
  have h := index_4 (grid0.coords t)
  match a with
  | ⟨0, _⟩ =>
    refine (Pipeline.Window.rect_emb_val _ _ _ _).trans ?_
    show cc0_transform_4 (grid0.coords t) 0 * 768 + r.val = (grid0.coords t 0).val * 768 + r.val
    rw [h]; rfl
  | ⟨1, _⟩ =>
    refine (Pipeline.Window.rect_emb_val _ _ _ _).trans ?_
    show cc0_transform_4 (grid0.coords t) 1 * 128 + d.val = d.val
    rw [h]; exact Nat.zero_add _

theorem blk_5 (r : Fin 768) (d : Fin 128) :
    (iblk m hO c 5 t : Vec Ideal S768x128 .f32) (ix2 r d) = V m c main_v64 (ix2 ⟨(grid0.coords t 0).val * 768 + r.val, tile_lt _ r⟩ d) := by
  unfold iblk
  show View.read (Elt Ideal) (((cfgM m hO).win 5).blk t).view (V m c main_v64) (ix2 r d) = _
  generalize V m c main_v64 = T
  refine congrArg T (funext fun a => Fin.ext ?_)
  have h := index_5 (grid0.coords t)
  match a with
  | ⟨0, _⟩ =>
    refine (Pipeline.Window.rect_emb_val _ _ _ _).trans ?_
    show cc0_transform_5 (grid0.coords t) 0 * 768 + r.val = (grid0.coords t 0).val * 768 + r.val
    rw [h]; rfl
  | ⟨1, _⟩ =>
    refine (Pipeline.Window.rect_emb_val _ _ _ _).trans ?_
    show cc0_transform_5 (grid0.coords t) 1 * 128 + d.val = d.val
    rw [h]; exact Nat.zero_add _

/-- A row of the projection, by the arguments. -/
def rowOf (R : Fin 17664) : Fin 8012 → EReal := line (fun k => argX m c (ix2 R k)) (fun k j => argW m c (ix2 k j)) (fun j => argB m c (ix1 j))

/-- The product of a tile. -/
theorem tile_apply (r : Fin 768) (d : Fin 512) :
    k0_pay1 (iblk m hO c 0 t) (iblk m hO c 1 t) (iblk m hO c 2 t) (ix2 r d)
      = col (rowOf m c ⟨(grid0.coords t 0).val * 768 + r.val, tile_lt _ r⟩) ((grid0.coords t 1).val * 512 + d.val) := by
  refine (pay1_apply _ _ _ r d).trans ?_
  rw [col_at _ _ (col_lt (grid0.coords t) d)]
  unfold rowOf
  rw [← pick_line]
  refine congrArg₂ (· + ·) (Finset.sum_congr rfl fun k _ => ?_) ?_
  · exact congrArg₂ (· * ·) ((blk_0 m c hO t r k).trans (entry_x m c _ k)) ((blk_1 m c hO t k d).trans (entry_w m c k _))
  · exact (blk_2 m c hO t d).trans (entry_b m c 0 _)

theorem out32_apply (r : Fin 768) (d : Fin 512) :
    out32 m hO c t (ix2 r d) = outAt (argPos m c (ix1 ⟨(grid0.coords t 0).val * 768 + r.val, tile_lt _ r⟩)) (col (rowOf m c ⟨(grid0.coords t 0).val * 768 + r.val, tile_lt _ r⟩)) ((grid0.coords t 1).val * 512 + d.val) := by
  have hd := d.isLt
  have e : ((grid0.coords t 1).val * 512 + d.val) / 512 = (grid0.coords t 1).val := by omega
  unfold out32 outAt
  rw [e]
  by_cases h : rotated (grid0.coords t)
  · rw [if_pos h, if_pos (show (grid0.coords t 1).val ∈ [0, 1, 6, 7, 9] from h)]
    refine (pay3_apply _ _ _ _ r d).trans ?_
    rw [tile_apply, tile_apply, tile_apply]
    rw [(blk_3 m c hO t r ⟨d.val % 128, by omega⟩).trans (entry_cos m c _ _), (blk_4 m c hO t r ⟨d.val % 128, by omega⟩).trans (entry_sa m c _ _), (blk_5 m c hO t r ⟨d.val % 128, by omega⟩).trans (entry_sb m c _ _)]
    refine turn_sum _ _ _ (d.val % 128) (by omega) _ _ (fun h' => congrArg _ ?_) (fun h' h'' => congrArg _ ?_)
    · show (grid0.coords t 1).val * 512 + (128 * (d.val / 128) + (d.val % 128 + 8) % 128) = (grid0.coords t 1).val * 512 + d.val + 8
      omega
    · show (grid0.coords t 1).val * 512 + (128 * (d.val / 128) + (d.val % 128 + 120) % 128) = (grid0.coords t 1).val * 512 + d.val - 8
      omega
  · rw [if_neg h, if_neg (show (grid0.coords t 1).val ∉ [0, 1, 6, 7, 9] from h)]
    exact tile_apply m c hO t r d

theorem out16_eq : (out16 m hO c t : S768x512.Idx → EReal) = out32 m hO c t := by
  unfold out16 out32
  by_cases h : rotated (grid0.coords t)
  · rw [if_pos h, if_pos h]; rfl
  · rw [if_neg h, if_neg h]; rfl

/-- The array that both results are shown to hold. -/
def result : S17664x5120.Idx → EReal := fun i =>
  whole (fun r k => argX m c (ix2 r k)) (fun r => argPos m c (ix1 r)) (fun k j => argW m c (ix2 k j)) (fun j => argB m c (ix1 j)) (i 0) (i 1)

/-- The grid point of a tile. -/
def tileAt (a : Fin 23) (b : Fin 10) : grid0.Coords := fun k => match k with
  | ⟨0, _⟩ => a
  | ⟨1, _⟩ => b

theorem covers_6 : ((cfgM m hO).win 6).Covers :=
  ((cfgM m hO).win 6).covers_of_indexMap_surj rfl
    (fun a => match a with
      | ⟨0, _⟩ => (by decide : 0 < 768)
      | ⟨1, _⟩ => (by decide : 0 < 512)) fun β => by
    have p0 : 0 < 2 := by decide
    have p1 : 1 < 2 := by decide
    have h0 := (β ⟨0, p0⟩).isLt
    have h1 := (β ⟨1, p1⟩).isLt
    change (β ⟨0, p0⟩).val < (17664 + 768 - 1) / 768 at h0
    change (β ⟨1, p1⟩).val < (5120 + 512 - 1) / 512 at h1
    have h0' : (β ⟨0, p0⟩).val < 23 := by omega
    have h1' : (β ⟨1, p1⟩).val < 10 := by omega
    refine ⟨tileAt ⟨(β ⟨0, p0⟩).val, h0'⟩ ⟨(β ⟨1, p1⟩).val, h1'⟩, fun a => ?_⟩
    show cc0_transform_6 (tileAt ⟨(β ⟨0, p0⟩).val, _⟩ ⟨(β ⟨1, p1⟩).val, _⟩) a = (β a).val
    rw [index_6]
    match a with
    | ⟨0, _⟩ => rfl
    | ⟨1, _⟩ => rfl

theorem out_6 : (dats m hO 0 c).arrAt 6 (cfgM m hO).N = result m c := by
  refine (dats m hO 0 c).arrAt_eq_of_covers 6 _ (covers_6 m hO) fun t hf y => ?_
  rw [after_6]
  obtain ⟨r, d, rfl⟩ : ∃ (r : Fin 768) (d : Fin 512), y = (ix2 r d : S768x512.Idx) :=
    ⟨_, _, eq_ix2 (n0 := 768) (n1 := 512) y⟩
  have h := index_6 (grid0.coords t)
  have hb : out32 m hO c t (ix2 r d) = result m c (ix2 ⟨(grid0.coords t 0).val * 768 + r.val, tile_lt _ r⟩ ⟨(grid0.coords t 1).val * 512 + d.val, col_lt _ d⟩) :=
    out32_apply m c hO t r d
  generalize out32 m hO c t = O at hb ⊢
  generalize result m c = T at hb ⊢
  refine hb.trans ?_
  refine congrArg T (funext fun a => Fin.ext ?_)
  match a with
  | ⟨0, _⟩ =>
    refine Eq.symm ((Pipeline.Window.rect_emb_val _ _ _ _).trans ?_)
    show cc0_transform_6 (grid0.coords t) 0 * 768 + r.val = (grid0.coords t 0).val * 768 + r.val
    rw [h]; rfl
  | ⟨1, _⟩ =>
    refine Eq.symm ((Pipeline.Window.rect_emb_val _ _ _ _).trans ?_)
    show cc0_transform_6 (grid0.coords t) 1 * 512 + d.val = (grid0.coords t 1).val * 512 + d.val
    rw [h]; rfl

theorem covers_7 : ((cfgM m hO).win 7).Covers :=
  ((cfgM m hO).win 7).covers_of_indexMap_surj rfl
    (fun a => match a with
      | ⟨0, _⟩ => (by decide : 0 < 768)
      | ⟨1, _⟩ => (by decide : 0 < 512)) fun β => by
    have p0 : 0 < 2 := by decide
    have p1 : 1 < 2 := by decide
    have h0 := (β ⟨0, p0⟩).isLt
    have h1 := (β ⟨1, p1⟩).isLt
    change (β ⟨0, p0⟩).val < (17664 + 768 - 1) / 768 at h0
    change (β ⟨1, p1⟩).val < (5120 + 512 - 1) / 512 at h1
    have h0' : (β ⟨0, p0⟩).val < 23 := by omega
    have h1' : (β ⟨1, p1⟩).val < 10 := by omega
    refine ⟨tileAt ⟨(β ⟨0, p0⟩).val, h0'⟩ ⟨(β ⟨1, p1⟩).val, h1'⟩, fun a => ?_⟩
    show cc0_transform_7 (tileAt ⟨(β ⟨0, p0⟩).val, _⟩ ⟨(β ⟨1, p1⟩).val, _⟩) a = (β a).val
    rw [index_7]
    match a with
    | ⟨0, _⟩ => rfl
    | ⟨1, _⟩ => rfl

theorem out_7 : (dats m hO 0 c).arrAt 7 (cfgM m hO).N = result m c := by
  refine (dats m hO 0 c).arrAt_eq_of_covers 7 _ (covers_7 m hO) fun t hf y => ?_
  rw [after_7]
  obtain ⟨r, d, rfl⟩ : ∃ (r : Fin 768) (d : Fin 512), y = (ix2 r d : S768x512.Idx) :=
    ⟨_, _, eq_ix2 (n0 := 768) (n1 := 512) y⟩
  have h := index_7 (grid0.coords t)
  have hb : out16 m hO c t (ix2 r d) = result m c (ix2 ⟨(grid0.coords t 0).val * 768 + r.val, tile_lt _ r⟩ ⟨(grid0.coords t 1).val * 512 + d.val, col_lt _ d⟩) :=
    (congrFun (out16_eq m c hO t) (ix2 r d)).trans (out32_apply m c hO t r d)
  generalize out16 m hO c t = O at hb ⊢
  generalize result m c = T at hb ⊢
  refine hb.trans ?_
  refine congrArg T (funext fun a => Fin.ext ?_)
  match a with
  | ⟨0, _⟩ =>
    refine Eq.symm ((Pipeline.Window.rect_emb_val _ _ _ _).trans ?_)
    show cc0_transform_7 (grid0.coords t) 0 * 768 + r.val = (grid0.coords t 0).val * 768 + r.val
    rw [h]; rfl
  | ⟨1, _⟩ =>
    refine Eq.symm ((Pipeline.Window.rect_emb_val _ _ _ _).trans ?_)
    show cc0_transform_7 (grid0.coords t) 1 * 512 + d.val = (grid0.coords t 1).val * 512 + d.val
    rw [h]; rfl

/-- What the kernel leaves in its results. -/
theorem run_kernel (ρ : Dev nD → PrngReg) : θ_run defs (onTc (τ := τ) (main (F := Ideal))) ⟨m, fun _ => 0, ρ⟩ fun r => ∀ c : Dev nD,
      r.2.mem ((c.tc : Thread nD τ).loc main_v66_0) = result m c ∧ r.2.mem ((c.tc : Thread nD τ).loc main_v66_1) = result m c :=
  (θ_run _ _ _).mono (fun r h c => ⟨((h c).1 6).trans (out_6 m c (ok m)), ((h c).1 7).trans (out_7 m c (ok m))⟩) (run_main m ρ (ok m))

end Cert.Columns

end
-- ==== Proof.ProjSides.lean ====
module

public import proofs.«01_k».proof.Proof.ProjTurn

@[expose] public section

set_option maxRecDepth 16384

noncomputable section

namespace Cert.Columns

open Idealize.ShloMosaic Idealize.ShloMosaic.TcCoe

/-! # The reference's parts side by side

The reference sets sixteen parts side by side: whole slices of the projection, rotated slices of it, and zeros. -/

/-- A rotated slice of the projection, in its new place. -/
theorem turn_part (p : BitVec 32) (g : Fin 8012 → EReal) (q B o W : ℕ) (hB : B % 64 = 0) (hW : W % 64 = 0) (hq : B ≤ q) (hq' : q < B + W)
    (hs : ∀ j, B ≤ j → j < B + W → col g j = wide g (o + (j - B))) : turn p (fun j => wide g (o + j)) (q - B) = turn p (col g) q := by
  refine turn_congr _ _ _ _ _ (by omega) (hs q hq hq').symm (fun h => ?_) (fun h h' => ?_)
  · rw [hs (q + 8) (by omega) (by omega)]
    exact congrArg (wide g) (by omega)
  · rw [hs (q - 8) (by omega) (by omega)]
    exact congrArg (wide g) (by omega)

/-- The last columns' lanes that would turn are zero. -/
theorem col_low (g : Fin 8012 → EReal) (q : ℕ) (h : 4992 ≤ q) (hl : q % 64 < 16) : col g q = 0 := by
  by_cases h' : q < 5008
  · exact col_gap g q h h'
  · exact col_end g q (by omega)

theorem turn_last (p : BitVec 32) (g : Fin 8012 → EReal) (q : ℕ) (h : 4992 ≤ q) : turn p (col g) q = col g q :=
  turn_zero p _ q (fun hl => col_low g q h hl) (fun hl => col_low g (q + 8) (by omega) (by omega)) (fun hl hl' => col_low g (q - 8) (by omega) (by omega))

set_option maxHeartbeats 6400000 in
/-- The sixteen parts side by side. -/
theorem sixteen {n : ℕ} (p : BitVec 32) (g : Fin 8012 → EReal) (r : Fin n)
    (p0 : (⟨2, ![n, 512]⟩ : Shape).Idx → EReal)
    (p1 : (⟨2, ![n, 512]⟩ : Shape).Idx → EReal)
    (p2 : (⟨2, ![n, 512]⟩ : Shape).Idx → EReal)
    (p3 : (⟨2, ![n, 512]⟩ : Shape).Idx → EReal)
    (p4 : (⟨2, ![n, 512]⟩ : Shape).Idx → EReal)
    (p5 : (⟨2, ![n, 512]⟩ : Shape).Idx → EReal)
    (p6 : (⟨2, ![n, 512]⟩ : Shape).Idx → EReal)
    (p7 : (⟨2, ![n, 512]⟩ : Shape).Idx → EReal)
    (p8 : (⟨2, ![n, 512]⟩ : Shape).Idx → EReal)
    (p9 : (⟨2, ![n, 256]⟩ : Shape).Idx → EReal)
    (p10 : (⟨2, ![n, 64]⟩ : Shape).Idx → EReal)
    (p11 : (⟨2, ![n, 64]⟩ : Shape).Idx → EReal)
    (p12 : (⟨2, ![n, 16]⟩ : Shape).Idx → EReal)
    (p13 : (⟨2, ![n, 8]⟩ : Shape).Idx → EReal)
    (p14 : (⟨2, ![n, 4]⟩ : Shape).Idx → EReal)
    (p15 : (⟨2, ![n, 100]⟩ : Shape).Idx → EReal)
    (h0 : ∀ i : Fin 512, p0 (ix2 r i) = turn p (fun j => wide g (0 + j)) i.val)
    (h1 : ∀ i : Fin 512, p1 (ix2 r i) = turn p (fun j => wide g (512 + j)) i.val)
    (h2 : ∀ i : Fin 512, p2 (ix2 r i) = wide g (1024 + i.val))
    (h3 : ∀ i : Fin 512, p3 (ix2 r i) = wide g (1536 + i.val))
    (h4 : ∀ i : Fin 512, p4 (ix2 r i) = wide g (2048 + i.val))
    (h5 : ∀ i : Fin 512, p5 (ix2 r i) = wide g (2560 + i.val))
    (h6 : ∀ i : Fin 512, p6 (ix2 r i) = turn p (fun j => wide g (3080 + j)) i.val)
    (h7 : ∀ i : Fin 512, p7 (ix2 r i) = turn p (fun j => wide g (3592 + j)) i.val)
    (h8 : ∀ i : Fin 512, p8 (ix2 r i) = wide g (4104 + i.val))
    (h9 : ∀ i : Fin 256, p9 (ix2 r i) = turn p (fun j => wide g (4616 + j)) i.val)
    (h10 : ∀ i : Fin 64, p10 (ix2 r i) = turn p (fun j => wide g (4872 + j)) i.val)
    (h11 : ∀ i : Fin 64, p11 (ix2 r i) = turn p (fun j => wide g (4872 + j)) i.val)
    (h12 : ∀ i : Fin 16, p12 (ix2 r i) = 0)
    (h13 : ∀ i : Fin 8, p13 (ix2 r i) = wide g (3072 + i.val))
    (h14 : ∀ i : Fin 4, p14 (ix2 r i) = wide g (4936 + i.val))
    (h15 : ∀ i : Fin 100, p15 (ix2 r i) = 0)
    (h : Shape.Concatenates (([⟨⟨2, ![n, 512]⟩, p0⟩, ⟨⟨2, ![n, 512]⟩, p1⟩, ⟨⟨2, ![n, 512]⟩, p2⟩, ⟨⟨2, ![n, 512]⟩, p3⟩, ⟨⟨2, ![n, 512]⟩, p4⟩, ⟨⟨2, ![n, 512]⟩, p5⟩, ⟨⟨2, ![n, 512]⟩, p6⟩, ⟨⟨2, ![n, 512]⟩, p7⟩, ⟨⟨2, ![n, 512]⟩, p8⟩, ⟨⟨2, ![n, 256]⟩, p9⟩, ⟨⟨2, ![n, 64]⟩, p10⟩, ⟨⟨2, ![n, 64]⟩, p11⟩, ⟨⟨2, ![n, 16]⟩, p12⟩, ⟨⟨2, ![n, 8]⟩, p13⟩, ⟨⟨2, ![n, 4]⟩, p14⟩, ⟨⟨2, ![n, 100]⟩, p15⟩] : List ((s : Shape) × (s.Idx → EReal))).map (·.1)) ⟨2, ![n, 5120]⟩ 1) (q : Fin 5120) :
    concatenate ⟨2, ![n, 5120]⟩ 1 [⟨⟨2, ![n, 512]⟩, p0⟩, ⟨⟨2, ![n, 512]⟩, p1⟩, ⟨⟨2, ![n, 512]⟩, p2⟩, ⟨⟨2, ![n, 512]⟩, p3⟩, ⟨⟨2, ![n, 512]⟩, p4⟩, ⟨⟨2, ![n, 512]⟩, p5⟩, ⟨⟨2, ![n, 512]⟩, p6⟩, ⟨⟨2, ![n, 512]⟩, p7⟩, ⟨⟨2, ![n, 512]⟩, p8⟩, ⟨⟨2, ![n, 256]⟩, p9⟩, ⟨⟨2, ![n, 64]⟩, p10⟩, ⟨⟨2, ![n, 64]⟩, p11⟩, ⟨⟨2, ![n, 16]⟩, p12⟩, ⟨⟨2, ![n, 8]⟩, p13⟩, ⟨⟨2, ![n, 4]⟩, p14⟩, ⟨⟨2, ![n, 100]⟩, p15⟩] h (ix2 r q) = outAt p (col g) q.val := by
  by_cases c0 : q.val < 512
  · refine (beside _ h r q 0 (by simp) p0 rfl 0 rfl ⟨q.val - 0, by omega⟩ (by show 0 + (q.val - 0) = q.val; omega)).trans ?_
    have e : q.val / 512 = 0 := by omega
    rw [h0, outAt_in _ _ _ (by rw [e]; decide)]
    exact turn_part p g q.val 0 0 512 (by decide) (by decide) (by omega) (by omega) fun j hj hj' => (col_first g j (by omega)).trans (congrArg (wide g) (by omega))
  by_cases c1 : q.val < 1024
  · refine (beside _ h r q 1 (by simp) p1 rfl 512 rfl ⟨q.val - 512, by omega⟩ (by show 512 + (q.val - 512) = q.val; omega)).trans ?_
    have e : q.val / 512 = 1 := by omega
    rw [h1, outAt_in _ _ _ (by rw [e]; decide)]
    exact turn_part p g q.val 512 512 512 (by decide) (by decide) (by omega) (by omega) fun j hj hj' => (col_first g j (by omega)).trans (congrArg (wide g) (by omega))
  by_cases c2 : q.val < 1536
  · refine (beside _ h r q 2 (by simp) p2 rfl 1024 rfl ⟨q.val - 1024, by omega⟩ (by show 1024 + (q.val - 1024) = q.val; omega)).trans ?_
    have e : q.val / 512 = 2 := by omega
    rw [h2, outAt_off _ _ _ (by rw [e]; decide)]
    exact Eq.symm ((col_first g q.val (by omega)).trans (congrArg (wide g) (by show _ = 1024 + (q.val - 1024); omega)))
  by_cases c3 : q.val < 2048
  · refine (beside _ h r q 3 (by simp) p3 rfl 1536 rfl ⟨q.val - 1536, by omega⟩ (by show 1536 + (q.val - 1536) = q.val; omega)).trans ?_
    have e : q.val / 512 = 3 := by omega
    rw [h3, outAt_off _ _ _ (by rw [e]; decide)]
    exact Eq.symm ((col_first g q.val (by omega)).trans (congrArg (wide g) (by show _ = 1536 + (q.val - 1536); omega)))
  by_cases c4 : q.val < 2560
  · refine (beside _ h r q 4 (by simp) p4 rfl 2048 rfl ⟨q.val - 2048, by omega⟩ (by show 2048 + (q.val - 2048) = q.val; omega)).trans ?_
    have e : q.val / 512 = 4 := by omega
    rw [h4, outAt_off _ _ _ (by rw [e]; decide)]
    exact Eq.symm ((col_first g q.val (by omega)).trans (congrArg (wide g) (by show _ = 2048 + (q.val - 2048); omega)))
  by_cases c5 : q.val < 3072
  · refine (beside _ h r q 5 (by simp) p5 rfl 2560 rfl ⟨q.val - 2560, by omega⟩ (by show 2560 + (q.val - 2560) = q.val; omega)).trans ?_
    have e : q.val / 512 = 5 := by omega
    rw [h5, outAt_off _ _ _ (by rw [e]; decide)]
    exact Eq.symm ((col_first g q.val (by omega)).trans (congrArg (wide g) (by show _ = 2560 + (q.val - 2560); omega)))
  by_cases c6 : q.val < 3584
  · refine (beside _ h r q 6 (by simp) p6 rfl 3072 rfl ⟨q.val - 3072, by omega⟩ (by show 3072 + (q.val - 3072) = q.val; omega)).trans ?_
    have e : q.val / 512 = 6 := by omega
    rw [h6, outAt_in _ _ _ (by rw [e]; decide)]
    exact turn_part p g q.val 3072 3080 512 (by decide) (by decide) (by omega) (by omega) fun j hj hj' => (col_second g j (by omega) (by omega)).trans (congrArg (wide g) (by omega))
  by_cases c7 : q.val < 4096
  · refine (beside _ h r q 7 (by simp) p7 rfl 3584 rfl ⟨q.val - 3584, by omega⟩ (by show 3584 + (q.val - 3584) = q.val; omega)).trans ?_
    have e : q.val / 512 = 7 := by omega
    rw [h7, outAt_in _ _ _ (by rw [e]; decide)]
    exact turn_part p g q.val 3584 3592 512 (by decide) (by decide) (by omega) (by omega) fun j hj hj' => (col_second g j (by omega) (by omega)).trans (congrArg (wide g) (by omega))
  by_cases c8 : q.val < 4608
  · refine (beside _ h r q 8 (by simp) p8 rfl 4096 rfl ⟨q.val - 4096, by omega⟩ (by show 4096 + (q.val - 4096) = q.val; omega)).trans ?_
    have e : q.val / 512 = 8 := by omega
    rw [h8, outAt_off _ _ _ (by rw [e]; decide)]
    exact Eq.symm ((col_second g q.val (by omega) (by omega)).trans (congrArg (wide g) (by show _ = 4104 + (q.val - 4096); omega)))
  by_cases c9 : q.val < 4864
  · refine (beside _ h r q 9 (by simp) p9 rfl 4608 rfl ⟨q.val - 4608, by omega⟩ (by show 4608 + (q.val - 4608) = q.val; omega)).trans ?_
    have e : q.val / 512 = 9 := by omega
    rw [h9, outAt_in _ _ _ (by rw [e]; decide)]
    exact turn_part p g q.val 4608 4616 256 (by decide) (by decide) (by omega) (by omega) fun j hj hj' => (col_second g j (by omega) (by omega)).trans (congrArg (wide g) (by omega))
  by_cases c10 : q.val < 4928
  · refine (beside _ h r q 10 (by simp) p10 rfl 4864 rfl ⟨q.val - 4864, by omega⟩ (by show 4864 + (q.val - 4864) = q.val; omega)).trans ?_
    have e : q.val / 512 = 9 := by omega
    rw [h10, outAt_in _ _ _ (by rw [e]; decide)]
    exact turn_part p g q.val 4864 4872 64 (by decide) (by decide) (by omega) (by omega) fun j hj hj' => (col_second g j (by omega) (by omega)).trans (congrArg (wide g) (by omega))
  by_cases c11 : q.val < 4992
  · refine (beside _ h r q 11 (by simp) p11 rfl 4928 rfl ⟨q.val - 4928, by omega⟩ (by show 4928 + (q.val - 4928) = q.val; omega)).trans ?_
    have e : q.val / 512 = 9 := by omega
    rw [h11, outAt_in _ _ _ (by rw [e]; decide)]
    exact turn_part p g q.val 4928 4872 64 (by decide) (by decide) (by omega) (by omega) fun j hj hj' => (col_third g j (by omega) (by omega)).trans (congrArg (wide g) (by omega))
  by_cases c12 : q.val < 5008
  · refine (beside _ h r q 12 (by simp) p12 rfl 4992 rfl ⟨q.val - 4992, by omega⟩ (by show 4992 + (q.val - 4992) = q.val; omega)).trans ?_
    have e : q.val / 512 = 9 := by omega
    rw [h12, outAt_in _ _ _ (by rw [e]; decide)]
    rw [turn_last p g q.val (by omega)]
    exact Eq.symm (col_gap g q.val (by omega) (by omega))
  by_cases c13 : q.val < 5016
  · refine (beside _ h r q 13 (by simp) p13 rfl 5008 rfl ⟨q.val - 5008, by omega⟩ (by show 5008 + (q.val - 5008) = q.val; omega)).trans ?_
    have e : q.val / 512 = 9 := by omega
    rw [h13, outAt_in _ _ _ (by rw [e]; decide)]
    rw [turn_last p g q.val (by omega)]
    exact Eq.symm ((col_fourth g q.val (by omega) (by omega)).trans (congrArg (wide g) (by show _ = 3072 + (q.val - 5008); omega)))
  by_cases c14 : q.val < 5020
  · refine (beside _ h r q 14 (by simp) p14 rfl 5016 rfl ⟨q.val - 5016, by omega⟩ (by show 5016 + (q.val - 5016) = q.val; omega)).trans ?_
    have e : q.val / 512 = 9 := by omega
    rw [h14, outAt_in _ _ _ (by rw [e]; decide)]
    rw [turn_last p g q.val (by omega)]
    exact Eq.symm ((col_fifth g q.val (by omega) (by omega)).trans (congrArg (wide g) (by show _ = 4936 + (q.val - 5016); omega)))
  · refine (beside _ h r q 15 (by simp) p15 rfl 5020 rfl ⟨q.val - 5020, by omega⟩ (by show 5020 + (q.val - 5020) = q.val; omega)).trans ?_
    have e : q.val / 512 = 9 := by omega
    rw [h15, outAt_in _ _ _ (by rw [e]; decide)]
    rw [turn_last p g q.val (by omega)]
    exact Eq.symm (col_end g q.val (by omega))

end Cert.Columns

end
-- ==== Proof.ProjPlainValues.lean ====
module

public import proofs.«01_k».proof.Proof.ProjSides
public import proofs.«01_k».proof.Proof.Gen.ProjPlainIdeal.Run

@[expose] public section

set_option maxRecDepth 16384

noncomputable section

namespace Cert.ColumnsPlain

open Idealize.ShloMosaic Idealize.ShloMosaic.TcCoe Idealize.ShloMosaic.Tactic Idealize.SL.Sem Idealize.ShloMosaic.StableHlo
open Cert.ProjPlainIdeal Cert.ProjPlainIdeal.Gen Cert.ProjPlainIdeal.Value Cert.Columns

/-! # What the reference leaves

The reference's two results at an index, by the arguments. -/

/-- 8 rotated heads, read at a column. -/
theorem heads_8 (S : FVec Ideal S17664x8x64 .f32) (C Z : FVec Ideal S17664x1x8 .f32) (p : BitVec 32) (f : ℕ → EReal) (r : Fin 17664)
    (hS : ∀ (a : Fin 8) (l : Fin 64), S (ix3 r a l) = f (64 * a.val + l.val))
    (hC : ∀ l : Fin 8, C (ix3 r 0 l) = Ideal.cos (angle p l)) (hZ : ∀ l : Fin 8, Z (ix3 r 0 l) = Ideal.sin (angle p l)) (i : Fin 512) :
    (shapeCast S17664x512 (concatenate S17664x8x64 2 [
      ⟨S17664x8x8, ((subf (mulf (extractStridedSlice S17664x8x8 ![0, 0, 0] S slices_S17664x8x64_S17664x8x8_0_0_0) (broadcastInDim S17664x8x8 ![0, 1, 2] bcast_S17664x1x8_S17664x8x8_0_1_2 C))
        (mulf (extractStridedSlice S17664x8x8 ![0, 0, 8] S slices_S17664x8x64_S17664x8x8_0_0_8) (broadcastInDim S17664x8x8 ![0, 1, 2] bcast_S17664x1x8_S17664x8x8_0_1_2 Z))) : FVec Ideal S17664x8x8 .f32)⟩,
      ⟨S17664x8x8, ((addf (mulf (extractStridedSlice S17664x8x8 ![0, 0, 8] S slices_S17664x8x64_S17664x8x8_0_0_8) (broadcastInDim S17664x8x8 ![0, 1, 2] bcast_S17664x1x8_S17664x8x8_0_1_2 C))
        (mulf (extractStridedSlice S17664x8x8 ![0, 0, 0] S slices_S17664x8x64_S17664x8x8_0_0_0) (broadcastInDim S17664x8x8 ![0, 1, 2] bcast_S17664x1x8_S17664x8x8_0_1_2 Z))) : FVec Ideal S17664x8x8 .f32)⟩,
      ⟨S17664x8x48, (extractStridedSlice S17664x8x48 ![0, 0, 16] S slices_S17664x8x64_S17664x8x48_0_0_16 : FVec Ideal S17664x8x48 .f32)⟩]
      concatenates_S17664x8x8_S17664x8x8_S17664x8x48_S17664x8x64_d2) shapeCasts_S17664x8x64_S17664x512 : FVec Ideal S17664x512 .f32) (ix2 r i) = turn p f i.val := by
  have e0 : ∀ (a : Fin 8) (l : Fin 8), extractStridedSlice S17664x8x8 ![0, 0, 0] S slices_S17664x8x64_S17664x8x8_0_0_0 (ix3 r a l) = f (64 * a.val + l.val) := fun a l =>
    Eq.trans (b := S (ix3 r a ⟨l.val, by omega⟩)) (by pointwise) (hS a _)
  have e8 : ∀ (a : Fin 8) (l : Fin 8), extractStridedSlice S17664x8x8 ![0, 0, 8] S slices_S17664x8x64_S17664x8x8_0_0_8 (ix3 r a l) = f (64 * a.val + l.val + 8) := fun a l =>
    Eq.trans (b := S (ix3 r a ⟨8 + l.val, by omega⟩)) (by pointwise) ((hS a _).trans (congrArg f (by show 64 * a.val + (8 + l.val) = _; omega)))
  have e16 : ∀ (a : Fin 8) (l : Fin 48), extractStridedSlice S17664x8x48 ![0, 0, 16] S slices_S17664x8x64_S17664x8x48_0_0_16 (ix3 r a l) = f (64 * a.val + (16 + l.val)) := fun a l =>
    Eq.trans (b := S (ix3 r a ⟨16 + l.val, by omega⟩)) (by pointwise) (hS a _)
  have ec : ∀ (a : Fin 8) (l : Fin 8), broadcastInDim S17664x8x8 ![0, 1, 2] bcast_S17664x1x8_S17664x8x8_0_1_2 C (ix3 r a l) = Ideal.cos (angle p l) := fun a l =>
    Eq.trans (b := C (ix3 r 0 l)) (by pointwise) (hC l)
  have es : ∀ (a : Fin 8) (l : Fin 8), broadcastInDim S17664x8x8 ![0, 1, 2] bcast_S17664x1x8_S17664x8x8_0_1_2 Z (ix3 r a l) = Ideal.sin (angle p l) := fun a l =>
    Eq.trans (b := Z (ix3 r 0 l)) (by pointwise) (hZ l)
  refine heads_read (n := 17664) (H := 8) (N := 512) rfl _ _ _ _ _ p f r (fun a l => ?_) (fun a l => ?_) (fun a l => e16 a l) i
  · exact congrArg₂ (fun u v : EReal => u - v) (congrArg₂ (· * ·) (e0 a l) (ec a l)) (congrArg₂ (· * ·) (e8 a l) (es a l))
  · exact congrArg₂ (fun u v : EReal => u + v) (congrArg₂ (· * ·) (e8 a l) (ec a l)) (congrArg₂ (· * ·) (e0 a l) (es a l))

/-- 4 rotated heads, read at a column. -/
theorem heads_4 (S : FVec Ideal S17664x4x64 .f32) (C Z : FVec Ideal S17664x1x8 .f32) (p : BitVec 32) (f : ℕ → EReal) (r : Fin 17664)
    (hS : ∀ (a : Fin 4) (l : Fin 64), S (ix3 r a l) = f (64 * a.val + l.val))
    (hC : ∀ l : Fin 8, C (ix3 r 0 l) = Ideal.cos (angle p l)) (hZ : ∀ l : Fin 8, Z (ix3 r 0 l) = Ideal.sin (angle p l)) (i : Fin 256) :
    (shapeCast S17664x256 (concatenate S17664x4x64 2 [
      ⟨S17664x4x8, ((subf (mulf (extractStridedSlice S17664x4x8 ![0, 0, 0] S slices_S17664x4x64_S17664x4x8_0_0_0) (broadcastInDim S17664x4x8 ![0, 1, 2] bcast_S17664x1x8_S17664x4x8_0_1_2 C))
        (mulf (extractStridedSlice S17664x4x8 ![0, 0, 8] S slices_S17664x4x64_S17664x4x8_0_0_8) (broadcastInDim S17664x4x8 ![0, 1, 2] bcast_S17664x1x8_S17664x4x8_0_1_2 Z))) : FVec Ideal S17664x4x8 .f32)⟩,
      ⟨S17664x4x8, ((addf (mulf (extractStridedSlice S17664x4x8 ![0, 0, 8] S slices_S17664x4x64_S17664x4x8_0_0_8) (broadcastInDim S17664x4x8 ![0, 1, 2] bcast_S17664x1x8_S17664x4x8_0_1_2 C))
        (mulf (extractStridedSlice S17664x4x8 ![0, 0, 0] S slices_S17664x4x64_S17664x4x8_0_0_0) (broadcastInDim S17664x4x8 ![0, 1, 2] bcast_S17664x1x8_S17664x4x8_0_1_2 Z))) : FVec Ideal S17664x4x8 .f32)⟩,
      ⟨S17664x4x48, (extractStridedSlice S17664x4x48 ![0, 0, 16] S slices_S17664x4x64_S17664x4x48_0_0_16 : FVec Ideal S17664x4x48 .f32)⟩]
      concatenates_S17664x4x8_S17664x4x8_S17664x4x48_S17664x4x64_d2) shapeCasts_S17664x4x64_S17664x256 : FVec Ideal S17664x256 .f32) (ix2 r i) = turn p f i.val := by
  have e0 : ∀ (a : Fin 4) (l : Fin 8), extractStridedSlice S17664x4x8 ![0, 0, 0] S slices_S17664x4x64_S17664x4x8_0_0_0 (ix3 r a l) = f (64 * a.val + l.val) := fun a l =>
    Eq.trans (b := S (ix3 r a ⟨l.val, by omega⟩)) (by pointwise) (hS a _)
  have e8 : ∀ (a : Fin 4) (l : Fin 8), extractStridedSlice S17664x4x8 ![0, 0, 8] S slices_S17664x4x64_S17664x4x8_0_0_8 (ix3 r a l) = f (64 * a.val + l.val + 8) := fun a l =>
    Eq.trans (b := S (ix3 r a ⟨8 + l.val, by omega⟩)) (by pointwise) ((hS a _).trans (congrArg f (by show 64 * a.val + (8 + l.val) = _; omega)))
  have e16 : ∀ (a : Fin 4) (l : Fin 48), extractStridedSlice S17664x4x48 ![0, 0, 16] S slices_S17664x4x64_S17664x4x48_0_0_16 (ix3 r a l) = f (64 * a.val + (16 + l.val)) := fun a l =>
    Eq.trans (b := S (ix3 r a ⟨16 + l.val, by omega⟩)) (by pointwise) (hS a _)
  have ec : ∀ (a : Fin 4) (l : Fin 8), broadcastInDim S17664x4x8 ![0, 1, 2] bcast_S17664x1x8_S17664x4x8_0_1_2 C (ix3 r a l) = Ideal.cos (angle p l) := fun a l =>
    Eq.trans (b := C (ix3 r 0 l)) (by pointwise) (hC l)
  have es : ∀ (a : Fin 4) (l : Fin 8), broadcastInDim S17664x4x8 ![0, 1, 2] bcast_S17664x1x8_S17664x4x8_0_1_2 Z (ix3 r a l) = Ideal.sin (angle p l) := fun a l =>
    Eq.trans (b := Z (ix3 r 0 l)) (by pointwise) (hZ l)
  refine heads_read (n := 17664) (H := 4) (N := 256) rfl _ _ _ _ _ p f r (fun a l => ?_) (fun a l => ?_) (fun a l => e16 a l) i
  · exact congrArg₂ (fun u v : EReal => u - v) (congrArg₂ (· * ·) (e0 a l) (ec a l)) (congrArg₂ (· * ·) (e8 a l) (es a l))
  · exact congrArg₂ (fun u v : EReal => u + v) (congrArg₂ (· * ·) (e8 a l) (ec a l)) (congrArg₂ (· * ·) (e0 a l) (es a l))

/-- The single rotated head, read at a column. -/
theorem heads_1 (S : FVec Ideal S17664x1x64 .f32) (C Z : FVec Ideal S17664x1x8 .f32) (p : BitVec 32) (f : ℕ → EReal) (r : Fin 17664)
    (hS : ∀ (a : Fin 1) (l : Fin 64), S (ix3 r a l) = f (64 * a.val + l.val))
    (hC : ∀ l : Fin 8, C (ix3 r 0 l) = Ideal.cos (angle p l)) (hZ : ∀ l : Fin 8, Z (ix3 r 0 l) = Ideal.sin (angle p l)) (i : Fin 64) :
    (shapeCast S17664x64 (concatenate S17664x1x64 2 [
      ⟨S17664x1x8, ((subf (mulf (extractStridedSlice S17664x1x8 ![0, 0, 0] S slices_S17664x1x64_S17664x1x8_0_0_0) C) (mulf (extractStridedSlice S17664x1x8 ![0, 0, 8] S slices_S17664x1x64_S17664x1x8_0_0_8) Z)) : FVec Ideal S17664x1x8 .f32)⟩,
      ⟨S17664x1x8, ((addf (mulf (extractStridedSlice S17664x1x8 ![0, 0, 8] S slices_S17664x1x64_S17664x1x8_0_0_8) C) (mulf (extractStridedSlice S17664x1x8 ![0, 0, 0] S slices_S17664x1x64_S17664x1x8_0_0_0) Z)) : FVec Ideal S17664x1x8 .f32)⟩,
      ⟨S17664x1x48, (extractStridedSlice S17664x1x48 ![0, 0, 16] S slices_S17664x1x64_S17664x1x48_0_0_16 : FVec Ideal S17664x1x48 .f32)⟩]
      concatenates_S17664x1x8_S17664x1x8_S17664x1x48_S17664x1x64_d2) shapeCasts_S17664x1x64_S17664x64 : FVec Ideal S17664x64 .f32) (ix2 r i) = turn p f i.val := by
  have e0 : ∀ l : Fin 8, extractStridedSlice S17664x1x8 ![0, 0, 0] S slices_S17664x1x64_S17664x1x8_0_0_0 (ix3 r 0 l) = f (64 * 0 + l.val) := fun l =>
    Eq.trans (b := S (ix3 r 0 ⟨l.val, by omega⟩)) (by pointwise) (hS 0 _)
  have e8 : ∀ l : Fin 8, extractStridedSlice S17664x1x8 ![0, 0, 8] S slices_S17664x1x64_S17664x1x8_0_0_8 (ix3 r 0 l) = f (64 * 0 + l.val + 8) := fun l =>
    Eq.trans (b := S (ix3 r 0 ⟨8 + l.val, by omega⟩)) (by pointwise) ((hS 0 _).trans (congrArg f (by show 64 * 0 + (8 + l.val) = _; omega)))
  have e16 : ∀ l : Fin 48, extractStridedSlice S17664x1x48 ![0, 0, 16] S slices_S17664x1x64_S17664x1x48_0_0_16 (ix3 r 0 l) = f (64 * 0 + (16 + l.val)) := fun l =>
    Eq.trans (b := S (ix3 r 0 ⟨16 + l.val, by omega⟩)) (by pointwise) (hS 0 _)
  refine heads_read (n := 17664) (H := 1) (N := 64) rfl _ _ _ _ _ p f r (fun a l => ?_) (fun a l => ?_) (fun a l => ?_) i
  · obtain rfl : a = 0 := Subsingleton.elim _ _
    exact congrArg₂ (fun u v : EReal => u - v) (congrArg₂ (· * ·) (e0 l) (hC l)) (congrArg₂ (· * ·) (e8 l) (hZ l))
  · obtain rfl : a = 0 := Subsingleton.elim _ _
    exact congrArg₂ (fun u v : EReal => u + v) (congrArg₂ (· * ·) (e8 l) (hC l)) (congrArg₂ (· * ·) (e0 l) (hZ l))
  · obtain rfl : a = 0 := Subsingleton.elim _ _
    exact e16 l

variable (V0 : Valuation τ sig (Elt Ideal))

/-- The projection's row, by the arguments. -/
def rowOf (R : Fin 17664) : Fin 8012 → EReal :=
  line (fun k => (V0 (Proc.devRef .tc main_arg0) : FVec Ideal S17664x1024 .f32) (ix2 R k)) (fun k j => (V0 (Proc.devRef .tc main_arg2) : FVec Ideal S1024x8012 .f32) (ix2 k j)) (fun j => (V0 (Proc.devRef .tc main_arg3) : FVec Ideal S8012 .f32) (ix1 j))

/-- A row's position. -/
def posOf (R : Fin 17664) : BitVec 32 := (V0 (Proc.devRef .tc main_arg1) : Vec Ideal S17664 .i32) (ix1 R)

theorem read_v3 (r : Fin 17664) (j : Fin 8012) : (res_main_v3 V0 : FVec Ideal S17664x8012 .f32) (ix2 r j) = rowOf V0 r j := by
  unfold res_main_v3 rowOf line
  generalize (V0 (Proc.devRef .tc main_arg0) : FVec Ideal S17664x1024 .f32) = x
  generalize (V0 (Proc.devRef .tc main_arg2) : FVec Ideal S1024x8012 .f32) = w
  generalize (V0 (Proc.devRef .tc main_arg3) : FVec Ideal S8012 .f32) = b
  pointwise

theorem read_wide (r : Fin 17664) (j : ℕ) (h : j < 8012) : (res_main_v3 V0 : FVec Ideal S17664x8012 .f32) (ix2 r ⟨j, h⟩) = wide (rowOf V0 r) j :=
  (read_v3 V0 r _).trans (wide_at _ j h).symm

theorem read_v30 (r : Fin 17664) (j : Fin 8) : (res_main_v30 V0 : FVec Ideal S17664x8 .f32) (ix2 r j) = angle (posOf V0 r) j := by
  unfold res_main_v30 posOf angle
  generalize (V0 (Proc.devRef .tc main_arg1) : Vec Ideal S17664 .i32) = p
  pointwise

theorem read_v32 (r : Fin 17664) (j : Fin 8) : (res_main_v32 V0 : FVec Ideal S17664x1x8 .f32) (ix3 r 0 j) = Ideal.cos (angle (posOf V0 r) j) := by
  rw [← read_v30]
  unfold res_main_v32
  generalize (res_main_v30 V0 : FVec Ideal S17664x8 .f32) = T
  pointwise

theorem read_v34 (r : Fin 17664) (j : Fin 8) : (res_main_v34 V0 : FVec Ideal S17664x1x8 .f32) (ix3 r 0 j) = Ideal.sin (angle (posOf V0 r) j) := by
  rw [← read_v30]
  unfold res_main_v34
  generalize (res_main_v30 V0 : FVec Ideal S17664x8 .f32) = T
  pointwise

theorem read_v58 (r : Fin 17664) (j : Fin 8) : (res_main_v58 V0 : FVec Ideal S17664x8 .f32) (ix2 r j) = angle (posOf V0 r) j := by
  unfold res_main_v58 posOf angle
  generalize (V0 (Proc.devRef .tc main_arg1) : Vec Ideal S17664 .i32) = p
  pointwise

theorem read_v60 (r : Fin 17664) (j : Fin 8) : (res_main_v60 V0 : FVec Ideal S17664x1x8 .f32) (ix3 r 0 j) = Ideal.cos (angle (posOf V0 r) j) := by
  rw [← read_v58]
  unfold res_main_v60
  generalize (res_main_v58 V0 : FVec Ideal S17664x8 .f32) = T
  pointwise

theorem read_v62 (r : Fin 17664) (j : Fin 8) : (res_main_v62 V0 : FVec Ideal S17664x1x8 .f32) (ix3 r 0 j) = Ideal.sin (angle (posOf V0 r) j) := by
  rw [← read_v58]
  unfold res_main_v62
  generalize (res_main_v58 V0 : FVec Ideal S17664x8 .f32) = T
  pointwise

theorem read_v90 (r : Fin 17664) (j : Fin 8) : (res_main_v90 V0 : FVec Ideal S17664x8 .f32) (ix2 r j) = angle (posOf V0 r) j := by
  unfold res_main_v90 posOf angle
  generalize (V0 (Proc.devRef .tc main_arg1) : Vec Ideal S17664 .i32) = p
  pointwise

theorem read_v92 (r : Fin 17664) (j : Fin 8) : (res_main_v92 V0 : FVec Ideal S17664x1x8 .f32) (ix3 r 0 j) = Ideal.cos (angle (posOf V0 r) j) := by
  rw [← read_v90]
  unfold res_main_v92
  generalize (res_main_v90 V0 : FVec Ideal S17664x8 .f32) = T
  pointwise

theorem read_v94 (r : Fin 17664) (j : Fin 8) : (res_main_v94 V0 : FVec Ideal S17664x1x8 .f32) (ix3 r 0 j) = Ideal.sin (angle (posOf V0 r) j) := by
  rw [← read_v90]
  unfold res_main_v94
  generalize (res_main_v90 V0 : FVec Ideal S17664x8 .f32) = T
  pointwise

theorem read_v122 (r : Fin 17664) (j : Fin 8) : (res_main_v122 V0 : FVec Ideal S17664x8 .f32) (ix2 r j) = angle (posOf V0 r) j := by
  unfold res_main_v122 posOf angle
  generalize (V0 (Proc.devRef .tc main_arg1) : Vec Ideal S17664 .i32) = p
  pointwise

theorem read_v124 (r : Fin 17664) (j : Fin 8) : (res_main_v124 V0 : FVec Ideal S17664x1x8 .f32) (ix3 r 0 j) = Ideal.cos (angle (posOf V0 r) j) := by
  rw [← read_v122]
  unfold res_main_v124
  generalize (res_main_v122 V0 : FVec Ideal S17664x8 .f32) = T
  pointwise

theorem read_v126 (r : Fin 17664) (j : Fin 8) : (res_main_v126 V0 : FVec Ideal S17664x1x8 .f32) (ix3 r 0 j) = Ideal.sin (angle (posOf V0 r) j) := by
  rw [← read_v122]
  unfold res_main_v126
  generalize (res_main_v122 V0 : FVec Ideal S17664x8 .f32) = T
  pointwise

theorem read_v154 (r : Fin 17664) (j : Fin 8) : (res_main_v154 V0 : FVec Ideal S17664x8 .f32) (ix2 r j) = angle (posOf V0 r) j := by
  unfold res_main_v154 posOf angle
  generalize (V0 (Proc.devRef .tc main_arg1) : Vec Ideal S17664 .i32) = p
  pointwise

theorem read_v156 (r : Fin 17664) (j : Fin 8) : (res_main_v156 V0 : FVec Ideal S17664x1x8 .f32) (ix3 r 0 j) = Ideal.cos (angle (posOf V0 r) j) := by
  rw [← read_v154]
  unfold res_main_v156
  generalize (res_main_v154 V0 : FVec Ideal S17664x8 .f32) = T
  pointwise

theorem read_v158 (r : Fin 17664) (j : Fin 8) : (res_main_v158 V0 : FVec Ideal S17664x1x8 .f32) (ix3 r 0 j) = Ideal.sin (angle (posOf V0 r) j) := by
  rw [← read_v154]
  unfold res_main_v158
  generalize (res_main_v154 V0 : FVec Ideal S17664x8 .f32) = T
  pointwise

theorem read_v186 (r : Fin 17664) (j : Fin 8) : (res_main_v186 V0 : FVec Ideal S17664x8 .f32) (ix2 r j) = angle (posOf V0 r) j := by
  unfold res_main_v186 posOf angle
  generalize (V0 (Proc.devRef .tc main_arg1) : Vec Ideal S17664 .i32) = p
  pointwise

theorem read_v188 (r : Fin 17664) (j : Fin 8) : (res_main_v188 V0 : FVec Ideal S17664x1x8 .f32) (ix3 r 0 j) = Ideal.cos (angle (posOf V0 r) j) := by
  rw [← read_v186]
  unfold res_main_v188
  generalize (res_main_v186 V0 : FVec Ideal S17664x8 .f32) = T
  pointwise

theorem read_v190 (r : Fin 17664) (j : Fin 8) : (res_main_v190 V0 : FVec Ideal S17664x1x8 .f32) (ix3 r 0 j) = Ideal.sin (angle (posOf V0 r) j) := by
  rw [← read_v186]
  unfold res_main_v190
  generalize (res_main_v186 V0 : FVec Ideal S17664x8 .f32) = T
  pointwise

theorem read_v18 (r : Fin 17664) (a : Fin 1) (l : Fin 64) : (res_main_v18 V0 : FVec Ideal S17664x1x64 .f32) (ix3 r a l) = wide (rowOf V0 r) (4872 + (64 * a.val + l.val)) := by
  have hb : 64 * a.val + l.val < 64 := by omega
  rw [← read_wide V0 r (4872 + (64 * a.val + l.val)) (by omega)]
  unfold res_main_v18
  generalize (res_main_v3 V0 : FVec Ideal S17664x8012 .f32) = T
  refine (split_read (n := 17664) (H := 1) (N := 64) rfl _ _ r a l ⟨64 * a.val + l.val, hb⟩ rfl).trans ?_
  pointwise

theorem read_v46 (r : Fin 17664) (a : Fin 8) (l : Fin 64) : (res_main_v46 V0 : FVec Ideal S17664x8x64 .f32) (ix3 r a l) = wide (rowOf V0 r) (0 + (64 * a.val + l.val)) := by
  have hb : 64 * a.val + l.val < 512 := by omega
  rw [← read_wide V0 r (0 + (64 * a.val + l.val)) (by omega)]
  unfold res_main_v46
  generalize (res_main_v3 V0 : FVec Ideal S17664x8012 .f32) = T
  refine (split_read (n := 17664) (H := 8) (N := 512) rfl _ _ r a l ⟨64 * a.val + l.val, hb⟩ rfl).trans ?_
  pointwise

theorem read_v78 (r : Fin 17664) (a : Fin 8) (l : Fin 64) : (res_main_v78 V0 : FVec Ideal S17664x8x64 .f32) (ix3 r a l) = wide (rowOf V0 r) (512 + (64 * a.val + l.val)) := by
  have hb : 64 * a.val + l.val < 512 := by omega
  rw [← read_wide V0 r (512 + (64 * a.val + l.val)) (by omega)]
  unfold res_main_v78
  generalize (res_main_v3 V0 : FVec Ideal S17664x8012 .f32) = T
  refine (split_read (n := 17664) (H := 8) (N := 512) rfl _ _ r a l ⟨64 * a.val + l.val, hb⟩ rfl).trans ?_
  pointwise

theorem read_v110 (r : Fin 17664) (a : Fin 8) (l : Fin 64) : (res_main_v110 V0 : FVec Ideal S17664x8x64 .f32) (ix3 r a l) = wide (rowOf V0 r) (3080 + (64 * a.val + l.val)) := by
  have hb : 64 * a.val + l.val < 512 := by omega
  rw [← read_wide V0 r (3080 + (64 * a.val + l.val)) (by omega)]
  unfold res_main_v110
  generalize (res_main_v3 V0 : FVec Ideal S17664x8012 .f32) = T
  refine (split_read (n := 17664) (H := 8) (N := 512) rfl _ _ r a l ⟨64 * a.val + l.val, hb⟩ rfl).trans ?_
  pointwise

theorem read_v142 (r : Fin 17664) (a : Fin 8) (l : Fin 64) : (res_main_v142 V0 : FVec Ideal S17664x8x64 .f32) (ix3 r a l) = wide (rowOf V0 r) (3592 + (64 * a.val + l.val)) := by
  have hb : 64 * a.val + l.val < 512 := by omega
  rw [← read_wide V0 r (3592 + (64 * a.val + l.val)) (by omega)]
  unfold res_main_v142
  generalize (res_main_v3 V0 : FVec Ideal S17664x8012 .f32) = T
  refine (split_read (n := 17664) (H := 8) (N := 512) rfl _ _ r a l ⟨64 * a.val + l.val, hb⟩ rfl).trans ?_
  pointwise

theorem read_v174 (r : Fin 17664) (a : Fin 4) (l : Fin 64) : (res_main_v174 V0 : FVec Ideal S17664x4x64 .f32) (ix3 r a l) = wide (rowOf V0 r) (4616 + (64 * a.val + l.val)) := by
  have hb : 64 * a.val + l.val < 256 := by omega
  rw [← read_wide V0 r (4616 + (64 * a.val + l.val)) (by omega)]
  unfold res_main_v174
  generalize (res_main_v3 V0 : FVec Ideal S17664x8012 .f32) = T
  refine (split_read (n := 17664) (H := 4) (N := 256) rfl _ _ r a l ⟨64 * a.val + l.val, hb⟩ rfl).trans ?_
  pointwise

theorem slice_1024 (T : FVec Ideal S17664x8012 .f32) (r : Fin 17664) (i : Fin 512) :
    extractStridedSlice S17664x512 ![0, 1024] T slices_S17664x8012_S17664x512_0_1024 (ix2 r i) = T (ix2 r ⟨1024 + i.val, by omega⟩) := by
  pointwise

theorem slice_1536 (T : FVec Ideal S17664x8012 .f32) (r : Fin 17664) (i : Fin 512) :
    extractStridedSlice S17664x512 ![0, 1536] T slices_S17664x8012_S17664x512_0_1536 (ix2 r i) = T (ix2 r ⟨1536 + i.val, by omega⟩) := by
  pointwise

theorem slice_2048 (T : FVec Ideal S17664x8012 .f32) (r : Fin 17664) (i : Fin 512) :
    extractStridedSlice S17664x512 ![0, 2048] T slices_S17664x8012_S17664x512_0_2048 (ix2 r i) = T (ix2 r ⟨2048 + i.val, by omega⟩) := by
  pointwise

theorem slice_2560 (T : FVec Ideal S17664x8012 .f32) (r : Fin 17664) (i : Fin 512) :
    extractStridedSlice S17664x512 ![0, 2560] T slices_S17664x8012_S17664x512_0_2560 (ix2 r i) = T (ix2 r ⟨2560 + i.val, by omega⟩) := by
  pointwise

theorem slice_4104 (T : FVec Ideal S17664x8012 .f32) (r : Fin 17664) (i : Fin 512) :
    extractStridedSlice S17664x512 ![0, 4104] T slices_S17664x8012_S17664x512_0_4104 (ix2 r i) = T (ix2 r ⟨4104 + i.val, by omega⟩) := by
  pointwise

theorem slice_3072 (T : FVec Ideal S17664x8012 .f32) (r : Fin 17664) (i : Fin 8) :
    extractStridedSlice S17664x8 ![0, 3072] T slices_S17664x8012_S17664x8_0_3072 (ix2 r i) = T (ix2 r ⟨3072 + i.val, by omega⟩) := by
  pointwise

theorem slice_4936 (T : FVec Ideal S17664x8012 .f32) (r : Fin 17664) (i : Fin 4) :
    extractStridedSlice S17664x4 ![0, 4936] T slices_S17664x8012_S17664x4_0_4936 (ix2 r i) = T (ix2 r ⟨4936 + i.val, by omega⟩) := by
  pointwise

theorem zeros_16 (r : Fin 17664) (i : Fin 16) : (broadcastInDim S17664x16 ![] bcast_S_S17664x16 (constant S_ .f32 0x00000000#32) : FVec Ideal S17664x16 .f32) (ix2 r i) = 0 := by
  pointwise

theorem zeros_100 (r : Fin 17664) (i : Fin 100) : (broadcastInDim S17664x100 ![] bcast_S_S17664x100 (constant S_ .f32 0x00000000#32) : FVec Ideal S17664x100 .f32) (ix2 r i) = 0 := by
  pointwise

theorem read_v45 (r : Fin 17664) (i : Fin 64) : (res_main_v45 V0 : FVec Ideal S17664x64 .f32) (ix2 r i) = turn (posOf V0 r) (fun j => wide (rowOf V0 r) (4872 + j)) i.val :=
  heads_1 (res_main_v18 V0) (res_main_v32 V0) (res_main_v34 V0) (posOf V0 r) (fun j => wide (rowOf V0 r) (4872 + j)) r (read_v18 V0 r) (read_v32 V0 r) (read_v34 V0 r) i

set_option maxHeartbeats 1600000 in
theorem read_v208 (r : Fin 17664) (q : Fin 5120) : (res_main_v208 V0 : FVec Ideal S17664x5120 .f32) (ix2 r q) = outAt (posOf V0 r) (col (rowOf V0 r)) q.val :=
  sixteen (n := 17664) (posOf V0 r) (rowOf V0 r) r _ _ _ _ _ _ _ _ _ _ _ _ _ _ _ _
    (fun i => heads_8 (res_main_v46 V0) (res_main_v60 V0) (res_main_v62 V0) (posOf V0 r) (fun j => wide (rowOf V0 r) (0 + j)) r (read_v46 V0 r) (read_v60 V0 r) (read_v62 V0 r) i)
    (fun i => heads_8 (res_main_v78 V0) (res_main_v92 V0) (res_main_v94 V0) (posOf V0 r) (fun j => wide (rowOf V0 r) (512 + j)) r (read_v78 V0 r) (read_v92 V0 r) (read_v94 V0 r) i)
    (fun i => Eq.trans (b := (res_main_v3 V0 : FVec Ideal S17664x8012 .f32) (ix2 r ⟨1024 + i.val, by omega⟩)) (slice_1024 _ r i) (read_wide V0 r (1024 + i.val) (by omega)))
    (fun i => Eq.trans (b := (res_main_v3 V0 : FVec Ideal S17664x8012 .f32) (ix2 r ⟨1536 + i.val, by omega⟩)) (slice_1536 _ r i) (read_wide V0 r (1536 + i.val) (by omega)))
    (fun i => Eq.trans (b := (res_main_v3 V0 : FVec Ideal S17664x8012 .f32) (ix2 r ⟨2048 + i.val, by omega⟩)) (slice_2048 _ r i) (read_wide V0 r (2048 + i.val) (by omega)))
    (fun i => Eq.trans (b := (res_main_v3 V0 : FVec Ideal S17664x8012 .f32) (ix2 r ⟨2560 + i.val, by omega⟩)) (slice_2560 _ r i) (read_wide V0 r (2560 + i.val) (by omega)))
    (fun i => heads_8 (res_main_v110 V0) (res_main_v124 V0) (res_main_v126 V0) (posOf V0 r) (fun j => wide (rowOf V0 r) (3080 + j)) r (read_v110 V0 r) (read_v124 V0 r) (read_v126 V0 r) i)
    (fun i => heads_8 (res_main_v142 V0) (res_main_v156 V0) (res_main_v158 V0) (posOf V0 r) (fun j => wide (rowOf V0 r) (3592 + j)) r (read_v142 V0 r) (read_v156 V0 r) (read_v158 V0 r) i)
    (fun i => Eq.trans (b := (res_main_v3 V0 : FVec Ideal S17664x8012 .f32) (ix2 r ⟨4104 + i.val, by omega⟩)) (slice_4104 _ r i) (read_wide V0 r (4104 + i.val) (by omega)))
    (fun i => heads_4 (res_main_v174 V0) (res_main_v188 V0) (res_main_v190 V0) (posOf V0 r) (fun j => wide (rowOf V0 r) (4616 + j)) r (read_v174 V0 r) (read_v188 V0 r) (read_v190 V0 r) i)
    (read_v45 V0 r)
    (read_v45 V0 r)
    (zeros_16 r)
    (fun i => Eq.trans (b := (res_main_v3 V0 : FVec Ideal S17664x8012 .f32) (ix2 r ⟨3072 + i.val, by omega⟩)) (slice_3072 _ r i) (read_wide V0 r (3072 + i.val) (by omega)))
    (fun i => Eq.trans (b := (res_main_v3 V0 : FVec Ideal S17664x8012 .f32) (ix2 r ⟨4936 + i.val, by omega⟩)) (slice_4936 _ r i) (read_wide V0 r (4936 + i.val) (by omega)))
    (zeros_100 r) _ q

theorem v209_eq : (res_main_v209 V0 : S17664x5120.Idx → EReal) = res_main_v208 V0 := rfl

/-- The array that both results hold. -/
def table (x : FVec Ideal S17664x1024 .f32) (p : Vec Ideal S17664 .i32) (w : FVec Ideal S1024x8012 .f32) (b : FVec Ideal S8012 .f32) : S17664x5120.Idx → EReal := fun i =>
  whole (fun r k => x (ix2 r k)) (fun r => p (ix1 r)) (fun k j => w (ix2 k j)) (fun j => b (ix1 j)) (i 0) (i 1)

theorem v208_eq : (res_main_v208 V0 : S17664x5120.Idx → EReal)
    = table (V0 (Proc.devRef .tc main_arg0)) (V0 (Proc.devRef .tc main_arg1)) (V0 (Proc.devRef .tc main_arg2)) (V0 (Proc.devRef .tc main_arg3)) := by
  funext i
  obtain ⟨r, q, rfl⟩ : ∃ (r : Fin 17664) (q : Fin 5120), i = (ix2 r q : S17664x5120.Idx) :=
    ⟨_, _, eq_ix2 (n0 := 17664) (n1 := 5120) i⟩
  exact read_v208 V0 r q

theorem v208_launch (m : (ℓ : Loc nD τ sig) → Buf (Elt Ideal) ℓ) (c : Dev nD) : (res_main_v208 (launchContents m c) : S17664x5120.Idx → EReal)
    = table (m ((c.tc : Thread nD τ).loc main_arg0)) (m ((c.tc : Thread nD τ).loc main_arg1)) (m ((c.tc : Thread nD τ).loc main_arg2)) (m ((c.tc : Thread nD τ).loc main_arg3)) :=
  v208_eq (launchContents m c)

theorem v209_launch (m : (ℓ : Loc nD τ sig) → Buf (Elt Ideal) ℓ) (c : Dev nD) : (res_main_v209 (launchContents m c) : S17664x5120.Idx → EReal)
    = table (m ((c.tc : Thread nD τ).loc main_arg0)) (m ((c.tc : Thread nD τ).loc main_arg1)) (m ((c.tc : Thread nD τ).loc main_arg2)) (m ((c.tc : Thread nD τ).loc main_arg3)) :=
  (v209_eq (launchContents m c)).trans (v208_launch m c)

/-- What the reference leaves in its results. -/
theorem run_plain (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c.tc : Thread nD τ).loc main_v208)
        = table (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v209)
        = table (m ((c.tc : Thread nD τ).loc main_arg0)) (m ((c.tc : Thread nD τ).loc main_arg1)) (m ((c.tc : Thread nD τ).loc main_arg2)) (m ((c.tc : Thread nD τ).loc main_arg3)) :=
  (θ_run _ _ _).mono (fun r h c => ⟨(h c).1.trans (v208_launch m c), (h c).2.1.trans (v209_launch m c)⟩) (Cert.ProjPlainIdeal.Value.run (F := Ideal) m ρ)

end Cert.ColumnsPlain

end
-- ==== Proof.lean ====
/- The claims of the statement: for each of the four calls, the frames of its three programs, that the idealized
   kernel is the kernel's own text, and that over the extended reals the kernel computes the reference's arrays. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Norm
public import proofs.«01_k».proof.Proof.Gen.NormIdeal
public import proofs.«01_k».proof.Proof.Gen.NormPlainIdeal
public import proofs.«01_k».proof.Proof.Gen.Gates
public import proofs.«01_k».proof.Proof.Gen.GatesIdeal
public import proofs.«01_k».proof.Proof.Gen.GatesPlainIdeal
public import proofs.«01_k».proof.Proof.Gen.Norm.Frame
public import proofs.«01_k».proof.Proof.Gen.NormIdeal.Frame
public import proofs.«01_k».proof.Proof.Gen.NormIdeal.Value
public import proofs.«01_k».proof.Proof.Gen.NormPlainIdeal.Run
public import proofs.«01_k».proof.Proof.Gen.Gates.Frame
public import proofs.«01_k».proof.Proof.Gen.GatesIdeal.Frame
public import proofs.«01_k».proof.Proof.Gen.GatesIdeal.Value
public import proofs.«01_k».proof.Proof.Gen.GatesPlainIdeal.Run
public import proofs.«01_k».proof.Proof.Gen.Proj
public import proofs.«01_k».proof.Proof.Gen.ProjIdeal
public import proofs.«01_k».proof.Proof.Gen.ProjPlainIdeal
public import proofs.«01_k».proof.Proof.Gen.Proj.Launch
public import proofs.«01_k».proof.Proof.Gen.ProjIdeal.Launch
public import proofs.«01_k».proof.Proof.Gen.ProjPlainIdeal.Run
public import proofs.«01_k».proof.Proof.Launch
public import proofs.«01_k».proof.Proof.Same
public import proofs.«01_k».proof.Proof.Agree
public import proofs.«01_k».proof.Proof.Norm
public import proofs.«01_k».proof.Proof.Gates
public import proofs.«01_k».proof.Proof.ProjSame
public import proofs.«01_k».proof.Proof.ProjValues
public import proofs.«01_k».proof.Proof.ProjPlainValues
public import Idealize.ShloMosaic.Adequacy
public import Idealize.ShloMosaic.Init

@[expose] public section

noncomputable section

namespace Cert.Proof

open Idealize.ShloMosaic Idealize.SL.Sem

theorem frame_kernel_ideal : Cert.quiescent_KernelIdeal (hKernelIdeal := Cert.KernelIdeal.Gen.facts) :=
  fun m ρ _ => Cert.Moe.frame_any m ρ

theorem frame_reference : Cert.quiescent_ReferenceIdeal (hReferenceIdeal := Cert.ReferenceIdeal.Gen.facts) :=
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem facts_pre : Cert.Pre_gate_nonneg.Facts := ⟨by decide⟩

theorem values : Cert.algebraic_KernelIdeal_ReferenceIdeal_pre_gate_nonneg (hKernelIdeal := Cert.KernelIdeal.Gen.facts) (hReferenceIdeal := Cert.ReferenceIdeal.Gen.facts) (hPre_gate_nonneg := facts_pre) := by
  intro m g m' g' hm hargs
  have h0 := @Cert.Moe.gates_nonneg facts_pre m hm
  refine ⟨fun c => Cert.Moe.mixture (Cert.Moe.argX m c) (Cert.Moe.argGate m c) (Cert.Moe.argW1 m c) (Cert.Moe.argB1 m c) (Cert.Moe.argW2 m c) (Cert.Moe.argB2 m c), ?_, ?_⟩
  · exact (θ_run _ _ _).mono (fun r h c => ⟨h.1 c, h.2.1 c⟩) (θ_run_and (Cert.Moe.run_kernel m g h0) (Cert.Moe.frame_any m g))
  · refine (θ_run _ _ _).mono (fun r h c => ⟨(h.1 c).trans ?_, h.2.1 c⟩) (θ_run_and (Cert.Moe.run_plain m' g') (frame_reference m' g' trivial))
    obtain ⟨e0, e1, e2, e3, e4, e5⟩ := hargs c
    rw [e0, e1, e2, e3, e4, e5]
    exact Cert.Moe.plain_eq _ _ _ _ _ _

theorem frame_norm_plain : Cert.quiescent_NormPlainIdeal (hNormPlainIdeal := Cert.NormPlainIdeal.Gen.facts) :=
  fun m ρ _ => (θ_run Cert.NormPlainIdeal.defs _ _).mono (fun r h => ⟨fun c => (h c).2, Idealize.ShloMosaic.sem_eq_zero_of_no_sems (by decide) r.2⟩)
    (Cert.NormPlainIdeal.Value.run (F := Ideal) m ρ)

theorem frame_gates_plain : Cert.quiescent_GatesPlainIdeal (hGatesPlainIdeal := Cert.GatesPlainIdeal.Gen.facts) :=
  fun m ρ _ => (θ_run Cert.GatesPlainIdeal.defs _ _).mono (fun r h => ⟨fun c => (h c).2, Idealize.ShloMosaic.sem_eq_zero_of_no_sems (by decide) r.2⟩)
    (Cert.GatesPlainIdeal.Value.run (F := Ideal) m ρ)

theorem values_norm : Cert.algebraic_NormIdeal_NormPlainIdeal (hNormIdeal := Cert.NormIdeal.Gen.facts) (hNormPlainIdeal := Cert.NormPlainIdeal.Gen.facts) := by
  intro m g m' g' hm hargs
  refine ⟨fun c => Cert.LastNorm.result m c, Cert.LastNorm.run_kernel m g, ?_⟩
  refine (θ_run _ _ _).mono (fun r h c => ⟨(h c).1.trans ?_, (h c).2⟩) (Cert.LastNorm.run_plain m' g')
  obtain ⟨e0, e1, e2, e3⟩ := hargs c
  rw [e0, e1, e2, e3]
  rfl

theorem values_gates : Cert.algebraic_GatesIdeal_GatesPlainIdeal (hGatesIdeal := Cert.GatesIdeal.Gen.facts) (hGatesPlainIdeal := Cert.GatesPlainIdeal.Gen.facts) := by
  intro m g m' g' hm hargs
  refine ⟨fun c => Cert.BranchGates.result m c, Cert.BranchGates.run_kernel m g, ?_⟩
  refine (θ_run _ _ _).mono (fun r h c => ⟨(h c).1.trans ?_, (h c).2⟩) (Cert.BranchGates.run_plain m' g')
  obtain ⟨e0, e1, e2⟩ := hargs c
  rw [e0, e1, e2]
  rfl

theorem frame_proj_ideal : Cert.quiescent_ProjIdeal (hProjIdeal := Cert.ProjIdeal.Gen.facts) :=
  fun m ρ _ => Cert.Columns.frame_any m ρ

theorem frame_proj_plain : Cert.quiescent_ProjPlainIdeal (hProjPlainIdeal := Cert.ProjPlainIdeal.Gen.facts) :=
  fun m ρ _ => (θ_run Cert.ProjPlainIdeal.defs _ _).mono (fun r h => ⟨fun c => (h c).2.2, Idealize.ShloMosaic.sem_eq_zero_of_no_sems (by decide) r.2⟩)
    (Cert.ProjPlainIdeal.Value.run (F := Ideal) m ρ)

theorem values_proj : Cert.algebraic_ProjIdeal_ProjPlainIdeal (hProjIdeal := Cert.ProjIdeal.Gen.facts) (hProjPlainIdeal := Cert.ProjPlainIdeal.Gen.facts) := by
  intro m g m' g' hm hargs
  refine ⟨fun c => Cert.Columns.result m c, fun c => Cert.Columns.result m c, ?_, ?_⟩
  · exact (θ_run _ _ _).mono (fun r h c => ⟨(h.1 c).1, (h.1 c).2, h.2.1 c⟩) (θ_run_and (Cert.Columns.run_kernel m g) (Cert.Columns.frame_any m g))
  · refine (θ_run _ _ _).mono (fun r h c => ⟨(h.1 c).1.trans ?_, (h.1 c).2.trans ?_, h.2.1 c⟩) (θ_run_and (Cert.ColumnsPlain.run_plain m' g') (frame_proj_plain m' g' trivial))
    all_goals
      obtain ⟨e0, e1, e2, e3⟩ := hargs c
      rw [e0, e1, e2, e3]
      rfl

theorem claim : Cert.Claim := ⟨Cert.Kernel.Gen.facts, Cert.KernelIdeal.Gen.facts, Cert.ReferenceIdeal.Gen.facts,
  Cert.Norm.Gen.facts, Cert.NormIdeal.Gen.facts, Cert.NormPlainIdeal.Gen.facts,
  Cert.Gates.Gen.facts, Cert.GatesIdeal.Gen.facts, Cert.GatesPlainIdeal.Gen.facts,
  Cert.Proj.Gen.facts, Cert.ProjIdeal.Gen.facts, Cert.ProjPlainIdeal.Gen.facts, facts_pre,
  Cert.Moe.frame_kernel, frame_kernel_ideal, fun m ρ _ => Cert.Moe.frame_any m ρ, frame_reference, fun m ρ _ => frame_reference m ρ trivial,
  fun m ρ _ => Cert.Norm.Gen.frame m ρ, fun m ρ _ => Cert.NormIdeal.Gen.frame m ρ, frame_norm_plain,
  fun m ρ _ => Cert.Gates.Gen.frame m ρ, fun m ρ _ => Cert.GatesIdeal.Gen.frame m ρ, frame_gates_plain,
  Cert.Columns.frame_kernel, frame_proj_ideal, frame_proj_plain,
  trivial, values, trivial, values_norm, trivial, values_gates, trivial, values_proj⟩

end Cert.Proof

end
